-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x4096 : Shape := ⟨2, ![12, 4096]⟩
abbrev S12 : Shape := ⟨1, ![12]⟩
abbrev S4096x32000 : Shape := ⟨2, ![4096, 32000]⟩
abbrev S32000 : Shape := ⟨1, ![32000]⟩
abbrev S12x2048 : Shape := ⟨2, ![12, 2048]⟩
abbrev S12x20 : Shape := ⟨2, ![12, 20]⟩
abbrev S250x128 : Shape := ⟨2, ![250, 128]⟩
abbrev S1x12 : Shape := ⟨2, ![1, 12]⟩
abbrev S12x32000 : Shape := ⟨2, ![12, 32000]⟩
abbrev S8x4096x1280 : Shape := ⟨3, ![8, 4096, 1280]⟩
abbrev S32x4096 : Shape := ⟨2, ![32, 4096]⟩
abbrev S16x128 : Shape := ⟨2, ![16, 128]⟩
abbrev S256x16x128 : Shape := ⟨3, ![256, 16, 128]⟩
abbrev S4x16x128 : Shape := ⟨3, ![4, 16, 128]⟩
abbrev S8 : Shape := ⟨1, ![8]⟩
abbrev S5 : Shape := ⟨1, ![5]⟩
abbrev S4 : Shape := ⟨1, ![4]⟩
abbrev S6 : Shape := ⟨1, ![6]⟩
abbrev S1 : Shape := ⟨1, ![1]⟩
abbrev S_ : Shape := ⟨0, ![]⟩
abbrev S1x4096x1280 : Shape := ⟨3, ![1, 4096, 1280]⟩
abbrev S4096x1280 : Shape := ⟨2, ![4096, 1280]⟩
abbrev S1x16x128 : Shape := ⟨3, ![1, 16, 128]⟩
abbrev S20x4096 : Shape := ⟨2, ![20, 4096]⟩
abbrev S256x4x128 : Shape := ⟨3, ![256, 4, 128]⟩
abbrev S1x2048 : Shape := ⟨2, ![1, 2048]⟩
abbrev S256x2048 : Shape := ⟨2, ![256, 2048]⟩
abbrev S128x2048 : Shape := ⟨2, ![128, 2048]⟩
abbrev S256x128 : Shape := ⟨2, ![256, 128]⟩
abbrev S256x1x128 : Shape := ⟨3, ![256, 1, 128]⟩
abbrev S32x1280 : Shape := ⟨2, ![32, 1280]⟩
abbrev S1x4096x256 : Shape := ⟨3, ![1, 4096, 256]⟩
abbrev S4096x256 : Shape := ⟨2, ![4096, 256]⟩
abbrev S16x1280 : Shape := ⟨2, ![16, 1280]⟩
abbrev S1x128 : Shape := ⟨2, ![1, 128]⟩
abbrev S12x128 : Shape := ⟨2, ![12, 128]⟩
abbrev S16x128x1 : Shape := ⟨3, ![16, 128, 1]⟩
abbrev S12x1280 : Shape := ⟨2, ![12, 1280]⟩
abbrev S32x256 : Shape := ⟨2, ![32, 256]⟩
abbrev S16x256 : Shape := ⟨2, ![16, 256]⟩
abbrev S16 : Shape := ⟨1, ![16]⟩
abbrev S16x1 : Shape := ⟨2, ![16, 1]⟩
abbrev S128 : Shape := ⟨1, ![128]⟩

abbrev nBuf : Space → Nat
  | .hbm => 15
  | .vmem => 16
  | .smem => 6
  | _ => 0

abbrev bufTy : (tb : Table) → Fin (tcTables nBuf tb) → BufTy
  | .hbm, ⟨0, _⟩ => ⟨S12x4096, .fp8e4m3⟩
  | .hbm, ⟨1, _⟩ => ⟨S12, .f32⟩
  | .hbm, ⟨2, _⟩ => ⟨S4096x32000, .fp8e4m3⟩
  | .hbm, ⟨3, _⟩ => ⟨S32000, .f32⟩
  | .hbm, ⟨4, _⟩ => ⟨S12x2048, .i32⟩
  | .hbm, ⟨5, _⟩ => ⟨S12, .i32⟩
  | .hbm, ⟨6, _⟩ => ⟨S12, .i32⟩
  | .hbm, ⟨7, _⟩ => ⟨S12, .f32⟩
  | .hbm, ⟨8, _⟩ => ⟨S12, .f32⟩
  | .hbm, ⟨9, _⟩ => ⟨S12, .f32⟩
  | .hbm, ⟨10, _⟩ => ⟨S12x20, .i32⟩
  | .hbm, ⟨11, _⟩ => ⟨S250x128, .f32⟩
  | .hbm, ⟨12, _⟩ => ⟨S1x12, .f32⟩
  | .hbm, ⟨13, _⟩ => ⟨S12x20, .f32⟩
  | .hbm, ⟨14, _⟩ => ⟨S12x32000, .f32⟩
  | .local _ .vmem, ⟨0, _⟩ => ⟨S1x12, .f32⟩
  | .local _ .vmem, ⟨1, _⟩ => ⟨S12x20, .f32⟩
  | .local _ .vmem, ⟨2, _⟩ => ⟨S8x4096x1280, .fp8e4m3⟩
  | .local _ .vmem, ⟨3, _⟩ => ⟨S12x4096, .fp8e4m3⟩
  | .local _ .vmem, ⟨4, _⟩ => ⟨S32x4096, .fp8e4m3⟩
  | .local _ .vmem, ⟨5, _⟩ => ⟨S250x128, .f32⟩
  | .local _ .vmem, ⟨6, _⟩ => ⟨S12x2048, .i32⟩
  | .local _ .vmem, ⟨7, _⟩ => ⟨S12x20, .i32⟩
  | .local _ .vmem, ⟨8, _⟩ => ⟨S16x128, .i32⟩
  | .local _ .vmem, ⟨9, _⟩ => ⟨S16x128, .i32⟩
  | .local _ .vmem, ⟨10, _⟩ => ⟨S256x16x128, .f32⟩
  | .local _ .vmem, ⟨11, _⟩ => ⟨S12x32000, .f32⟩
  | .local _ .vmem, ⟨12, _⟩ => ⟨S4x16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | .local _ .smem, ⟨0, _⟩ => ⟨S12, .f32⟩
  | .local _ .smem, ⟨1, _⟩ => ⟨S12, .i32⟩
  | .local _ .smem, ⟨2, _⟩ => ⟨S12, .i32⟩
  | .local _ .smem, ⟨3, _⟩ => ⟨S12, .f32⟩
  | .local _ .smem, ⟨4, _⟩ => ⟨S12, .f32⟩
  | .local _ .smem, ⟨5, _⟩ => ⟨S12, .f32⟩
  | _, _ => ⟨S12x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch17 : Ref sig .tc := ⟨.vmem, 13, rfl⟩
abbrev cc0_scratch18 : Ref sig .tc := ⟨.vmem, 14, rfl⟩
abbrev cc0_scratch19 : Ref sig .tc := ⟨.vmem, 15, rfl⟩
abbrev cc0_scratch11 : Ref sig .tc := ⟨.smem, 0, rfl⟩
abbrev cc0_scratch12 : Ref sig .tc := ⟨.smem, 1, rfl⟩
abbrev cc0_scratch13 : Ref sig .tc := ⟨.smem, 2, rfl⟩
abbrev cc0_scratch14 : Ref sig .tc := ⟨.smem, 3, rfl⟩
abbrev cc0_scratch15 : Ref sig .tc := ⟨.smem, 4, rfl⟩
abbrev cc0_scratch16 : Ref sig .tc := ⟨.smem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_mult1 : BitVec 32 :=
  let c0_i32_4 : BitVec 32 := 0#32
  c0_i32_4
def k0_mult2 : BitVec 32 :=
  let c1280_i32 : BitVec 32 := 1280#32
  c1280_i32
def k0_mult3 : BitVec 32 :=
  let c2560_i32 : BitVec 32 := 2560#32
  c2560_i32
def k0_mult4 : BitVec 32 :=
  let c3840_i32 : BitVec 32 := 3840#32
  c3840_i32
def k0_mult5 : BitVec 32 :=
  let c5120_i32 : BitVec 32 := 5120#32
  c5120_i32
def k0_mult6 : BitVec 32 :=
  let c6400_i32 : BitVec 32 := 6400#32
  c6400_i32
def k0_mult7 : BitVec 32 :=
  let c7680_i32 : BitVec 32 := 7680#32
  c7680_i32
def k0_mult8 : BitVec 32 :=
  let c8960_i32 : BitVec 32 := 8960#32
  c8960_i32
@[reducible] def k0_t1_loop : Scf.Loop 32 :=
  let c0_i32_179 : BitVec 32 := 0#32
  let c12_i32 : BitVec 32 := 12#32
  let v392 : BitVec 32 := Scalar.addi c0_i32_179 c12_i32
  let c1_i32_180 : BitVec 32 := 1#32
  ⟨c0_i32_179, v392, c1_i32_180⟩
def k0_off1 (k0_t1 : Fin k0_t1_loop.trips) : Fin 2 → Nat :=
  let c0_i32_179 : BitVec 32 := 0#32
  let c1_i32_180 : BitVec 32 := 1#32
  let arg39 : BitVec 32 := Scf.iv c0_i32_179 c1_i32_180 k0_t1
  let v1037 : Index := Scalar.indexCast arg39
  let c0_509 : Index := 0#32
  ![v1037.toNat, 0]
def k0_off2 (k0_t1 : Fin k0_t1_loop.trips) : Fin 1 → Nat :=
  let c0_i32_179 : BitVec 32 := 0#32
  let c1_i32_180 : BitVec 32 := 1#32
  let arg39 : BitVec 32 := Scf.iv c0_i32_179 c1_i32_180 k0_t1
  let v1039 : Index := Scalar.indexCast arg39
  ![v1039.toNat]
def k0_off3 (k0_t1 : Fin k0_t1_loop.trips) : Fin 3 → Nat :=
  let c0_519 : Index := 0#32
  let c0_i32_179 : BitVec 32 := 0#32
  let c1_i32_180 : BitVec 32 := 1#32
  let arg39 : BitVec 32 := Scf.iv c0_i32_179 c1_i32_180 k0_t1
  let v1071 : Index := Scalar.indexCast arg39
  let c0_520 : Index := 0#32
  ![0, v1071.toNat, 0]
@[reducible] def k0_t2_loop : Scf.Loop 32 :=
  let c0_i32_182 : BitVec 32 := 0#32
  let c24_i32 : BitVec 32 := 24#32
  let v393 : BitVec 32 := Scalar.addi c0_i32_182 c24_i32
  let c1_i32_183 : BitVec 32 := 1#32
  ⟨c0_i32_182, v393, c1_i32_183⟩
def k0_mult9 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c1280_i32_510 : BitVec 32 := 1280#32
  let v1038 : BitVec 32 := Scalar.muli arg39 c1280_i32_510
  v1038
def k0_off4 (k0_t2 : Fin k0_t2_loop.trips) : Fin 1 → Nat :=
  let c0_i32_182 : BitVec 32 := 0#32
  let c1_i32_183 : BitVec 32 := 1#32
  let arg39 : BitVec 32 := Scf.iv c0_i32_182 c1_i32_183 k0_t2
  let c8_i32_509 : BitVec 32 := 8#32
  let v1037 : BitVec 32 := Scalar.remsi arg39 c8_i32_509
  ![v1037.toNat]
def k0_off5 (k0_t2 : Fin k0_t2_loop.trips) : Fin 3 → Nat :=
  let c0_i32_182 : BitVec 32 := 0#32
  let c1_i32_183 : BitVec 32 := 1#32
  let arg39 : BitVec 32 := Scf.iv c0_i32_182 c1_i32_183 k0_t2
  let c8_i32_509 : BitVec 32 := 8#32
  let v1037 : BitVec 32 := Scalar.remsi arg39 c8_i32_509
  let c0_i32_511 : BitVec 32 := 0#32
  let c0_i32_512 : BitVec 32 := 0#32
  ![v1037.toNat, 0, 0]
def k0_off6 (k0_t2 : Fin k0_t2_loop.trips) : Fin 2 → Nat :=
  let c0_i32_513 : BitVec 32 := 0#32
  let c0_i32_182 : BitVec 32 := 0#32
  let c1_i32_183 : BitVec 32 := 1#32
  let arg39 : BitVec 32 := Scf.iv c0_i32_182 c1_i32_183 k0_t2
  let c1280_i32_510 : BitVec 32 := 1280#32
  let v1038 : BitVec 32 := Scalar.muli arg39 c1280_i32_510
  let v1039 : BitVec 32 := v1038
  ![0, v1039.toNat]
def k0_off7 (k0_t2 : Fin k0_t2_loop.trips) : Fin 3 → Nat :=
  let c0_i32_182 : BitVec 32 := 0#32
  let c1_i32_183 : BitVec 32 := 1#32
  let arg39 : BitVec 32 := Scf.iv c0_i32_182 c1_i32_183 k0_t2
  let c8_i32_509 : BitVec 32 := 8#32
  let v1037 : BitVec 32 := Scalar.remsi arg39 c8_i32_509
  let v1046 : Index := Scalar.indexCast v1037
  let c0_516 : Index := 0#32
  let c0_517 : Index := 0#32
  ![v1046.toNat, 0, 0]
def k0_cond1 (k0_t2 : Fin k0_t2_loop.trips) : BitVec 1 :=
  let c0_i32_182 : BitVec 32 := 0#32
  let c1_i32_183 : BitVec 32 := 1#32
  let arg39 : BitVec 32 := Scf.iv c0_i32_182 c1_i32_183 k0_t2
  let c8_i32_519 : BitVec 32 := 8#32
  let v1050 : BitVec 32 := Scalar.addi arg39 c8_i32_519
  let c24_i32_520 : BitVec 32 := 24#32
  let v1051 : BitVec 1 := Scalar.cmpi .slt v1050 c24_i32_520
  let v1052 : BitVec 32 := Scalar.extui v1051
  let c0_i32_521 : BitVec 32 := 0#32
  let v1053 : BitVec 1 := Scalar.cmpi .ne v1052 c0_i32_521
  v1053

def k0_mult10 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c8_i32_519 : BitVec 32 := 8#32
  let v1050 : BitVec 32 := Scalar.addi arg39 c8_i32_519
  let c1280_i32_706 : BitVec 32 := 1280#32
  let v1599 : BitVec 32 := Scalar.muli v1050 c1280_i32_706
  v1599
def k0_off8 (k0_t2 : Fin k0_t2_loop.trips) : Fin 1 → Nat :=
  let c0_i32_182 : BitVec 32 := 0#32
  let c1_i32_183 : BitVec 32 := 1#32
  let arg39 : BitVec 32 := Scf.iv c0_i32_182 c1_i32_183 k0_t2
  let c8_i32_509 : BitVec 32 := 8#32
  let v1037 : BitVec 32 := Scalar.remsi arg39 c8_i32_509
  ![v1037.toNat]
def k0_off9 (k0_t2 : Fin k0_t2_loop.trips) : Fin 3 → Nat :=
  let c0_i32_182 : BitVec 32 := 0#32
  let c1_i32_183 : BitVec 32 := 1#32
  let arg39 : BitVec 32 := Scf.iv c0_i32_182 c1_i32_183 k0_t2
  let c8_i32_509 : BitVec 32 := 8#32
  let v1037 : BitVec 32 := Scalar.remsi arg39 c8_i32_509
  let c0_i32_707 : BitVec 32 := 0#32
  let c0_i32_708 : BitVec 32 := 0#32
  ![v1037.toNat, 0, 0]
def k0_off10 (k0_t2 : Fin k0_t2_loop.trips) : Fin 2 → Nat :=
  let c0_i32_709 : BitVec 32 := 0#32
  let c0_i32_182 : BitVec 32 := 0#32
  let c1_i32_183 : BitVec 32 := 1#32
  let arg39 : BitVec 32 := Scf.iv c0_i32_182 c1_i32_183 k0_t2
  let c8_i32_519 : BitVec 32 := 8#32
  let v1050 : BitVec 32 := Scalar.addi arg39 c8_i32_519
  let c1280_i32_706 : BitVec 32 := 1280#32
  let v1599 : BitVec 32 := Scalar.muli v1050 c1280_i32_706
  let v1600 : BitVec 32 := v1599
  ![0, v1600.toNat]
def k0_off11 (k0_t2 : Fin k0_t2_loop.trips) (c0_i32_543 : BitVec 32) : Fin 2 → Nat :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let v1072 : BitVec 32 := Scalar.addi v1058 c0_i32_543
  let v1073 : Index := Scalar.indexCast v1072
  let c0_544 : Index := 0#32
  ![v1073.toNat, 0]
def k0_off12 (k0_t2 : Fin k0_t2_loop.trips) (c0_i32_545 : BitVec 32) : Fin 3 → Nat :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let v1077 : BitVec 32 := Scalar.addi v1058 c0_i32_545
  let v1078 : Index := Scalar.indexCast v1077
  let c0_546 : Index := 0#32
  let c0_547 : Index := 0#32
  ![v1078.toNat, 0, 0]
def k0_mult11 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let c0_i32_552 : BitVec 32 := 0#32
  let v1097 : BitVec 32 := Scalar.addi v1058 c0_i32_552
  let c128_i32_553 : BitVec 32 := 128#32
  let v1098 : BitVec 32 := Scalar.muli v1097 c128_i32_553
  v1098
def k0_off13 (k0_t2 : Fin k0_t2_loop.trips) (c0_i32_552 : BitVec 32) : Fin 2 → Nat :=
  let c0_554 : Index := 0#32
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let v1097 : BitVec 32 := Scalar.addi v1058 c0_i32_552
  let c128_i32_553 : BitVec 32 := 128#32
  let v1098 : BitVec 32 := Scalar.muli v1097 c128_i32_553
  let v1099 : BitVec 32 := v1098
  let v1101 : Index := Scalar.indexCast v1099
  ![0, v1101.toNat]
def k0_mult12 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let c1_i32_567 : BitVec 32 := 1#32
  let v1144 : BitVec 32 := Scalar.addi v1058 c1_i32_567
  let c128_i32_568 : BitVec 32 := 128#32
  let v1145 : BitVec 32 := Scalar.muli v1144 c128_i32_568
  v1145
def k0_mult13 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let c2_i32_582 : BitVec 32 := 2#32
  let v1191 : BitVec 32 := Scalar.addi v1058 c2_i32_582
  let c128_i32_583 : BitVec 32 := 128#32
  let v1192 : BitVec 32 := Scalar.muli v1191 c128_i32_583
  v1192
def k0_mult14 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let c3_i32_597 : BitVec 32 := 3#32
  let v1238 : BitVec 32 := Scalar.addi v1058 c3_i32_597
  let c128_i32_598 : BitVec 32 := 128#32
  let v1239 : BitVec 32 := Scalar.muli v1238 c128_i32_598
  v1239
def k0_mult15 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let c4_i32_612 : BitVec 32 := 4#32
  let v1285 : BitVec 32 := Scalar.addi v1058 c4_i32_612
  let c128_i32_613 : BitVec 32 := 128#32
  let v1286 : BitVec 32 := Scalar.muli v1285 c128_i32_613
  v1286
def k0_mult16 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let c5_i32_627 : BitVec 32 := 5#32
  let v1332 : BitVec 32 := Scalar.addi v1058 c5_i32_627
  let c128_i32_628 : BitVec 32 := 128#32
  let v1333 : BitVec 32 := Scalar.muli v1332 c128_i32_628
  v1333
def k0_mult17 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let c6_i32_642 : BitVec 32 := 6#32
  let v1379 : BitVec 32 := Scalar.addi v1058 c6_i32_642
  let c128_i32_643 : BitVec 32 := 128#32
  let v1380 : BitVec 32 := Scalar.muli v1379 c128_i32_643
  v1380
def k0_mult18 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let c7_i32_657 : BitVec 32 := 7#32
  let v1426 : BitVec 32 := Scalar.addi v1058 c7_i32_657
  let c128_i32_658 : BitVec 32 := 128#32
  let v1427 : BitVec 32 := Scalar.muli v1426 c128_i32_658
  v1427
def k0_mult19 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let c8_i32_672 : BitVec 32 := 8#32
  let v1473 : BitVec 32 := Scalar.addi v1058 c8_i32_672
  let c128_i32_673 : BitVec 32 := 128#32
  let v1474 : BitVec 32 := Scalar.muli v1473 c128_i32_673
  v1474
def k0_mult20 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c10_i32_524 : BitVec 32 := 10#32
  let v1058 : BitVec 32 := Scalar.muli arg39 c10_i32_524
  let c9_i32_687 : BitVec 32 := 9#32
  let v1520 : BitVec 32 := Scalar.addi v1058 c9_i32_687
  let c128_i32_688 : BitVec 32 := 128#32
  let v1521 : BitVec 32 := Scalar.muli v1520 c128_i32_688
  v1521
def k0_cond3 (k0_t2 : Fin k0_t2_loop.trips) : BitVec 1 :=
  let c0_i32_182 : BitVec 32 := 0#32
  let c1_i32_183 : BitVec 32 := 1#32
  let arg39 : BitVec 32 := Scf.iv c0_i32_182 c1_i32_183 k0_t2
  let c0_i32_704 : BitVec 32 := 0#32
  let v1596 : BitVec 1 := Scalar.cmpi .sgt arg39 c0_i32_704
  let v1597 : BitVec 32 := Scalar.extui v1596
  let c0_i32_705 : BitVec 32 := 0#32
  let v1598 : BitVec 1 := Scalar.cmpi .ne v1597 c0_i32_705
  v1598

def k0_mult21 (k0_t2 : Fin k0_t2_loop.trips) : BitVec 32 :=
  let c0_i32_182 : BitVec 32 := 0#32
  let c1_i32_183 : BitVec 32 := 1#32
  let arg39 : BitVec 32 := Scf.iv c0_i32_182 c1_i32_183 k0_t2
  let c1_i32_706 : BitVec 32 := 1#32
  let v1599 : BitVec 32 := Scalar.subi arg39 c1_i32_706
  let c1280_i32_707 : BitVec 32 := 1280#32
  let v1600 : BitVec 32 := Scalar.muli v1599 c1280_i32_707
  v1600
def k0_off14 (k0_t2 : Fin k0_t2_loop.trips) : Fin 2 → Nat :=
  let c0_i32_709 : BitVec 32 := 0#32
  let c0_i32_182 : BitVec 32 := 0#32
  let c1_i32_183 : BitVec 32 := 1#32
  let arg39 : BitVec 32 := Scf.iv c0_i32_182 c1_i32_183 k0_t2
  let c1_i32_706 : BitVec 32 := 1#32
  let v1599 : BitVec 32 := Scalar.subi arg39 c1_i32_706
  let c1280_i32_707 : BitVec 32 := 1280#32
  let v1600 : BitVec 32 := Scalar.muli v1599 c1280_i32_707
  let v1601 : BitVec 32 := v1600
  ![0, v1601.toNat]
def k0_mult22 : BitVec 32 :=
  let c29440_i32 : BitVec 32 := 29440#32
  c29440_i32
def k0_mult23 : BitVec 32 :=
  let c30720_i32_489 : BitVec 32 := 30720#32
  c30720_i32_489
@[reducible] def k0_t3_loop : Scf.Loop 32 :=
  let c0_i32_507 : BitVec 32 := 0#32
  let c25_i32 : BitVec 32 := 25#32
  let v1036 : BitVec 32 := Scalar.addi c0_i32_507 c25_i32
  let c1_i32_508 : BitVec 32 := 1#32
  ⟨c0_i32_507, v1036, c1_i32_508⟩
def k0_mult24 : BitVec 32 :=
  let c0_i32_509 : BitVec 32 := 0#32
  c0_i32_509
abbrev stage0_0 : Fin 1 → Memref sig .tc .vmem S1x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S12x4096 : Shape := ⟨2, ![12, 4096]⟩
abbrev S12 : Shape := ⟨1, ![12]⟩
abbrev S4096x32000 : Shape := ⟨2, ![4096, 32000]⟩
abbrev S32000 : Shape := ⟨1, ![32000]⟩
abbrev S12x2048 : Shape := ⟨2, ![12, 2048]⟩
abbrev S12x20 : Shape := ⟨2, ![12, 20]⟩
abbrev S2048 : Shape := ⟨1, ![2048]⟩
abbrev S1x2048 : Shape := ⟨2, ![1, 2048]⟩
abbrev S12x1 : Shape := ⟨2, ![12, 1]⟩
abbrev S12x2048x1 : Shape := ⟨3, ![12, 2048, 1]⟩
abbrev S1x1x32000 : Shape := ⟨3, ![1, 1, 32000]⟩
abbrev S12x2048x32000 : Shape := ⟨3, ![12, 2048, 32000]⟩
abbrev S_ : Shape := ⟨0, ![]⟩
abbrev S12x32000 : Shape := ⟨2, ![12, 32000]⟩
abbrev S1x32000 : Shape := ⟨2, ![1, 32000]⟩

abbrev nBuf : Space → Nat
  | .hbm => 66
  | .vmem => 11
  | .smem => 0
  | _ => 0

abbrev bufTy : (tb : Table) → Fin (tcTables nBuf tb) → BufTy
  | .hbm, ⟨0, _⟩ => ⟨S12x4096, .fp8e4m3⟩
  | .hbm, ⟨1, _⟩ => ⟨S12, .f32⟩
  | .hbm, ⟨2, _⟩ => ⟨S4096x32000, .fp8e4m3⟩
  | .hbm, ⟨3, _⟩ => ⟨S32000, .f32⟩
  | .hbm, ⟨4, _⟩ => ⟨S12x2048, .i32⟩
  | .hbm, ⟨5, _⟩ => ⟨S12, .i32⟩
  | .hbm, ⟨6, _⟩ => ⟨S12, .i32⟩
  | .hbm, ⟨7, _⟩ => ⟨S12, .f32⟩
  | .hbm, ⟨8, _⟩ => ⟨S12, .f32⟩
  | .hbm, ⟨9, _⟩ => ⟨S12, .f32⟩
  | .hbm, ⟨10, _⟩ => ⟨S12x20, .i32⟩
  | .hbm, ⟨11, _⟩ => ⟨S2048, .i32⟩
  | .hbm, ⟨12, _⟩ => ⟨S1x2048, .i32⟩
  | .hbm, ⟨13, _⟩ => ⟨S12x1, .i32⟩
  | .hbm, ⟨14, _⟩ => ⟨S12x2048, .i32⟩
  | .hbm, ⟨15, _⟩ => ⟨S12x2048, .i32⟩
  | .hbm, ⟨16, _⟩ => ⟨S12x2048, .i1⟩
  | .hbm, ⟨17, _⟩ => ⟨S1x2048, .i32⟩
  | .hbm, ⟨18, _⟩ => ⟨S12x1, .i32⟩
  | .hbm, ⟨19, _⟩ => ⟨S12x2048, .i32⟩
  | .hbm, ⟨20, _⟩ => ⟨S12x2048, .i32⟩
  | .hbm, ⟨21, _⟩ => ⟨S12x2048, .i1⟩
  | .hbm, ⟨22, _⟩ => ⟨S12x2048, .i1⟩
  | .hbm, ⟨23, _⟩ => ⟨S12x2048x1, .i32⟩
  | .hbm, ⟨24, _⟩ => ⟨S32000, .i32⟩
  | .hbm, ⟨25, _⟩ => ⟨S1x1x32000, .i32⟩
  | .hbm, ⟨26, _⟩ => ⟨S12x2048x32000, .i32⟩
  | .hbm, ⟨27, _⟩ => ⟨S12x2048x32000, .i32⟩
  | .hbm, ⟨28, _⟩ => ⟨S12x2048x32000, .i1⟩
  | .hbm, ⟨29, _⟩ => ⟨S12x2048x1, .i1⟩
  | .hbm, ⟨30, _⟩ => ⟨S12x2048x32000, .i1⟩
  | .hbm, ⟨31, _⟩ => ⟨S12x2048x32000, .i1⟩
  | .hbm, ⟨32, _⟩ => ⟨S_, .f32⟩
  | .hbm, ⟨33, _⟩ => ⟨S_, .f32⟩
  | .hbm, ⟨34, _⟩ => ⟨S12x2048x32000, .f32⟩
  | .hbm, ⟨35, _⟩ => ⟨S12x2048x32000, .f32⟩
  | .hbm, ⟨36, _⟩ => ⟨S12x2048x32000, .f32⟩
  | .hbm, ⟨37, _⟩ => ⟨S12x2048x32000, .f32⟩
  | .hbm, ⟨38, _⟩ => ⟨S_, .f32⟩
  | .hbm, ⟨39, _⟩ => ⟨S12x32000, .f32⟩
  | .hbm, ⟨40, _⟩ => ⟨S12x2048x1, .i1⟩
  | .hbm, ⟨41, _⟩ => ⟨S12x2048x32000, .i1⟩
  | .hbm, ⟨42, _⟩ => ⟨S12x2048x32000, .i1⟩
  | .hbm, ⟨43, _⟩ => ⟨S_, .f32⟩
  | .hbm, ⟨44, _⟩ => ⟨S_, .f32⟩
  | .hbm, ⟨45, _⟩ => ⟨S12x2048x32000, .f32⟩
  | .hbm, ⟨46, _⟩ => ⟨S12x2048x32000, .f32⟩
  | .hbm, ⟨47, _⟩ => ⟨S12x2048x32000, .f32⟩
  | .hbm, ⟨48, _⟩ => ⟨S12x2048x32000, .f32⟩
  | .hbm, ⟨49, _⟩ => ⟨S_, .f32⟩
  | .hbm, ⟨50, _⟩ => ⟨S12x32000, .f32⟩
  | .hbm, ⟨51, _⟩ => ⟨S_, .f32⟩
  | .hbm, ⟨52, _⟩ => ⟨S12x32000, .f32⟩
  | .hbm, ⟨53, _⟩ => ⟨S12x32000, .i1⟩
  | .hbm, ⟨54, _⟩ => ⟨S_, .f32⟩
  | .hbm, ⟨55, _⟩ => ⟨S_, .f32⟩
  | .hbm, ⟨56, _⟩ => ⟨S12x32000, .f32⟩
  | .hbm, ⟨57, _⟩ => ⟨S12x32000, .f32⟩
  | .hbm, ⟨58, _⟩ => ⟨S12x32000, .f32⟩
  | .hbm, ⟨59, _⟩ => ⟨S12x32000, .f32⟩
  | .hbm, ⟨60, _⟩ => ⟨S12x1, .f32⟩
  | .hbm, ⟨61, _⟩ => ⟨S1x32000, .f32⟩
  | .hbm, ⟨62, _⟩ => ⟨S12x1, .f32⟩
  | .hbm, ⟨63, _⟩ => ⟨S12x1, .f32⟩
  | .hbm, ⟨64, _⟩ => ⟨S12x1, .f32⟩
  | .hbm, ⟨65, _⟩ => ⟨S12x32000, .f32⟩
  | .local _ .vmem, ⟨0, _⟩ => ⟨S12x4096, .fp8e4m3⟩
  | .local _ .vmem, ⟨1, _⟩ => ⟨S4096x32000, .fp8e4m3⟩
  | .local _ .vmem, ⟨2, _⟩ => ⟨S12x1, .f32⟩
  | .local _ .vmem, ⟨3, _⟩ => ⟨S1x32000, .f32⟩
  | .local _ .vmem, ⟨4, _⟩ => ⟨S12x32000, .f32⟩
  | .local _ .vmem, ⟨5, _⟩ => ⟨S12x32000, .f32⟩
  | .local _ .vmem, ⟨6, _⟩ => ⟨S12x32000, .f32⟩
  | .local _ .vmem, ⟨7, _⟩ => ⟨S12x1, .f32⟩
  | .local _ .vmem, ⟨8, _⟩ => ⟨S12x1, .f32⟩
  | .local _ .vmem, ⟨9, _⟩ => ⟨S12x1, .f32⟩
  | .local _ .vmem, ⟨10, _⟩ => ⟨S12x32000, .f32⟩
  | _, _ => ⟨S12x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_cst_7 : Ref sig .tc := ⟨.hbm, 55, rfl⟩
abbrev main_call2_v0 : Ref sig .tc := ⟨.hbm, 56, rfl⟩
abbrev main_call2_v1 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x32000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x32000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x32000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Names.lean ====
/-
  The names the body's slices go by: column block `b` of the weights, ring slot `s`, the five column windows of the
  tail, column slab `b` of the logits (in VMEM and in the result), and the cells they are copied on. Each printed
  slice is one of these names (`@[sl_canon]`), its offset a closed form of the trip.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra: the pipeline library's cells beside the counters the kernel's own transfers ride on. -/
abbrev UU (nD : Nat) (τ : Topo) : Type := UR sig nD τ × Counters
abbrev EP : Emb (UR sig nD τ) (MT nD τ sig Unit (Elt F) ℕ (UU nD τ) ℕ) := embL
abbrev 𝒱₀ : Variants := Variants.none

/-! ## The arrays -/

abbrev xM : Memref sig .tc .hbm S12x4096 .fp8e4m3 := Memref.whole main_arg0
abbrev wM : Memref sig .tc .hbm S4096x32000 .fp8e4m3 := Memref.whole main_arg2
abbrev wsM : Memref sig .tc .hbm S250x128 .f32 := Memref.whole main_v0
abbrev idsM : Memref sig .tc .hbm S12x2048 .i32 := Memref.whole main_arg4
abbrev candM : Memref sig .tc .hbm S12x20 .i32 := Memref.whole main_arg10
abbrev xsM : Memref sig .tc .hbm S12 .f32 := Memref.whole main_arg1
abbrev hlM : Memref sig .tc .hbm S12 .i32 := Memref.whole main_arg5
abbrev plM : Memref sig .tc .hbm S12 .i32 := Memref.whole main_arg6
abbrev prM : Memref sig .tc .hbm S12 .f32 := Memref.whole main_arg7
abbrev frM : Memref sig .tc .hbm S12 .f32 := Memref.whole main_arg8
abbrev rpM : Memref sig .tc .hbm S12 .f32 := Memref.whole main_arg9
abbrev outM : Memref sig .tc .hbm S12x32000 .f32 := Memref.whole main_v1_2
abbrev wbM : Memref sig .tc .vmem S8x4096x1280 .fp8e4m3 := Memref.whole cc0_scratch0
abbrev xrM : Memref sig .tc .vmem S12x4096 .fp8e4m3 := Memref.whole cc0_scratch1
abbrev xpM : Memref sig .tc .vmem S32x4096 .fp8e4m3 := Memref.whole cc0_scratch2
abbrev wcM : Memref sig .tc .vmem S250x128 .f32 := Memref.whole cc0_scratch3
abbrev idM : Memref sig .tc .vmem S12x2048 .i32 := Memref.whole cc0_scratch4
abbrev cdM : Memref sig .tc .vmem S12x20 .i32 := Memref.whole cc0_scratch5
abbrev clM : Memref sig .tc .vmem S16x128 .i32 := Memref.whole cc0_scratch6
abbrev chM : Memref sig .tc .vmem S16x128 .i32 := Memref.whole cc0_scratch7
abbrev hiM : Memref sig .tc .vmem S256x16x128 .f32 := Memref.whole cc0_scratch8
abbrev zM : Memref sig .tc .vmem S12x32000 .f32 := Memref.whole cc0_scratch9
abbrev cfM : Memref sig .tc .vmem S4x16x128 .f32 := Memref.whole cc0_scratch10
abbrev sxM : Memref sig .tc .smem S12 .f32 := Memref.whole cc0_scratch11
abbrev shM : Memref sig .tc .smem S12 .i32 := Memref.whole cc0_scratch12
abbrev spM : Memref sig .tc .smem S12 .i32 := Memref.whole cc0_scratch13
abbrev srM : Memref sig .tc .smem S12 .f32 := Memref.whole cc0_scratch14
abbrev sfM : Memref sig .tc .smem S12 .f32 := Memref.whole cc0_scratch15
abbrev seM : Memref sig .tc .smem S12 .f32 := Memref.whole cc0_scratch16
abbrev rmM : Memref sig .tc .vmem S16x128 .f32 := Memref.whole cc0_scratch17
abbrev rsM : Memref sig .tc .vmem S16x128 .f32 := Memref.whole cc0_scratch18
abbrev pkM : Memref sig .tc .vmem S16x128 .f32 := Memref.whole cc0_scratch19

/-! ## Blocks, slots, windows and cells -/

abbrev wOff (b : Fin 24) : Fin 2 → Nat := ![0, b.val * 1280]
theorem wOff_inb (b : Fin 24) : ∀ a, wOff b a + S4096x1280.size a ≤ S4096x32000.size a := by
  have := b.isLt; intro a; fin_cases a
  · show 0 + 4096 ≤ 4096; omega
  · show b.val * 1280 + 1280 ≤ 32000; omega
abbrev tOff (p : Fin 5) : Fin 2 → Nat := ![0, 30720 + p.val * 256]
theorem tOff_inb (p : Fin 5) : ∀ a, tOff p a + S4096x256.size a ≤ S4096x32000.size a := by
  have := p.isLt; intro a; fin_cases a
  · show 0 + 4096 ≤ 4096; omega
  · show 30720 + p.val * 256 + 256 ≤ 32000; omega
abbrev slotOff (s : Fin 8) : Fin 3 → Nat := ![s.val, 0, 0]
theorem slotOff_inb (s : Fin 8) : ∀ a, slotOff s a + S1x4096x1280.size a ≤ S8x4096x1280.size a := by
  have := s.isLt; intro a; fin_cases a
  · show s.val + 1 ≤ 8; omega
  · show 0 + 4096 ≤ 4096; omega
  · show 0 + 1280 ≤ 1280; omega
abbrev colOff (p : Fin 5) : Fin 3 → Nat := ![0, 0, p.val * 256]
theorem colOff_inb (p : Fin 5) : ∀ a, colOff p a + S1x4096x256.size a ≤ S8x4096x1280.size a := by
  have := p.isLt; intro a; fin_cases a
  · show 0 + 1 ≤ 8; omega
  · show 0 + 4096 ≤ 4096; omega
  · show p.val * 256 + 256 ≤ 1280; omega
abbrev zOff (b : Fin 25) : Fin 2 → Nat := ![0, b.val * 1280]
theorem zOff_inb (b : Fin 25) : ∀ a, zOff b a + S12x1280.size a ≤ S12x32000.size a := by
  have := b.isLt; intro a; fin_cases a
  · show 0 + 12 ≤ 12; omega
  · show b.val * 1280 + 1280 ≤ 32000; omega
abbrev semOff (s : Fin 8) : Fin 1 → Nat := ![s.val]
theorem semOff_inb (s : Fin 8) : ∀ a, semOff s a + S1.size a ≤ S8.size a := by
  have := s.isLt; intro a; fin_cases a; show s.val + 1 ≤ 8; omega
abbrev tsemOff (p : Fin 5) : Fin 1 → Nat := ![p.val]
theorem tsemOff_inb (p : Fin 5) : ∀ a, tsemOff p a + S1.size a ≤ S5.size a := by
  have := p.isLt; intro a; fin_cases a; show p.val + 1 ≤ 5; omega

/-- Columns `1280 b … 1280 b + 1279` of the weights. -/
def wblk (b : Fin 24) : Memref sig .tc .hbm S4096x1280 .fp8e4m3 :=
  wM.slice (Rect.unit (s := S4096x32000) (wOff b) S4096x1280.size (wOff_inb b)) (fun _ => rfl)
/-- Tail window `p` of the weights: columns `30720 + 256 p …`. -/
def wtl (p : Fin 5) : Memref sig .tc .hbm S4096x256 .fp8e4m3 :=
  wM.slice (Rect.unit (s := S4096x32000) (tOff p) S4096x256.size (tOff_inb p)) (fun _ => rfl)
/-- Slot `s` of the weight ring. -/
def wslot (s : Fin 8) : Memref sig .tc .vmem S4096x1280 .fp8e4m3 :=
  (wbM.slice (Rect.unit (s := S8x4096x1280) (slotOff s) S1x4096x1280.size (slotOff_inb s)) (fun _ => rfl)).squeeze S4096x1280 squeezes_S1x4096x1280_S4096x1280
/-- Column window `p` of slot 0, which the tail windows land in. -/
def wcol (p : Fin 5) : Memref sig .tc .vmem S4096x256 .fp8e4m3 :=
  (wbM.slice (Rect.unit (s := S8x4096x1280) (colOff p) S1x4096x256.size (colOff_inb p)) (fun _ => rfl)).squeeze S4096x256 squeezes_S1x4096x256_S4096x256
/-- Column slab `b` of the logits in VMEM. -/
def zslab (b : Fin 25) : Memref sig .tc .vmem S12x1280 .f32 :=
  zM.slice (Rect.unit (s := S12x32000) (zOff b) S12x1280.size (zOff_inb b)) (fun _ => rfl)
/-- Column slab `b` of the result. -/
def oslab (b : Fin 25) : Memref sig .tc .hbm S12x1280 .f32 :=
  outM.slice (Rect.unit (s := S12x32000) (zOff b) S12x1280.size (zOff_inb b)) (fun _ => rfl)
/-- Slot `s`'s cell. -/
def csm (s : Fin 8) : DmaSems sig S_ := (cc0_scratch20.slice (Rect.unit (s := S8) (semOff s) S1.size (semOff_inb s))).squeeze S_ squeezes_S1_S_
/-- Tail window `p`'s cell. -/
def tsm (p : Fin 5) : DmaSems sig S_ := (cc0_scratch21.slice (Rect.unit (s := S5) (tsemOff p) S1.size (tsemOff_inb p))).squeeze S_ squeezes_S1_S_
/-- The result copies' one cell. -/
def osm : DmaSems sig S_ := (cc0_scratch24.slice (Rect.unit (s := S1) ![0] S1.size inb_S1_S1_0)).squeeze S_ squeezes_S1_S_

instance (s : Fin 8) : ClosedOff (slotOff s) := ⟨slotOff s, rfl⟩
instance (b : Fin 24) : ClosedOff (wOff b) := ⟨wOff b, rfl⟩
instance (b : Fin 25) : ClosedOff (zOff b) := ⟨zOff b, rfl⟩
instance (p : Fin 5) : ClosedOff (tOff p) := ⟨tOff p, rfl⟩
instance (p : Fin 5) : ClosedOff (colOff p) := ⟨colOff p, rfl⟩

/-! ## The trip's chains in closed form -/

section Chain
open Affine

theorem trips2 : k0_t2_loop.trips = 24 := by decide
theorem trips3 : k0_t3_loop.trips = 25 := by decide
theorem trips1 : k0_t1_loop.trips = 12 := by decide
theorem lt24 (k : Fin k0_t2_loop.trips) : k.val < 24 := Nat.lt_of_lt_of_eq k.isLt trips2

theorem isInt_iv (k : Fin k0_t2_loop.trips) : IsInt (Scf.iv 0#32 1#32 k.val) k.val := by
  have := lt24 k
  exact iv (e := k.val) (ofNat (e := 0) 0 ⟨rfl, by decide⟩) (ofNat (e := 1) 1 ⟨rfl, by decide⟩) k.val ⟨by omega, by omega, by omega⟩
theorem isInt_rem (k : Fin k0_t2_loop.trips) : IsInt (Scalar.remsi (Scf.iv 0#32 1#32 k.val) 8#32) (k.val % 8 : Nat) :=
  remsi (e := (k.val % 8 : Nat)) (isInt_iv k) (ofNat (e := 8) 8 ⟨rfl, by decide⟩) ⟨by omega, by omega, by omega⟩
theorem isInt_mul (k : Fin k0_t2_loop.trips) : IsInt (Scalar.muli (Scf.iv 0#32 1#32 k.val) 1280#32) (k.val * 1280 : Nat) := by
  have := lt24 k
  exact muli (e := (k.val * 1280 : Nat)) (isInt_iv k) (ofNat (e := 1280) 1280 ⟨rfl, by decide⟩) ⟨by push_cast; omega, by omega, by omega⟩
theorem isInt_add8 (k : Fin k0_t2_loop.trips) : IsInt (Scalar.addi (Scf.iv 0#32 1#32 k.val) 8#32) (k.val + 8 : Nat) := by
  have := lt24 k
  exact addi (e := (k.val + 8 : Nat)) (isInt_iv k) (ofNat (e := 8) 8 ⟨rfl, by decide⟩) ⟨by push_cast; omega, by omega, by omega⟩
theorem isInt_mul8 (k : Fin k0_t2_loop.trips) : IsInt (Scalar.muli (Scalar.addi (Scf.iv 0#32 1#32 k.val) 8#32) 1280#32) ((k.val + 8) * 1280 : Nat) := by
  have := lt24 k
  exact muli (e := ((k.val + 8) * 1280 : Nat)) (isInt_add8 k) (ofNat (e := 1280) 1280 ⟨rfl, by decide⟩) ⟨by push_cast; omega, by omega, by omega⟩
theorem isInt_sub (k : Fin k0_t2_loop.trips) (hk : 0 < k.val) : IsInt (Scalar.subi (Scf.iv 0#32 1#32 k.val) 1#32) (k.val - 1 : Nat) := by
  have := lt24 k
  exact subi (e := (k.val - 1 : Nat)) (isInt_iv k) (ofNat (e := 1) 1 ⟨rfl, by decide⟩) ⟨by omega, by omega, by omega⟩
theorem isInt_subm (k : Fin k0_t2_loop.trips) (hk : 0 < k.val) : IsInt (Scalar.muli (Scalar.subi (Scf.iv 0#32 1#32 k.val) 1#32) 1280#32) ((k.val - 1) * 1280 : Nat) := by
  have := lt24 k
  exact muli (e := ((k.val - 1) * 1280 : Nat)) (isInt_sub k hk) (ofNat (e := 1280) 1280 ⟨rfl, by decide⟩) ⟨by push_cast; omega, by omega, by omega⟩

theorem off4_eq (k : Fin k0_t2_loop.trips) : k0_off4 k = semOff (Ring.sl 8 k.val) :=
  vec_cons (isInt_rem k) (by simp [Ring.sl, Fin.ofNat]) vec_nil
theorem off5_eq (k : Fin k0_t2_loop.trips) : k0_off5 k = slotOff (Ring.sl 8 k.val) :=
  vec_cons (isInt_rem k) (by simp [Ring.sl, Fin.ofNat]) rfl
theorem off7_eq (k : Fin k0_t2_loop.trips) : k0_off7 k = slotOff (Ring.sl 8 k.val) :=
  vec_cons (indexCast (isInt_rem k)) (by simp [Ring.sl, Fin.ofNat]) rfl
theorem off8_eq (k : Fin k0_t2_loop.trips) : k0_off8 k = semOff (Ring.sl 8 k.val) :=
  vec_cons (isInt_rem k) (by simp [Ring.sl, Fin.ofNat]) vec_nil
theorem off9_eq (k : Fin k0_t2_loop.trips) : k0_off9 k = slotOff (Ring.sl 8 k.val) :=
  vec_cons (isInt_rem k) (by simp [Ring.sl, Fin.ofNat]) rfl
theorem off6_eq (k : Fin k0_t2_loop.trips) : k0_off6 k = wOff (Ring.bk 24 k.val) := by
  refine congrArg (Matrix.vecCons 0) (vec_cons (isInt_mul k) ?_ vec_nil)
  rw [Ring.bk_val (lt24 k)]
theorem off10_eq (k : Fin k0_t2_loop.trips) (hk : k.val + 8 < 24) : k0_off10 k = wOff (Ring.bk 24 (k.val + 8)) := by
  refine congrArg (Matrix.vecCons 0) (vec_cons (isInt_mul8 k) ?_ vec_nil)
  rw [Ring.bk_val hk]
theorem off14_eq (k : Fin k0_t2_loop.trips) (hk : 0 < k.val) : k0_off14 k = zOff (Ring.bk 25 (k.val - 1)) := by
  refine congrArg (Matrix.vecCons 0) (vec_cons (isInt_subm k hk) ?_ vec_nil)
  rw [Ring.bk_val (by have := lt24 k; omega)]

instance (k : Fin k0_t2_loop.trips) : ClosedOff (k0_off5 k) := ⟨slotOff (Ring.sl 8 k.val), off5_eq k⟩
instance (k : Fin k0_t2_loop.trips) : ClosedOff (k0_off7 k) := ⟨slotOff (Ring.sl 8 k.val), off7_eq k⟩

/-- Chunk `j` of trip `k` is chunk `10 k + j` of the logits. -/
theorem isInt_chunk (k : Fin k0_t2_loop.trips) (j : Fin 10) :
    IsInt (Scalar.addi (Scalar.muli (Scf.iv 0#32 1#32 k.val) 10#32) (BitVec.ofNat 32 j.val)) (k.val * 10 + j.val : Nat) := by
  have := lt24 k; have := j.isLt
  exact addi (e := (k.val * 10 + j.val : Nat)) (muli (e := (k.val * 10 : Nat)) (isInt_iv k) (ofNat (e := 10) 10 ⟨rfl, by decide⟩) ⟨by push_cast; omega, by omega, by omega⟩)
    (ofNat (e := j.val) j.val ⟨rfl, by omega⟩) ⟨by push_cast; omega, by omega, by omega⟩
theorem off11_eq (k : Fin k0_t2_loop.trips) (j : Fin 10) : k0_off11 k (BitVec.ofNat 32 j.val) = ![k.val * 10 + j.val, 0] :=
  vec_cons (indexCast (isInt_chunk k j)) rfl rfl
theorem off12_eq (k : Fin k0_t2_loop.trips) (j : Fin 10) : k0_off12 k (BitVec.ofNat 32 j.val) = ![k.val * 10 + j.val, 0, 0] :=
  vec_cons (indexCast (isInt_chunk k j)) rfl rfl
theorem off13_eq (k : Fin k0_t2_loop.trips) (j : Fin 10) : k0_off13 k (BitVec.ofNat 32 j.val) = ![0, (k.val * 10 + j.val) * 128] := by
  have := lt24 k; have := j.isLt
  exact congrArg (Matrix.vecCons 0) (vec_cons (indexCast (muli (e := ((k.val * 10 + j.val) * 128 : Nat)) (isInt_chunk k j) (ofNat (e := 128) 128 ⟨rfl, by decide⟩)
    ⟨by push_cast; omega, by omega, by omega⟩)) rfl vec_nil)

theorem off13_eq' (k : Fin k0_t2_loop.trips) (j : Fin 10) : k0_off13 k (BitVec.ofNat 32 j.val) = ![0, (Ring.bk 25 k.val).val * 1280 + j.val * 128] := by
  rw [off13_eq, Ring.bk_val (by have := lt24 k; omega)]
  exact congrArg (fun n => ![0, n]) (by omega)

instance (k : Fin k0_t2_loop.trips) : ClosedOff (k0_off13 k 0#32) := ⟨![0, (Ring.bk 25 k.val).val * 1280 + 0], off13_eq' k 0⟩
instance (k : Fin k0_t2_loop.trips) : ClosedOff (k0_off13 k 1#32) := ⟨![0, (Ring.bk 25 k.val).val * 1280 + 128], off13_eq' k 1⟩
instance (k : Fin k0_t2_loop.trips) : ClosedOff (k0_off13 k 2#32) := ⟨![0, (Ring.bk 25 k.val).val * 1280 + 256], off13_eq' k 2⟩
instance (k : Fin k0_t2_loop.trips) : ClosedOff (k0_off13 k 3#32) := ⟨![0, (Ring.bk 25 k.val).val * 1280 + 384], off13_eq' k 3⟩
instance (k : Fin k0_t2_loop.trips) : ClosedOff (k0_off13 k 4#32) := ⟨![0, (Ring.bk 25 k.val).val * 1280 + 512], off13_eq' k 4⟩
instance (k : Fin k0_t2_loop.trips) : ClosedOff (k0_off13 k 5#32) := ⟨![0, (Ring.bk 25 k.val).val * 1280 + 640], off13_eq' k 5⟩
instance (k : Fin k0_t2_loop.trips) : ClosedOff (k0_off13 k 6#32) := ⟨![0, (Ring.bk 25 k.val).val * 1280 + 768], off13_eq' k 6⟩
instance (k : Fin k0_t2_loop.trips) : ClosedOff (k0_off13 k 7#32) := ⟨![0, (Ring.bk 25 k.val).val * 1280 + 896], off13_eq' k 7⟩
instance (k : Fin k0_t2_loop.trips) : ClosedOff (k0_off13 k 8#32) := ⟨![0, (Ring.bk 25 k.val).val * 1280 + 1024], off13_eq' k 8⟩
instance (k : Fin k0_t2_loop.trips) : ClosedOff (k0_off13 k 9#32) := ⟨![0, (Ring.bk 25 k.val).val * 1280 + 1152], off13_eq' k 9⟩

end Chain

/-! ## The canonical-name equations -/

section Canon

theorem csm_congr {off : Fin 1 → Nat} {s : Fin 8} (e : off = semOff s) (hh) :
    (cc0_scratch20.slice (Rect.unit (s := S8) off S1.size hh)).squeeze S_ squeezes_S1_S_ = csm s :=
  congrArg (fun A : DmaSems sig S1 => A.squeeze S_ squeezes_S1_S_) (SemArray.slice_unit_congr _ e _ _)
theorem tsm_congr {off : Fin 1 → Nat} {s : Fin 5} (e : off = tsemOff s) (hh) :
    (cc0_scratch21.slice (Rect.unit (s := S5) off S1.size hh)).squeeze S_ squeezes_S1_S_ = tsm s :=
  congrArg (fun A : DmaSems sig S1 => A.squeeze S_ squeezes_S1_S_) (SemArray.slice_unit_congr _ e _ _)
theorem wslot_congr {off : Fin 3 → Nat} {s : Fin 8} (e : off = slotOff s) (hh hs) :
    (wbM.slice (Rect.unit (s := S8x4096x1280) off S1x4096x1280.size hh) hs).squeeze S4096x1280 squeezes_S1x4096x1280_S4096x1280 = wslot s :=
  congrArg (fun M : Memref sig .tc .vmem S1x4096x1280 .fp8e4m3 => M.squeeze S4096x1280 squeezes_S1x4096x1280_S4096x1280) (Memref.slice_unit_congr _ e _ _ _ _)
theorem wcol_congr {off : Fin 3 → Nat} {s : Fin 5} (e : off = colOff s) (hh hs) :
    (wbM.slice (Rect.unit (s := S8x4096x1280) off S1x4096x256.size hh) hs).squeeze S4096x256 squeezes_S1x4096x256_S4096x256 = wcol s :=
  congrArg (fun M : Memref sig .tc .vmem S1x4096x256 .fp8e4m3 => M.squeeze S4096x256 squeezes_S1x4096x256_S4096x256) (Memref.slice_unit_congr _ e _ _ _ _)
theorem wblk_congr {off : Fin 2 → Nat} {b : Fin 24} (e : off = wOff b) (hh hs) :
    wM.slice (Rect.unit (s := S4096x32000) off S4096x1280.size hh) hs = wblk b := Memref.slice_unit_congr _ e _ _ _ (fun _ => rfl)
theorem wtl_congr {off : Fin 2 → Nat} {b : Fin 5} (e : off = tOff b) (hh hs) :
    wM.slice (Rect.unit (s := S4096x32000) off S4096x256.size hh) hs = wtl b := Memref.slice_unit_congr _ e _ _ _ (fun _ => rfl)
theorem zslab_congr {off : Fin 2 → Nat} {b : Fin 25} (e : off = zOff b) (hh hs) :
    zM.slice (Rect.unit (s := S12x32000) off S12x1280.size hh) hs = zslab b := Memref.slice_unit_congr _ e _ _ _ (fun _ => rfl)
theorem oslab_congr {off : Fin 2 → Nat} {b : Fin 25} (e : off = zOff b) (hh hs) :
    outM.slice (Rect.unit (s := S12x32000) off S12x1280.size hh) hs = oslab b := Memref.slice_unit_congr _ e _ _ _ (fun _ => rfl)

/-! The literal slices. -/
@[sl_canon] theorem semL0 (hh) : (cc0_scratch20.slice (Rect.unit (s := S8) ![0] S1.size hh)).squeeze S_ squeezes_S1_S_ = csm 0 := csm_congr (by decide) _
@[sl_canon] theorem slotL0 (hh hs) : (wbM.slice (Rect.unit (s := S8x4096x1280) ![0, 0, 0] S1x4096x1280.size hh) hs).squeeze S4096x1280 squeezes_S1x4096x1280_S4096x1280 = wslot 0 := wslot_congr (by decide) _ _
@[sl_canon] theorem wblkL0 (hh hs) : wM.slice (Rect.unit (s := S4096x32000) ![0, 0] S4096x1280.size hh) hs = wblk 0 := wblk_congr (by decide) _ _
@[sl_canon] theorem semL1 (hh) : (cc0_scratch20.slice (Rect.unit (s := S8) ![1] S1.size hh)).squeeze S_ squeezes_S1_S_ = csm 1 := csm_congr (by decide) _
@[sl_canon] theorem slotL1 (hh hs) : (wbM.slice (Rect.unit (s := S8x4096x1280) ![1, 0, 0] S1x4096x1280.size hh) hs).squeeze S4096x1280 squeezes_S1x4096x1280_S4096x1280 = wslot 1 := wslot_congr (by decide) _ _
@[sl_canon] theorem wblkL1 (hh hs) : wM.slice (Rect.unit (s := S4096x32000) ![0, 1280] S4096x1280.size hh) hs = wblk 1 := wblk_congr (by decide) _ _
@[sl_canon] theorem semL2 (hh) : (cc0_scratch20.slice (Rect.unit (s := S8) ![2] S1.size hh)).squeeze S_ squeezes_S1_S_ = csm 2 := csm_congr (by decide) _
@[sl_canon] theorem slotL2 (hh hs) : (wbM.slice (Rect.unit (s := S8x4096x1280) ![2, 0, 0] S1x4096x1280.size hh) hs).squeeze S4096x1280 squeezes_S1x4096x1280_S4096x1280 = wslot 2 := wslot_congr (by decide) _ _
@[sl_canon] theorem wblkL2 (hh hs) : wM.slice (Rect.unit (s := S4096x32000) ![0, 2560] S4096x1280.size hh) hs = wblk 2 := wblk_congr (by decide) _ _
@[sl_canon] theorem semL3 (hh) : (cc0_scratch20.slice (Rect.unit (s := S8) ![3] S1.size hh)).squeeze S_ squeezes_S1_S_ = csm 3 := csm_congr (by decide) _
@[sl_canon] theorem slotL3 (hh hs) : (wbM.slice (Rect.unit (s := S8x4096x1280) ![3, 0, 0] S1x4096x1280.size hh) hs).squeeze S4096x1280 squeezes_S1x4096x1280_S4096x1280 = wslot 3 := wslot_congr (by decide) _ _
@[sl_canon] theorem wblkL3 (hh hs) : wM.slice (Rect.unit (s := S4096x32000) ![0, 3840] S4096x1280.size hh) hs = wblk 3 := wblk_congr (by decide) _ _
@[sl_canon] theorem semL4 (hh) : (cc0_scratch20.slice (Rect.unit (s := S8) ![4] S1.size hh)).squeeze S_ squeezes_S1_S_ = csm 4 := csm_congr (by decide) _
@[sl_canon] theorem slotL4 (hh hs) : (wbM.slice (Rect.unit (s := S8x4096x1280) ![4, 0, 0] S1x4096x1280.size hh) hs).squeeze S4096x1280 squeezes_S1x4096x1280_S4096x1280 = wslot 4 := wslot_congr (by decide) _ _
@[sl_canon] theorem wblkL4 (hh hs) : wM.slice (Rect.unit (s := S4096x32000) ![0, 5120] S4096x1280.size hh) hs = wblk 4 := wblk_congr (by decide) _ _
@[sl_canon] theorem semL5 (hh) : (cc0_scratch20.slice (Rect.unit (s := S8) ![5] S1.size hh)).squeeze S_ squeezes_S1_S_ = csm 5 := csm_congr (by decide) _
@[sl_canon] theorem slotL5 (hh hs) : (wbM.slice (Rect.unit (s := S8x4096x1280) ![5, 0, 0] S1x4096x1280.size hh) hs).squeeze S4096x1280 squeezes_S1x4096x1280_S4096x1280 = wslot 5 := wslot_congr (by decide) _ _
@[sl_canon] theorem wblkL5 (hh hs) : wM.slice (Rect.unit (s := S4096x32000) ![0, 6400] S4096x1280.size hh) hs = wblk 5 := wblk_congr (by decide) _ _
@[sl_canon] theorem semL6 (hh) : (cc0_scratch20.slice (Rect.unit (s := S8) ![6] S1.size hh)).squeeze S_ squeezes_S1_S_ = csm 6 := csm_congr (by decide) _
@[sl_canon] theorem slotL6 (hh hs) : (wbM.slice (Rect.unit (s := S8x4096x1280) ![6, 0, 0] S1x4096x1280.size hh) hs).squeeze S4096x1280 squeezes_S1x4096x1280_S4096x1280 = wslot 6 := wslot_congr (by decide) _ _
@[sl_canon] theorem wblkL6 (hh hs) : wM.slice (Rect.unit (s := S4096x32000) ![0, 7680] S4096x1280.size hh) hs = wblk 6 := wblk_congr (by decide) _ _
@[sl_canon] theorem semL7 (hh) : (cc0_scratch20.slice (Rect.unit (s := S8) ![7] S1.size hh)).squeeze S_ squeezes_S1_S_ = csm 7 := csm_congr (by decide) _
@[sl_canon] theorem slotL7 (hh hs) : (wbM.slice (Rect.unit (s := S8x4096x1280) ![7, 0, 0] S1x4096x1280.size hh) hs).squeeze S4096x1280 squeezes_S1x4096x1280_S4096x1280 = wslot 7 := wslot_congr (by decide) _ _
@[sl_canon] theorem wblkL7 (hh hs) : wM.slice (Rect.unit (s := S4096x32000) ![0, 8960] S4096x1280.size hh) hs = wblk 7 := wblk_congr (by decide) _ _
@[sl_canon] theorem tsmL0 (hh) : (cc0_scratch21.slice (Rect.unit (s := S5) ![0] S1.size hh)).squeeze S_ squeezes_S1_S_ = tsm 0 := tsm_congr (by decide) _
@[sl_canon] theorem wcolL0 (hh hs) : (wbM.slice (Rect.unit (s := S8x4096x1280) ![0, 0, 0] S1x4096x256.size hh) hs).squeeze S4096x256 squeezes_S1x4096x256_S4096x256 = wcol 0 := wcol_congr (by decide) _ _
@[sl_canon] theorem wtlL0 (hh hs) : wM.slice (Rect.unit (s := S4096x32000) ![0, 30720] S4096x256.size hh) hs = wtl 0 := wtl_congr (by decide) _ _
@[sl_canon] theorem tsmL1 (hh) : (cc0_scratch21.slice (Rect.unit (s := S5) ![1] S1.size hh)).squeeze S_ squeezes_S1_S_ = tsm 1 := tsm_congr (by decide) _
@[sl_canon] theorem wcolL1 (hh hs) : (wbM.slice (Rect.unit (s := S8x4096x1280) ![0, 0, 256] S1x4096x256.size hh) hs).squeeze S4096x256 squeezes_S1x4096x256_S4096x256 = wcol 1 := wcol_congr (by decide) _ _
@[sl_canon] theorem wtlL1 (hh hs) : wM.slice (Rect.unit (s := S4096x32000) ![0, 30976] S4096x256.size hh) hs = wtl 1 := wtl_congr (by decide) _ _
@[sl_canon] theorem tsmL2 (hh) : (cc0_scratch21.slice (Rect.unit (s := S5) ![2] S1.size hh)).squeeze S_ squeezes_S1_S_ = tsm 2 := tsm_congr (by decide) _
@[sl_canon] theorem wcolL2 (hh hs) : (wbM.slice (Rect.unit (s := S8x4096x1280) ![0, 0, 512] S1x4096x256.size hh) hs).squeeze S4096x256 squeezes_S1x4096x256_S4096x256 = wcol 2 := wcol_congr (by decide) _ _
@[sl_canon] theorem wtlL2 (hh hs) : wM.slice (Rect.unit (s := S4096x32000) ![0, 31232] S4096x256.size hh) hs = wtl 2 := wtl_congr (by decide) _ _
@[sl_canon] theorem tsmL3 (hh) : (cc0_scratch21.slice (Rect.unit (s := S5) ![3] S1.size hh)).squeeze S_ squeezes_S1_S_ = tsm 3 := tsm_congr (by decide) _
@[sl_canon] theorem wcolL3 (hh hs) : (wbM.slice (Rect.unit (s := S8x4096x1280) ![0, 0, 768] S1x4096x256.size hh) hs).squeeze S4096x256 squeezes_S1x4096x256_S4096x256 = wcol 3 := wcol_congr (by decide) _ _
@[sl_canon] theorem wtlL3 (hh hs) : wM.slice (Rect.unit (s := S4096x32000) ![0, 31488] S4096x256.size hh) hs = wtl 3 := wtl_congr (by decide) _ _
@[sl_canon] theorem tsmL4 (hh) : (cc0_scratch21.slice (Rect.unit (s := S5) ![4] S1.size hh)).squeeze S_ squeezes_S1_S_ = tsm 4 := tsm_congr (by decide) _
@[sl_canon] theorem wcolL4 (hh hs) : (wbM.slice (Rect.unit (s := S8x4096x1280) ![0, 0, 1024] S1x4096x256.size hh) hs).squeeze S4096x256 squeezes_S1x4096x256_S4096x256 = wcol 4 := wcol_congr (by decide) _ _
@[sl_canon] theorem wtlL4 (hh hs) : wM.slice (Rect.unit (s := S4096x32000) ![0, 31744] S4096x256.size hh) hs = wtl 4 := wtl_congr (by decide) _ _
@[sl_canon] theorem zslabL0 (hh hs) : zM.slice (Rect.unit (s := S12x32000) ![0, 0] S12x1280.size hh) hs = zslab 0 := zslab_congr (by decide) _ _
@[sl_canon] theorem oslabL0 (hh hs) : outM.slice (Rect.unit (s := S12x32000) ![0, 0] S12x1280.size hh) hs = oslab 0 := oslab_congr (by decide) _ _
@[sl_canon] theorem zslabL23 (hh hs) : zM.slice (Rect.unit (s := S12x32000) ![0, 29440] S12x1280.size hh) hs = zslab 23 := zslab_congr (by decide) _ _
@[sl_canon] theorem oslabL23 (hh hs) : outM.slice (Rect.unit (s := S12x32000) ![0, 29440] S12x1280.size hh) hs = oslab 23 := oslab_congr (by decide) _ _
@[sl_canon] theorem zslabL24 (hh hs) : zM.slice (Rect.unit (s := S12x32000) ![0, 30720] S12x1280.size hh) hs = zslab 24 := zslab_congr (by decide) _ _
@[sl_canon] theorem oslabL24 (hh hs) : outM.slice (Rect.unit (s := S12x32000) ![0, 30720] S12x1280.size hh) hs = oslab 24 := oslab_congr (by decide) _ _
@[sl_canon] theorem osmL (hh) : (cc0_scratch24.slice (Rect.unit (s := S1) ![0] S1.size hh)).squeeze S_ squeezes_S1_S_ = osm := rfl

/-! The main loop's trip `k`: slot and cell `k % 8`, block `k` waited for, block `k + 8` issued, slab `k - 1` sent out. -/
@[sl_canon] theorem semK (k : Fin k0_t2_loop.trips) (hh) :
    (cc0_scratch20.slice (Rect.unit (s := S8) (k0_off4 k) S1.size hh)).squeeze S_ squeezes_S1_S_ = csm (Ring.sl 8 k.val) := csm_congr (off4_eq k) _
@[sl_canon] theorem semK' (k : Fin k0_t2_loop.trips) (hh) :
    (cc0_scratch20.slice (Rect.unit (s := S8) (k0_off8 k) S1.size hh)).squeeze S_ squeezes_S1_S_ = csm (Ring.sl 8 k.val) := csm_congr (off8_eq k) _
@[sl_canon] theorem slotK (k : Fin k0_t2_loop.trips) (hh hs) :
    (wbM.slice (Rect.unit (s := S8x4096x1280) (k0_off5 k) S1x4096x1280.size hh) hs).squeeze S4096x1280 squeezes_S1x4096x1280_S4096x1280 = wslot (Ring.sl 8 k.val) := wslot_congr (off5_eq k) _ _
@[sl_canon] theorem slotK' (k : Fin k0_t2_loop.trips) (hh hs) :
    (wbM.slice (Rect.unit (s := S8x4096x1280) (k0_off9 k) S1x4096x1280.size hh) hs).squeeze S4096x1280 squeezes_S1x4096x1280_S4096x1280 = wslot (Ring.sl 8 k.val) := wslot_congr (off9_eq k) _ _
@[sl_canon] theorem wblkW (k : Fin k0_t2_loop.trips) (hh hs) :
    wM.slice (Rect.unit (s := S4096x32000) (k0_off6 k) S4096x1280.size hh) hs = wblk (Ring.bk 24 k.val) := wblk_congr (off6_eq k) _ _
@[sl_canon] theorem wblkI (k : Fin k0_t2_loop.trips) (hk : k.val + 8 < 24) (hh hs) :
    wM.slice (Rect.unit (s := S4096x32000) (k0_off10 k) S4096x1280.size hh) hs = wblk (Ring.bk 24 (k.val + 8)) := wblk_congr (off10_eq k hk) _ _
@[sl_canon] theorem zslabK (k : Fin k0_t2_loop.trips) (hk : 0 < k.val) (hh hs) :
    zM.slice (Rect.unit (s := S12x32000) (k0_off14 k) S12x1280.size hh) hs = zslab (Ring.bk 25 (k.val - 1)) := zslab_congr (off14_eq k hk) _ _
@[sl_canon] theorem oslabK (k : Fin k0_t2_loop.trips) (hk : 0 < k.val) (hh hs) :
    outM.slice (Rect.unit (s := S12x32000) (k0_off14 k) S12x1280.size hh) hs = oslab (Ring.bk 25 (k.val - 1)) := oslab_congr (off14_eq k hk) _ _

end Canon

end Cert.Proof.Kernel
end
-- ==== Proof.Kernel.Pieces.lean ====
/-
  The pieces the main loop's resources are made of: a column block of the weights at home, a ring slot, a block in
  flight into a slot, a slab of the logits, and the batch of the result's copies.
-/
module

public import proofs.«01_k».proof.Proof.Kernel.Names
public import Idealize.ShloMosaic.Lib.Batch

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Pieces

variable (c : Dev nD) (XW : Buf (Elt F) (wM.view.loc (c : Thread nD τ)))

/-- A whole array held at contents `f`. -/
abbrev held {sp : Space} {s : Shape} {e : EltTy} (a : Memref sig .tc sp s e) (f : Buf (Elt F) (a.view.loc (c : Thread nD τ))) : sProp 𝕄 :=
  a.view.loc (c : Thread nD τ) ↦[a.view.set]{fullShare} f

abbrev cellP (s : Fin 8) : sProp 𝕄 := semVal ((c : Thread nD τ), SemLoc.dma (csm s).sem) 0
abbrev tcellP (p : Fin 5) : sProp 𝕄 := semVal ((c : Thread nD τ), SemLoc.dma (tsm p).sem) 0
abbrev slotP (s : Fin 8) (f : Buf (Elt F) ((wslot s).view.loc (c : Thread nD τ))) : sProp 𝕄 :=
  (wslot s).view.loc (c : Thread nD τ) ↦[(wslot s).view.set]{fullShare} f
/-- Block `b` of the weights at home. -/
abbrev homeP (b : Fin 24) : sProp 𝕄 := (wblk b).view.loc (c : Thread nD τ) ↦[(wblk b).view.set]{fullShare} XW
abbrev thomeP (p : Fin 5) : sProp 𝕄 := (wtl p).view.loc (c : Thread nD τ) ↦[(wtl p).view.set]{fullShare} XW
abbrev colP (p : Fin 5) (f : Buf (Elt F) ((wcol p).view.loc (c : Thread nD τ))) : sProp 𝕄 :=
  (wcol p).view.loc (c : Thread nD τ) ↦[(wcol p).view.set]{fullShare} f
/-- What block `b`'s copy leaves in slot `s`. -/
abbrev landed (s : Fin 8) (b : Fin 24) (f : Buf (Elt F) ((wslot s).view.loc (c : Thread nD τ))) : Buf (Elt F) ((wslot s).view.loc (c : Thread nD τ)) :=
  (wslot s).view.writes (Elt F) f [⟨Rect.whole S4096x1280, ReadAs.same.apply ((wblk b).view.read (Elt F) XW)⟩]
abbrev tlanded (p : Fin 5) (f : Buf (Elt F) ((wcol p).view.loc (c : Thread nD τ))) : Buf (Elt F) ((wcol p).view.loc (c : Thread nD τ)) :=
  (wcol p).view.writes (Elt F) f [⟨Rect.whole S4096x256, ReadAs.same.apply ((wtl p).view.read (Elt F) XW)⟩]
/-- Block `b` in flight into slot `s`. -/
abbrev flightP (s : Fin 8) (b : Fin 24) (f : Buf (Elt F) ((wslot s).view.loc (c : Thread nD τ))) : sProp 𝕄 :=
  Transfers.Flight countersEmb (c : Thread nD τ) (SemLoc.dma (csm s).sem) () 163840 iprop(slotP c s (landed c XW s b f) ∗ homeP c XW b)
/-- Tail window `p` in flight into its columns of slot 0. -/
abbrev tflightP (p : Fin 5) (f : Buf (Elt F) ((wcol p).view.loc (c : Thread nD τ))) : sProp 𝕄 :=
  Transfers.Flight countersEmb (c : Thread nD τ) (SemLoc.dma (tsm p).sem) () 32768 iprop(colP c p (tlanded c XW p f) ∗ thomeP c XW p)

/-- Slab `b` of the logits. -/
abbrev zP (b : Fin 25) (f : Buf (Elt F) ((zslab b).view.loc (c : Thread nD τ))) : sProp 𝕄 :=
  (zslab b).view.loc (c : Thread nD τ) ↦[(zslab b).view.set]{fullShare} f
/-- Slab `b` of the result. -/
abbrev oP (b : Fin 25) (f : Buf (Elt F) ((oslab b).view.loc (c : Thread nD τ))) : sProp 𝕄 :=
  (oslab b).view.loc (c : Thread nD τ) ↦[(oslab b).view.set]{fullShare} f
/-- The 25 copies of the result, `j` issued and `u` units waited for. -/
abbrev batchP (j u : ℕ) : sProp 𝕄 :=
  Transfers.Batch countersEmb (c : Thread nD τ) (SemLoc.dma osm.sem) () 1920 (fun b : Fin 25 => iprop((∃ f, oP c (Ring.bk 25 b.val) f) ∗ (∃ g, zP c (Ring.bk 25 b.val) g))) j u

end Pieces

/-- The main loop's region at trip `k` on the body's operands. -/
abbrev tripG (arg11 : Memref sig .tc .vmem S1x12 .f32) (harg11 : arg11.IsWhole) (arg12 : Memref sig .tc .vmem S12x20 .f32) (harg12 : arg12.IsWhole)
    (k : Fin k0_t2_loop.trips) : Prog (TpuEff nD τ sig (Elt F) Λ₀ .tc) Unit :=
  k0_t2_body (F := F) xM (Memref.isWhole_whole _) wM (Memref.isWhole_whole _) wsM (Memref.isWhole_whole _) idsM (Memref.isWhole_whole _) candM (Memref.isWhole_whole _)
    xsM (Memref.isWhole_whole _) hlM (Memref.isWhole_whole _) plM (Memref.isWhole_whole _) prM (Memref.isWhole_whole _) frM (Memref.isWhole_whole _) rpM (Memref.isWhole_whole _)
    arg11 harg11 arg12 harg12 outM (Memref.isWhole_whole _) wbM (Memref.isWhole_whole _) xrM (Memref.isWhole_whole _) xpM (Memref.isWhole_whole _) wcM (Memref.isWhole_whole _)
    idM (Memref.isWhole_whole _) cdM (Memref.isWhole_whole _) clM (Memref.isWhole_whole _) chM (Memref.isWhole_whole _) hiM (Memref.isWhole_whole _) zM (Memref.isWhole_whole _)
    cfM (Memref.isWhole_whole _) sxM (Memref.isWhole_whole _) shM (Memref.isWhole_whole _) spM (Memref.isWhole_whole _) srM (Memref.isWhole_whole _) sfM (Memref.isWhole_whole _)
    seM (Memref.isWhole_whole _) rmM (Memref.isWhole_whole _) rsM (Memref.isWhole_whole _) pkM (Memref.isWhole_whole _)
    cc0_scratch20 cc0_scratch21 cc0_scratch22 cc0_scratch23 cc0_scratch24 k ()

end Cert.Proof.Kernel
end
-- ==== Proof.Kernel.Main.lean ====
/-
  The main loop: its invariant at trip `k`, and one trip.

  Slot `s` holds, before trip `k`, the first block `b ≥ k` with `b ≡ s (mod 8)` in flight, if there is one; else it is
  at rest — but slot 0, from trip 17 on, has the five tail windows in flight into its columns. The blocks not in flight
  are at home. Slab `b` of the logits and of the result are held until trip `b + 1` issues slab `b`'s copy.
-/
module

public import proofs.«01_k».proof.Proof.Kernel.Pieces

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## One or two members of a family changed -/

theorem swap1 {n : ℕ} {Φ Ψ : Fin n → sProp 𝕄} (i : Fin n) (h : ∀ b, b ≠ i → Φ b = Ψ b) :
    bigSep Finset.univ Φ ⊢ iprop(Φ i ∗ (Ψ i -∗ bigSep Finset.univ Ψ)) := by
  rw [bigSep_univ_split i, bigSep_univ_split (Φ := Ψ) i, bigSep_congr (fun b hb => h b (Finset.ne_of_mem_erase hb))]
  show iprop(Φ i ∗ bigSep (Finset.univ.erase i) Ψ) ⊢ iprop(Φ i ∗ (Ψ i -∗ (Ψ i ∗ bigSep (Finset.univ.erase i) Ψ)))
  iintro ⟨H1, H2⟩
  isplitl [H1]; · iexact H1
  iintro H3
  isplitl [H3]; · iexact H3
  iexact H2

theorem swap2 {n : ℕ} {Φ Ψ : Fin n → sProp 𝕄} (i j : Fin n) (hij : j ≠ i) (h : ∀ b, b ≠ i → b ≠ j → Φ b = Ψ b) :
    bigSep Finset.univ Φ ⊢ iprop(Φ i ∗ Φ j ∗ (Ψ i -∗ Ψ j -∗ bigSep Finset.univ Ψ)) := by
  have hj : j ∈ Finset.univ.erase i := Finset.mem_erase.mpr ⟨hij, Finset.mem_univ j⟩
  rw [bigSep_univ_split i, bigSep_univ_split (Φ := Ψ) i, bigSep_erase hj, bigSep_erase (Φ := Ψ) hj,
    bigSep_congr (fun b hb => h b (Finset.ne_of_mem_erase (Finset.mem_of_mem_erase hb)) (Finset.ne_of_mem_erase hb))]
  show iprop(Φ i ∗ Φ j ∗ bigSep ((Finset.univ.erase i).erase j) Ψ) ⊢ iprop(Φ i ∗ Φ j ∗ (Ψ i -∗ Ψ j -∗ (Ψ i ∗ Ψ j ∗ bigSep ((Finset.univ.erase i).erase j) Ψ)))
  iintro ⟨H1, H2, H3⟩
  isplitl [H1]; · iexact H1
  isplitl [H2]; · iexact H2
  iintro H4 H5
  isplitl [H4]; · iexact H4
  isplitl [H5]; · iexact H5
  iexact H3

/-! ## The invariant -/

section Inv

variable (c : Dev nD) (XW : Buf (Elt F) (wM.view.loc (c : Thread nD τ)))

/-- The arrays a trip reads and writes whole. -/
def arrs : sProp 𝕄 :=
  iprop((∃ f, held c xpM f) ∗ (∃ f, held c cfM f) ∗ (∃ f, held c clM f) ∗ (∃ f, held c chM f) ∗ (∃ f, held c wcM f) ∗ (∃ f, held c hiM f)
    ∗ (∃ f, held c pkM f) ∗ (∃ f, held c rmM f) ∗ (∃ f, held c rsM f))
/-- The next block slot `s` holds from trip `k` on. -/
def blk (k s : ℕ) : ℕ := k + (s + 8 - k % 8) % 8
/-- The tail windows in flight into the columns of slot 0. -/
def tflights : sProp 𝕄 :=
  iprop((∃ f, tflightP c XW 0 f) ∗ (∃ f, tflightP c XW 1 f) ∗ (∃ f, tflightP c XW 2 f) ∗ (∃ f, tflightP c XW 3 f) ∗ (∃ f, tflightP c XW 4 f))
/-- The tail windows at home, their cells at rest. -/
def thomes : sProp 𝕄 :=
  iprop(tcellP c 0 ∗ tcellP c 1 ∗ tcellP c 2 ∗ tcellP c 3 ∗ tcellP c 4 ∗ thomeP c XW 0 ∗ thomeP c XW 1 ∗ thomeP c XW 2 ∗ thomeP c XW 3 ∗ thomeP c XW 4)
def slotSt (k : ℕ) (s : Fin 8) : sProp 𝕄 :=
  if blk k s.val < 24 then iprop(∃ f, flightP c XW s (Ring.bk 24 (blk k s.val)) f)
  else iprop(cellP c s ∗ (if s = 0 then tflights c XW else iprop(∃ f, slotP c s f)))
def tailSt (k : ℕ) : sProp 𝕄 := if k ≤ 16 then thomes c XW else iprop(emp)
def homeSt (k : ℕ) (b : Fin 24) : sProp 𝕄 := if b.val < k ∨ k + 8 ≤ b.val then homeP c XW b else iprop(emp)
def zoSt (k : ℕ) (b : Fin 25) : sProp 𝕄 := if k ≤ b.val + 1 then iprop((∃ f, zP c b f) ∗ (∃ f, oP c b f)) else iprop(emp)

/-- Before trip `k` of the main loop. -/
def mainInv (k : ℕ) (_ : Unit) : sProp 𝕄 :=
  iprop(arrs c ∗ (∃ W, owes (c : Thread nD τ) 0 W) ∗ batchP c (k - 1) 0 ∗ bigSep Finset.univ (slotSt c XW k) ∗ bigSep Finset.univ (homeSt c XW k)
    ∗ tailSt c XW k ∗ bigSep Finset.univ (zoSt c k))

/-! ### What a trip changes -/

theorem sl_val (k : ℕ) : (Ring.sl 8 k).val = k % 8 := rfl
theorem blk_here (k : ℕ) : blk k (Ring.sl 8 k).val = k := by rw [sl_val]; unfold blk; omega
theorem blk_next (k : ℕ) : blk (k + 1) (Ring.sl 8 k).val = k + 8 := by rw [sl_val]; unfold blk; omega
theorem blk_other (k : ℕ) (s : Fin 8) (h : s ≠ Ring.sl 8 k) : blk k s.val = blk (k + 1) s.val := by
  have h' : s.val ≠ k % 8 := fun e => h (Fin.ext e)
  have := s.isLt; unfold blk; omega

theorem slot_here (k : ℕ) (hk : k < 24) : slotSt c XW k (Ring.sl 8 k) = iprop(∃ f, flightP c XW (Ring.sl 8 k) (Ring.bk 24 k) f) := by
  unfold slotSt; rw [blk_here, if_pos hk]
theorem slot_issued (k : ℕ) (hk : k + 8 < 24) : slotSt c XW (k + 1) (Ring.sl 8 k) = iprop(∃ f, flightP c XW (Ring.sl 8 k) (Ring.bk 24 (k + 8)) f) := by
  unfold slotSt; rw [blk_next, if_pos hk]
theorem slot_tail (k : ℕ) (hk : k = 16) : slotSt c XW (k + 1) (Ring.sl 8 k) = iprop(cellP c (Ring.sl 8 k) ∗ tflights c XW) := by
  unfold slotSt; rw [blk_next, if_neg (by omega), if_pos (by subst hk; rfl)]
theorem slot_rest (k : ℕ) (hk : 16 < k) (hk' : k < 24) : slotSt c XW (k + 1) (Ring.sl 8 k) = iprop(cellP c (Ring.sl 8 k) ∗ ∃ f, slotP c (Ring.sl 8 k) f) := by
  unfold slotSt; rw [blk_next, if_neg (by omega), if_neg (fun e => by have := congrArg Fin.val e; rw [sl_val] at this; simp at this; omega)]
theorem slots_open (k : ℕ) : bigSep Finset.univ (slotSt c XW k) ⊢ iprop(slotSt c XW k (Ring.sl 8 k) ∗ (slotSt c XW (k + 1) (Ring.sl 8 k) -∗ bigSep Finset.univ (slotSt c XW (k + 1)))) :=
  swap1 _ fun s hs => by unfold slotSt; rw [blk_other k s hs]

theorem homes_issue (k : ℕ) (hk : k + 8 < 24) :
    bigSep Finset.univ (homeSt c XW k) ⊢ iprop(homeP c XW (Ring.bk 24 (k + 8)) ∗ (homeP c XW (Ring.bk 24 k) -∗ bigSep Finset.univ (homeSt c XW (k + 1)))) := by
  have e1 := Ring.bk_val (NB := 24) (k := k) (by omega)
  have e2 := Ring.bk_val (NB := 24) (k := k + 8) hk
  iintro H
  ihave H := (swap2 (Ψ := homeSt c XW (k + 1)) (Ring.bk 24 k) (Ring.bk 24 (k + 8)) (fun e => by have := congrArg Fin.val e; omega) (fun b h1 h2 => by
    have h1' : b.val ≠ k := fun e => h1 (Fin.ext (e.trans e1.symm))
    have h2' : b.val ≠ k + 8 := fun e => h2 (Fin.ext (e.trans e2.symm))
    unfold homeSt; exact if_congr (by omega) rfl rfl)) $$ H
  simp only [homeSt, e1, e2]
  rw [if_neg (by omega), if_pos (by omega), if_pos (by omega), if_neg (by omega)]
  icases H with ⟨-, H2, Hk⟩
  isplitl [H2]; · iexact H2
  iintro H1
  iapply Hk $$ H1
  iempintro
theorem homes_last (k : ℕ) (hk : 24 ≤ k + 8) (hk' : k < 24) :
    bigSep Finset.univ (homeSt c XW k) ⊢ iprop(homeP c XW (Ring.bk 24 k) -∗ bigSep Finset.univ (homeSt c XW (k + 1))) := by
  have e1 := Ring.bk_val (NB := 24) (k := k) hk'
  iintro H
  ihave H := (swap1 (Ψ := homeSt c XW (k + 1)) (Ring.bk 24 k) (fun b h1 => by
    have h1' : b.val ≠ k := fun e => h1 (Fin.ext (e.trans e1.symm))
    have := b.isLt
    unfold homeSt; exact if_congr (by omega) rfl rfl)) $$ H
  simp only [homeSt, e1]
  rw [if_neg (by omega), if_pos (by omega)]
  icases H with ⟨-, Hk⟩
  iexact Hk

theorem zo_open (k : ℕ) (h0 : 0 < k) (hk : k < 25) :
    bigSep Finset.univ (zoSt c k) ⊢ (iprop(((∃ f, zP c (Ring.bk 25 k) f) ∗ (∃ f, oP c (Ring.bk 25 k) f)) ∗ ((∃ f, zP c (Ring.bk 25 (k - 1)) f) ∗ (∃ f, oP c (Ring.bk 25 (k - 1)) f))
      ∗ (((∃ f, zP c (Ring.bk 25 k) f) ∗ (∃ f, oP c (Ring.bk 25 k) f)) -∗ bigSep Finset.univ (zoSt c (k + 1)))) : sProp 𝕄) := by
  have e1 := Ring.bk_val (NB := 25) (k := k) hk
  have e2 := Ring.bk_val (NB := 25) (k := k - 1) (by omega)
  iintro H
  ihave H := (swap2 (Ψ := zoSt c (k + 1)) (Ring.bk 25 k) (Ring.bk 25 (k - 1)) (fun e => by have := congrArg Fin.val e; omega) (fun b h1 h2 => by
    have h1' : b.val ≠ k := fun e => h1 (Fin.ext (e.trans e1.symm))
    have h2' : b.val ≠ k - 1 := fun e => h2 (Fin.ext (e.trans e2.symm))
    unfold zoSt; exact if_congr (by omega) rfl rfl)) $$ H
  simp only [zoSt, e1, e2]
  rw [if_pos (by omega), if_pos (by omega), if_pos (by omega), if_neg (by omega)]
  icases H with ⟨H1, H2, Hk⟩
  isplitl [H1]; · iexact H1
  isplitl [H2]; · iexact H2
  iintro H1
  iapply Hk $$ H1
  iempintro
theorem zo_first : bigSep Finset.univ (zoSt c 0) ⊢ (iprop(((∃ f, zP c (Ring.bk 25 0) f) ∗ (∃ f, oP c (Ring.bk 25 0) f))
      ∗ (((∃ f, zP c (Ring.bk 25 0) f) ∗ (∃ f, oP c (Ring.bk 25 0) f)) -∗ bigSep Finset.univ (zoSt c (0 + 1)))) : sProp 𝕄) := by
  iintro H
  ihave H := (swap1 (Ψ := zoSt c (0 + 1)) (Ring.bk 25 0) (fun b h1 => by
    unfold zoSt; exact if_congr (by omega) rfl rfl)) $$ H
  simp only [zoSt]
  rw [if_pos (by omega), if_pos (by omega)]
  iexact H

theorem tail_next (k : ℕ) (hk : k ≠ 16) : tailSt c XW k ⊢ tailSt c XW (k + 1) :=
  Entails.of_eq (if_congr (by omega) rfl rfl)
theorem tail_here (k : ℕ) (hk : k ≤ 16) : tailSt c XW k ⊢ iprop(tcellP c 0 ∗ tcellP c 1 ∗ tcellP c 2 ∗ tcellP c 3 ∗ tcellP c 4 ∗ thomeP c XW 0 ∗ thomeP c XW 1 ∗ thomeP c XW 2 ∗ thomeP c XW 3 ∗ thomeP c XW 4) :=
  Entails.of_eq (if_pos hk)
theorem tail_gone (k : ℕ) (hk : 16 < k) : (iprop(emp) : sProp 𝕄) ⊢ tailSt c XW k :=
  Entails.of_eq (if_neg (by omega)).symm

theorem c1_iff : ∀ k : Fin k0_t2_loop.trips, k0_cond1 k = 1#1 ↔ k.val + 8 < 24 := by decide +kernel
theorem c3_iff : ∀ k : Fin k0_t2_loop.trips, k0_cond3 k = 1#1 ↔ 0 < k.val := by decide +kernel
theorem c2_iff : ∀ k : Fin k0_t2_loop.trips, (Scalar.cmpi .ne (Scalar.extui (Scalar.cmpi .eq (Scalar.addi (Scf.iv 0#32 1#32 k) 8#32) 24#32) : BitVec 32) 0#32 = 1#1) ↔ k.val = 16 := by decide +kernel

end Inv

end Cert.Proof.Kernel
end
-- ==== Proof.Kernel.Sets.lean ====
/-
  How the arrays split into the pieces of the main loop: the weights into 24 column blocks and five tail windows, the
  ring into eight slots, slot 0 into the five tail windows' columns, the logits and the result into 25 column slabs.
-/
module

public import proofs.«01_k».proof.Proof.Kernel.Pieces

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## Element sets -/

abbrev W24 (b : Fin 24) : Finset S4096x32000.Idx := (Rect.unit (s := S4096x32000) (wOff b) S4096x1280.size (wOff_inb b)).set
abbrev W5 (p : Fin 5) : Finset S4096x32000.Idx := (Rect.unit (s := S4096x32000) (tOff p) S4096x256.size (tOff_inb p)).set
abbrev S8' (s : Fin 8) : Finset S8x4096x1280.Idx := (Rect.unit (s := S8x4096x1280) (slotOff s) S1x4096x1280.size (slotOff_inb s)).set
abbrev C5 (p : Fin 5) : Finset S8x4096x1280.Idx := (Rect.unit (s := S8x4096x1280) (colOff p) S1x4096x256.size (colOff_inb p)).set
abbrev Z25 (b : Fin 25) : Finset S12x32000.Idx := (Rect.unit (s := S12x32000) (zOff b) S12x1280.size (zOff_inb b)).set

theorem wblk_set (b : Fin 24) : (wblk b).view.set = W24 b := View.set_slice_whole _ _
theorem wtl_set (p : Fin 5) : (wtl p).view.set = W5 p := View.set_slice_whole _ _
theorem wslot_set (s : Fin 8) : (wslot s).view.set = S8' s := (View.set_reshape _ _).trans (View.set_slice_whole _ _)
theorem wcol_set (p : Fin 5) : (wcol p).view.set = C5 p := (View.set_reshape _ _).trans (View.set_slice_whole _ _)
theorem zslab_set (b : Fin 25) : (zslab b).view.set = Z25 b := View.set_slice_whole _ _
theorem oslab_set (b : Fin 25) : (oslab b).view.set = Z25 b := View.set_slice_whole _ _

theorem mem_W24 (b : Fin 24) (y : S4096x32000.Idx) : y ∈ W24 b ↔ b.val * 1280 ≤ (y 1).val ∧ (y 1).val < b.val * 1280 + 1280 := by
  rw [Rect.mem_set_unit]
  have h0 : (y 0).val < 4096 := (y 0).isLt
  constructor
  · intro H; exact H 1
  · intro H i; fin_cases i
    · show 0 ≤ (y 0).val ∧ (y 0).val < 0 + 4096; omega
    · exact H
theorem mem_W5 (p : Fin 5) (y : S4096x32000.Idx) : y ∈ W5 p ↔ 30720 + p.val * 256 ≤ (y 1).val ∧ (y 1).val < 30720 + p.val * 256 + 256 := by
  rw [Rect.mem_set_unit]
  have h0 : (y 0).val < 4096 := (y 0).isLt
  constructor
  · intro H; exact H 1
  · intro H i; fin_cases i
    · show 0 ≤ (y 0).val ∧ (y 0).val < 0 + 4096; omega
    · exact H
theorem mem_S8 (s : Fin 8) (y : S8x4096x1280.Idx) : y ∈ S8' s ↔ (y 0).val = s.val := by
  rw [Rect.mem_set_unit]
  have h1 : (y 1).val < 4096 := (y 1).isLt
  have h2 : (y 2).val < 1280 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 4096; omega
    · show 0 ≤ (y 2).val ∧ (y 2).val < 0 + 1280; omega
theorem mem_C5 (p : Fin 5) (y : S8x4096x1280.Idx) : y ∈ C5 p ↔ (y 0).val = 0 ∧ p.val * 256 ≤ (y 2).val ∧ (y 2).val < p.val * 256 + 256 := by
  rw [Rect.mem_set_unit]
  have h1 : (y 1).val < 4096 := (y 1).isLt
  constructor
  · intro H
    have a0 : 0 ≤ (y 0).val ∧ (y 0).val < 0 + 1 := H 0
    have a2 : p.val * 256 ≤ (y 2).val ∧ (y 2).val < p.val * 256 + 256 := H 2
    omega
  · intro H i; fin_cases i
    · show 0 ≤ (y 0).val ∧ (y 0).val < 0 + 1; omega
    · show 0 ≤ (y 1).val ∧ (y 1).val < 0 + 4096; omega
    · exact H.2
theorem mem_Z25 (b : Fin 25) (y : S12x32000.Idx) : y ∈ Z25 b ↔ b.val * 1280 ≤ (y 1).val ∧ (y 1).val < b.val * 1280 + 1280 := by
  rw [Rect.mem_set_unit]
  have h0 : (y 0).val < 12 := (y 0).isLt
  constructor
  · intro H; exact H 1
  · intro H i; fin_cases i
    · show 0 ≤ (y 0).val ∧ (y 0).val < 0 + 12; omega
    · exact H

theorem W24_disjoint : ∀ b b' : Fin 24, b ≠ b' → Disjoint (W24 b) (W24 b') := by
  intro b b' hne; rw [Finset.disjoint_left]; intro y hy hy'; rw [mem_W24] at hy hy'; exact hne (Fin.ext (by omega))
theorem W5_disjoint : ∀ b b' : Fin 5, b ≠ b' → Disjoint (W5 b) (W5 b') := by
  intro b b' hne; rw [Finset.disjoint_left]; intro y hy hy'; rw [mem_W5] at hy hy'; exact hne (Fin.ext (by omega))
theorem S8_disjoint : ∀ b b' : Fin 8, b ≠ b' → Disjoint (S8' b) (S8' b') := by
  intro b b' hne; rw [Finset.disjoint_left]; intro y hy hy'; rw [mem_S8] at hy hy'; exact hne (Fin.ext (by omega))
theorem C5_disjoint : ∀ b b' : Fin 5, b ≠ b' → Disjoint (C5 b) (C5 b') := by
  intro b b' hne; rw [Finset.disjoint_left]; intro y hy hy'; rw [mem_C5] at hy hy'; exact hne (Fin.ext (by omega))
theorem Z25_disjoint : ∀ b b' : Fin 25, b ≠ b' → Disjoint (Z25 b) (Z25 b') := by
  intro b b' hne; rw [Finset.disjoint_left]; intro y hy hy'; rw [mem_Z25] at hy hy'; exact hne (Fin.ext (by omega))

theorem S8_cover : Finset.univ.biUnion S8' = Finset.univ := by
  ext y; simp only [Finset.mem_biUnion, Finset.mem_univ, true_and, iff_true]
  exact ⟨y 0, (mem_S8 _ y).mpr rfl⟩
theorem Z25_cover : Finset.univ.biUnion Z25 = Finset.univ := by
  ext y; simp only [Finset.mem_biUnion, Finset.mem_univ, true_and, iff_true]
  have h1 : (y 1).val < 32000 := (y 1).isLt
  exact ⟨⟨(y 1).val / 1280, by omega⟩, (mem_Z25 _ y).mpr (by dsimp only; omega)⟩
theorem C5_cover : Finset.univ.biUnion C5 = S8' 0 := by
  ext y; simp only [Finset.mem_biUnion, Finset.mem_univ, true_and]
  have h2 : (y 2).val < 1280 := (y 2).isLt
  rw [mem_S8]
  constructor
  · rintro ⟨p, hp⟩; exact ((mem_C5 p y).mp hp).1
  · intro H; exact ⟨⟨(y 2).val / 256, by omega⟩, (mem_C5 _ y).mpr ⟨H, by dsimp only; omega⟩⟩
theorem W_disjoint : Disjoint (Finset.univ.biUnion W24) (Finset.univ.biUnion W5) := by
  rw [Finset.disjoint_left]; intro y hy hy'
  simp only [Finset.mem_biUnion, Finset.mem_univ, true_and] at hy hy'
  obtain ⟨b, hb⟩ := hy; obtain ⟨p, hp⟩ := hy'
  rw [mem_W24] at hb; rw [mem_W5] at hp
  have := b.isLt; omega
theorem W_cover : Finset.univ.biUnion W24 ∪ Finset.univ.biUnion W5 = Finset.univ := by
  ext y; simp only [Finset.mem_union, Finset.mem_biUnion, Finset.mem_univ, true_and, iff_true]
  have h1 : (y 1).val < 32000 := (y 1).isLt
  by_cases h : (y 1).val < 30720
  · exact .inl ⟨⟨(y 1).val / 1280, by omega⟩, (mem_W24 _ y).mpr (by dsimp only; omega)⟩
  · exact .inr ⟨⟨((y 1).val - 30720) / 256, by omega⟩, (mem_W5 _ y).mpr (by dsimp only; omega)⟩

/-! ## The arrays and their pieces -/

section Split

variable (c : Dev nD)

theorem bigSep_fin5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem slotP_eq (s : Fin 8) (f) : slotP c s f = (((c : Thread nD τ).loc cc0_scratch0) ↦[S8' s]{fullShare} f : sProp 𝕄) :=
  congrArg (fun S => (_ ↦[S]{fullShare} f : sProp 𝕄)) (wslot_set s)
theorem colP_eq (p : Fin 5) (f) : colP c p f = (((c : Thread nD τ).loc cc0_scratch0) ↦[C5 p]{fullShare} f : sProp 𝕄) :=
  congrArg (fun S => (_ ↦[S]{fullShare} f : sProp 𝕄)) (wcol_set p)
theorem zP_eq (b : Fin 25) (f) : zP c b f = (((c : Thread nD τ).loc cc0_scratch9) ↦[Z25 b]{fullShare} f : sProp 𝕄) :=
  congrArg (fun S => (_ ↦[S]{fullShare} f : sProp 𝕄)) (zslab_set b)
theorem oP_eq (b : Fin 25) (f) : oP c b f = (((c : Thread nD τ).loc main_v1_2) ↦[Z25 b]{fullShare} f : sProp 𝕄) :=
  congrArg (fun S => (_ ↦[S]{fullShare} f : sProp 𝕄)) (oslab_set b)
theorem homeP_eq (b : Fin 24) (f) : homeP c f b = (((c : Thread nD τ).loc main_arg2) ↦[W24 b]{fullShare} f : sProp 𝕄) :=
  congrArg (fun S => (_ ↦[S]{fullShare} f : sProp 𝕄)) (wblk_set b)
theorem thomeP_eq (p : Fin 5) (f) : thomeP c f p = (((c : Thread nD τ).loc main_arg2) ↦[W5 p]{fullShare} f : sProp 𝕄) :=
  congrArg (fun S => (_ ↦[S]{fullShare} f : sProp 𝕄)) (wtl_set p)

theorem slot0_eq (f : Buf (Elt F) ((c : Thread nD τ).loc cc0_scratch0)) :
    (slotP c 0 f : sProp 𝕄) = iprop(colP c 0 f ∗ colP c 1 f ∗ colP c 2 f ∗ colP c 3 f ∗ colP c 4 f) := by
  exact (slotP_eq c 0 f).trans ((Ring.pointsTo_sub_blocks (ℓ := (c : Thread nD τ).loc cc0_scratch0) C5 C5_disjoint (S8' 0) C5_cover f).trans
    ((bigSep_congr fun p _ => (colP_eq c p f).symm).trans (bigSep_fin5 (fun p => colP c p f))))
/-- Slot 0 is the five tail windows' columns; -/
theorem slot0_split (s : Fin 8) (hs : s = 0) (f) : (slotP c s f : sProp 𝕄) ⊢ iprop(colP c 0 f ∗ colP c 1 f ∗ colP c 2 f ∗ colP c 3 f ∗ colP c 4 f) := by
  subst hs; exact Entails.of_eq (slot0_eq c f)
/-- and back. -/
theorem slot0_join (f₀ : Buf (Elt F) ((c : Thread nD τ).loc cc0_scratch0)) :
    iprop((∃ f, colP c 0 f) ∗ (∃ f, colP c 1 f) ∗ (∃ f, colP c 2 f) ∗ (∃ f, colP c 3 f) ∗ (∃ f, colP c 4 f)) ⊢ (iprop(∃ f, slotP c 0 f) : sProp 𝕄) := by
  have h := Ring.pointsTo_sub_blocks_join_exists (Ix := Unit) (Name := ℕ) (U := UU nD τ) (Lvl := ℕ) (q := fullShare) (ℓ := (c : Thread nD τ).loc cc0_scratch0) C5 C5_disjoint (S8' 0) C5_cover f₀
  rw [← bigSep_fin5 (fun p => iprop(∃ f, colP c p f))]
  refine (Entails.of_eq (bigSep_congr fun p _ => ?_)).trans (h.trans (Entails.of_eq ?_))
  · simp only [colP_eq]; rfl
  · simp only [slotP_eq]; rfl

/-- The ring is its eight slots, and back. -/
theorem ring_split (f : Buf (Elt F) ((c : Thread nD τ).loc cc0_scratch0)) :
    (((c : Thread nD τ).loc cc0_scratch0) ↦{fullShare} f : sProp 𝕄) = bigSep Finset.univ fun s => slotP c s f := by
  rw [Ring.pointsTo_blocks (ℓ := (c : Thread nD τ).loc cc0_scratch0) S8' S8_disjoint S8_cover]
  exact bigSep_congr fun s _ => (slotP_eq c s f).symm
theorem ring_join (f₀ : Buf (Elt F) ((c : Thread nD τ).loc cc0_scratch0)) :
    bigSep Finset.univ (fun s => iprop(∃ f, slotP c s f)) ⊢ (iprop(∃ f : Buf (Elt F) ((c : Thread nD τ).loc cc0_scratch0), ((c : Thread nD τ).loc cc0_scratch0) ↦{fullShare} f) : sProp 𝕄) := by
  simp only [slotP_eq]
  exact Ring.pointsTo_blocks_join_exists (ℓ := (c : Thread nD τ).loc cc0_scratch0) S8' S8_disjoint S8_cover f₀

/-- The logits are their 25 slabs, and back. -/
theorem z_split (f : Buf (Elt F) ((c : Thread nD τ).loc cc0_scratch9)) :
    (((c : Thread nD τ).loc cc0_scratch9) ↦{fullShare} f : sProp 𝕄) = bigSep Finset.univ fun s => zP c s f := by
  rw [Ring.pointsTo_blocks (ℓ := (c : Thread nD τ).loc cc0_scratch9) Z25 Z25_disjoint Z25_cover]
  exact bigSep_congr fun s _ => (zP_eq c s f).symm
theorem z_join (f₀ : Buf (Elt F) ((c : Thread nD τ).loc cc0_scratch9)) :
    bigSep Finset.univ (fun s => iprop(∃ f, zP c s f)) ⊢ (iprop(∃ f : Buf (Elt F) ((c : Thread nD τ).loc cc0_scratch9), ((c : Thread nD τ).loc cc0_scratch9) ↦{fullShare} f) : sProp 𝕄) := by
  simp only [zP_eq]
  exact Ring.pointsTo_blocks_join_exists (ℓ := (c : Thread nD τ).loc cc0_scratch9) Z25 Z25_disjoint Z25_cover f₀
/-- The result is its 25 slabs, and back. -/
theorem o_split (f : Buf (Elt F) ((c : Thread nD τ).loc main_v1_2)) :
    (((c : Thread nD τ).loc main_v1_2) ↦{fullShare} f : sProp 𝕄) = bigSep Finset.univ fun s => oP c s f := by
  rw [Ring.pointsTo_blocks (ℓ := (c : Thread nD τ).loc main_v1_2) Z25 Z25_disjoint Z25_cover]
  exact bigSep_congr fun s _ => (oP_eq c s f).symm
theorem o_join (f₀ : Buf (Elt F) ((c : Thread nD τ).loc main_v1_2)) :
    bigSep Finset.univ (fun s => iprop(∃ f, oP c s f)) ⊢ (iprop(∃ f : Buf (Elt F) ((c : Thread nD τ).loc main_v1_2), ((c : Thread nD τ).loc main_v1_2) ↦{fullShare} f) : sProp 𝕄) := by
  simp only [oP_eq]
  exact Ring.pointsTo_blocks_join_exists (ℓ := (c : Thread nD τ).loc main_v1_2) Z25 Z25_disjoint Z25_cover f₀

/-- The weights are their blocks and tail windows. -/
theorem w_split (XW : Buf (Elt F) ((c : Thread nD τ).loc main_arg2)) :
    (((c : Thread nD τ).loc main_arg2) ↦{fullShare} XW : sProp 𝕄)
      = iprop(bigSep Finset.univ (homeP c XW) ∗ thomeP c XW 0 ∗ thomeP c XW 1 ∗ thomeP c XW 2 ∗ thomeP c XW 3 ∗ thomeP c XW 4) := by
  have e : (((c : Thread nD τ).loc main_arg2) ↦{fullShare} XW : sProp 𝕄)
      = (((c : Thread nD τ).loc main_arg2) ↦[Finset.univ.biUnion W24 ∪ Finset.univ.biUnion W5]{fullShare} XW : sProp 𝕄) :=
    congrArg (fun S => (_ ↦[S]{fullShare} XW : sProp 𝕄)) W_cover.symm
  have e2 := Entails.antisymm (pointsTo_union (q := fullShare) (f := XW) (Ix := Unit) (Name := ℕ) (U := UU nD τ) (Lvl := ℕ) (ℓ := (c : Thread nD τ).loc main_arg2) W_disjoint).1
    (pointsTo_union (ℓ := (c : Thread nD τ).loc main_arg2) W_disjoint).2
  have e3 : (((c : Thread nD τ).loc main_arg2) ↦[Finset.univ.biUnion W24]{fullShare} XW : sProp 𝕄) = bigSep Finset.univ (homeP c XW) :=
    (Ring.pointsTo_sub_blocks (ℓ := (c : Thread nD τ).loc main_arg2) W24 W24_disjoint _ rfl XW).trans (bigSep_congr fun b _ => (homeP_eq c b XW).symm)
  have e4 : (((c : Thread nD τ).loc main_arg2) ↦[Finset.univ.biUnion W5]{fullShare} XW : sProp 𝕄) = iprop(thomeP c XW 0 ∗ thomeP c XW 1 ∗ thomeP c XW 2 ∗ thomeP c XW 3 ∗ thomeP c XW 4) :=
    ((Ring.pointsTo_sub_blocks (ℓ := (c : Thread nD τ).loc main_arg2) W5 W5_disjoint _ rfl XW).trans (bigSep_congr fun b _ => (thomeP_eq c b XW).symm)).trans (bigSep_fin5 (fun p => thomeP c XW p))
  exact e.trans (e2.trans (congrArg₂ (fun A B : sProp 𝕄 => iprop(A ∗ B)) e3 e4))

end Split

end Cert.Proof.Kernel
end
-- ==== Proof.Kernel.Trip.lean ====
/-
  One trip of the main loop, by cases: the first (nothing to copy out), trips 1 … 15 (block `k + 8` goes out again),
  trip 16 (the tail windows go out) and the later ones (the slot stays at rest).
-/
module

public import proofs.«01_k».proof.Proof.Kernel.Main
public import proofs.«01_k».proof.Proof.Kernel.Sets

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (XW : Buf (Elt F) (wM.view.loc (c : Thread nD τ)))
  (arg11 : Memref sig .tc .vmem S1x12 .f32) (harg11 : arg11.IsWhole) (arg12 : Memref sig .tc .vmem S12x20 .f32) (harg12 : arg12.IsWhole)

theorem trip_mid (k : Fin k0_t2_loop.trips) (h0 : 0 < k.val) (hk8 : k.val + 8 < 24) :
    mainInv c XW k.val () ⊢ wp frame (wpE (defs₀ (F := F)) 𝒱₀ (c : Thread nD τ) none) Set.univ (tripG arg11 harg11 arg12 harg12 k) (fun _ => mainInv c XW (k.val + 1) ()) := by
  have hk : k.val < 24 := lt24 k
  have hc1 := (c1_iff k).mpr hk8
  have hc3 := (c3_iff k).mpr h0
  have hc2 := mt (c2_iff k).mp (by omega)
  unfold mainInv arrs
  iintro ⟨⟨⟨%XP, HXP⟩, ⟨%CF, HCF⟩, ⟨%CL, HCL⟩, ⟨%CH, HCH⟩, ⟨%WS, HWS⟩, ⟨%HI, HHI⟩, ⟨%P, HP⟩, ⟨%M, HM⟩, ⟨%S, HS⟩⟩, ⟨%W, HO⟩, HB, Hsl, Hho, Hta, Hzo⟩
  ihave Hsl := (slots_open c XW k.val) $$ Hsl
  rw [slot_here c XW k.val hk, slot_issued c XW k.val hk8]
  icases Hsl with ⟨⟨%f, HF⟩, Hslk⟩
  ihave Hho := (homes_issue c XW k.val hk8) $$ Hho
  icases Hho with ⟨Hh, Hhok⟩
  ihave Hzo := (zo_open c k.val h0 (by omega)) $$ Hzo
  icases Hzo with ⟨⟨⟨%fz, Hz⟩, Ho⟩, ⟨⟨%fzp, Hzp⟩, ⟨%fo, Hop⟩⟩, Hzok⟩
  dsimp only [tripG]
  sl_unfold [k0_t2_body]
  sl_exec
  sl_step
  isplitl [HXP HCF HCL HCH HWS HHI HP HM HS]
  · isplitl [HXP]; · iexists _; iexact HXP
    isplitl [HCF]; · iexists _; iexact HCF
    isplitl [HCL]; · iexists _; iexact HCL
    isplitl [HCH]; · iexists _; iexact HCH
    isplitl [HWS]; · iexists _; iexact HWS
    isplitl [HHI]; · iexists _; iexact HHI
    isplitl [HP]; · iexists _; iexact HP
    isplitl [HM]; · iexists _; iexact HM
    iexists _; iexact HS
  isplitl [HO]; · iexists _; iexact HO
  isplitl [HB]; · rw [show k.val + 1 - 1 = k.val - 1 + 1 by omega]; iexact HB
  isplitl [Hslk HF]; · iapply Hslk; iexists _; iexact HF
  isplitl [Hhok HF_src]; · iapply Hhok; iexact HF_src
  isplitl [Hta]; · iapply (tail_next c XW k.val (by omega)); iexact Hta
  iapply Hzok
  isplitl [Hz]; · iexists _; iexact Hz
  iexact Ho

theorem trip_first (k : Fin k0_t2_loop.trips) (h0 : k.val = 0) :
    mainInv c XW k.val () ⊢ wp frame (wpE (defs₀ (F := F)) 𝒱₀ (c : Thread nD τ) none) Set.univ (tripG arg11 harg11 arg12 harg12 k) (fun _ => mainInv c XW (k.val + 1) ()) := by
  have hk : k.val < 24 := lt24 k
  have hk8 : k.val + 8 < 24 := by omega
  have hc1 := (c1_iff k).mpr hk8
  have hc3 := mt (c3_iff k).mp (by omega)
  have hc2 := mt (c2_iff k).mp (by omega)
  unfold mainInv arrs
  iintro ⟨⟨⟨%XP, HXP⟩, ⟨%CF, HCF⟩, ⟨%CL, HCL⟩, ⟨%CH, HCH⟩, ⟨%WS, HWS⟩, ⟨%HI, HHI⟩, ⟨%P, HP⟩, ⟨%M, HM⟩, ⟨%S, HS⟩⟩, ⟨%W, HO⟩, HB, Hsl, Hho, Hta, Hzo⟩
  ihave Hsl := (slots_open c XW k.val) $$ Hsl
  rw [slot_here c XW k.val hk, slot_issued c XW k.val hk8]
  icases Hsl with ⟨⟨%f, HF⟩, Hslk⟩
  ihave Hho := (homes_issue c XW k.val hk8) $$ Hho
  icases Hho with ⟨Hh, Hhok⟩
  ihave Hzo := (show bigSep Finset.univ (zoSt c k.val) ⊢ (iprop(((∃ f, zP c (Ring.bk 25 k.val) f) ∗ (∃ f, oP c (Ring.bk 25 k.val) f))
      ∗ (((∃ f, zP c (Ring.bk 25 k.val) f) ∗ (∃ f, oP c (Ring.bk 25 k.val) f)) -∗ bigSep Finset.univ (zoSt c (k.val + 1)))) : sProp 𝕄) from by rw [h0]; exact zo_first c) $$ Hzo
  icases Hzo with ⟨⟨⟨%fz, Hz⟩, Ho⟩, Hzok⟩
  dsimp only [tripG]
  sl_unfold [k0_t2_body]
  sl_exec
  sl_step
  isplitl [HXP HCF HCL HCH HWS HHI HP HM HS]
  · isplitl [HXP]; · iexists _; iexact HXP
    isplitl [HCF]; · iexists _; iexact HCF
    isplitl [HCL]; · iexists _; iexact HCL
    isplitl [HCH]; · iexists _; iexact HCH
    isplitl [HWS]; · iexists _; iexact HWS
    isplitl [HHI]; · iexists _; iexact HHI
    isplitl [HP]; · iexists _; iexact HP
    isplitl [HM]; · iexists _; iexact HM
    iexists _; iexact HS
  isplitl [HO]; · iexists _; iexact HO
  isplitl [HB]; · rw [show k.val + 1 - 1 = k.val - 1 by omega]; iexact HB
  isplitl [Hslk HF]; · iapply Hslk; iexists _; iexact HF
  isplitl [Hhok HF_src]; · iapply Hhok; iexact HF_src
  isplitl [Hta]; · iapply (tail_next c XW k.val (by omega)); iexact Hta
  iapply Hzok
  isplitl [Hz]; · iexists _; iexact Hz
  iexact Ho

theorem trip_late (k : Fin k0_t2_loop.trips) (h0 : 16 < k.val) :
    mainInv c XW k.val () ⊢ wp frame (wpE (defs₀ (F := F)) 𝒱₀ (c : Thread nD τ) none) Set.univ (tripG arg11 harg11 arg12 harg12 k) (fun _ => mainInv c XW (k.val + 1) ()) := by
  have hk : k.val < 24 := lt24 k
  have h1 : 0 < k.val := by omega
  have hc1 := mt (c1_iff k).mp (by omega)
  have hc3 := (c3_iff k).mpr h1
  have hc2 := mt (c2_iff k).mp (by omega)
  unfold mainInv arrs
  iintro ⟨⟨⟨%XP, HXP⟩, ⟨%CF, HCF⟩, ⟨%CL, HCL⟩, ⟨%CH, HCH⟩, ⟨%WS, HWS⟩, ⟨%HI, HHI⟩, ⟨%P, HP⟩, ⟨%M, HM⟩, ⟨%S, HS⟩⟩, ⟨%W, HO⟩, HB, Hsl, Hho, Hta, Hzo⟩
  ihave Hsl := (slots_open c XW k.val) $$ Hsl
  rw [slot_here c XW k.val hk, slot_rest c XW k.val h0 hk]
  icases Hsl with ⟨⟨%f, HF⟩, Hslk⟩
  ihave Hhok := (homes_last c XW k.val (by omega) hk) $$ Hho
  ihave Hzo := (zo_open c k.val h1 (by omega)) $$ Hzo
  icases Hzo with ⟨⟨⟨%fz, Hz⟩, Ho⟩, ⟨⟨%fzp, Hzp⟩, ⟨%fo, Hop⟩⟩, Hzok⟩
  dsimp only [tripG]
  sl_unfold [k0_t2_body]
  sl_exec
  sl_step
  isplitl [HXP HCF HCL HCH HWS HHI HP HM HS]
  · isplitl [HXP]; · iexists _; iexact HXP
    isplitl [HCF]; · iexists _; iexact HCF
    isplitl [HCL]; · iexists _; iexact HCL
    isplitl [HCH]; · iexists _; iexact HCH
    isplitl [HWS]; · iexists _; iexact HWS
    isplitl [HHI]; · iexists _; iexact HHI
    isplitl [HP]; · iexists _; iexact HP
    isplitl [HM]; · iexists _; iexact HM
    iexists _; iexact HS
  isplitl [HO]; · iexists _; iexact HO
  isplitl [HB]; · rw [show k.val + 1 - 1 = k.val - 1 + 1 by omega]; iexact HB
  isplitl [Hslk HF HF_dst]
  · iapply Hslk
    isplitl [HF]; · iexact HF
    iexists _; iexact HF_dst
  isplitl [Hhok HF_src]; · iapply Hhok; iexact HF_src
  isplitl [Hta]; · iapply (tail_next c XW k.val (by omega)); iexact Hta
  iapply Hzok
  isplitl [Hz]; · iexists _; iexact Hz
  iexact Ho

theorem trip_tail (k : Fin k0_t2_loop.trips) (h0 : k.val = 16) :
    mainInv c XW k.val () ⊢ wp frame (wpE (defs₀ (F := F)) 𝒱₀ (c : Thread nD τ) none) Set.univ (tripG arg11 harg11 arg12 harg12 k) (fun _ => mainInv c XW (k.val + 1) ()) := by
  have hk : k.val < 24 := lt24 k
  have h1 : 0 < k.val := by omega
  have hc1 := mt (c1_iff k).mp (by omega)
  have hc3 := (c3_iff k).mpr h1
  have hc2 := (c2_iff k).mpr h0
  unfold mainInv arrs
  iintro ⟨⟨⟨%XP, HXP⟩, ⟨%CF, HCF⟩, ⟨%CL, HCL⟩, ⟨%CH, HCH⟩, ⟨%WS, HWS⟩, ⟨%HI, HHI⟩, ⟨%P, HP⟩, ⟨%M, HM⟩, ⟨%S, HS⟩⟩, ⟨%W, HO⟩, HB, Hsl, Hho, Hta, Hzo⟩
  ihave Hsl := (slots_open c XW k.val) $$ Hsl
  rw [slot_here c XW k.val hk, slot_tail c XW k.val h0]
  icases Hsl with ⟨⟨%f, HF⟩, Hslk⟩
  ihave Hhok := (homes_last c XW k.val (by omega) hk) $$ Hho
  ihave Hzo := (zo_open c k.val h1 (by omega)) $$ Hzo
  icases Hzo with ⟨⟨⟨%fz, Hz⟩, Ho⟩, ⟨⟨%fzp, Hzp⟩, ⟨%fo, Hop⟩⟩, Hzok⟩
  ihave Hta := (tail_here c XW k.val (by omega)) $$ Hta
  icases Hta with ⟨Hc0, Hc1, Hc2, Hc3, Hc4, Hw0, Hw1, Hw2, Hw3, Hw4⟩
  dsimp only [tripG]
  sl_unfold [k0_t2_body]
  sl_exec
  ihave Hd := (slot0_split c (Ring.sl 8 k.val) (Fin.ext (by rw [sl_val, h0]; rfl)) _) $$ HF_dst
  icases Hd with ⟨Hd0, Hd1, Hd2, Hd3, Hd4⟩
  sl_exec
  sl_step
  isplitl [HXP HCF HCL HCH HWS HHI HP HM HS]
  · isplitl [HXP]; · iexists _; iexact HXP
    isplitl [HCF]; · iexists _; iexact HCF
    isplitl [HCL]; · iexists _; iexact HCL
    isplitl [HCH]; · iexists _; iexact HCH
    isplitl [HWS]; · iexists _; iexact HWS
    isplitl [HHI]; · iexists _; iexact HHI
    isplitl [HP]; · iexists _; iexact HP
    isplitl [HM]; · iexists _; iexact HM
    iexists _; iexact HS
  isplitl [HO]; · iexists _; iexact HO
  isplitl [HB]; · rw [show k.val + 1 - 1 = k.val - 1 + 1 by omega]; iexact HB
  isplitl [Hslk HF Hc0 Hc1 Hc2 Hc3 Hc4]
  · iapply Hslk
    isplitl [HF]; · iexact HF
    unfold tflights
    isplitl [Hc0]; · iexists _; iexact Hc0
    isplitl [Hc1]; · iexists _; iexact Hc1
    isplitl [Hc2]; · iexists _; iexact Hc2
    isplitl [Hc3]; · iexists _; iexact Hc3
    iexists _; iexact Hc4
  isplitl [Hhok HF_src]; · iapply Hhok; iexact HF_src
  isplitl []; · iapply (tail_gone c XW (k.val + 1) (by omega)); iempintro
  iapply Hzok
  isplitl [Hz]; · iexists _; iexact Hz
  iexact Ho

/-- One trip of the main loop. -/
theorem trip (k : Fin k0_t2_loop.trips) :
    mainInv c XW k.val () ⊢ wp frame (wpE (defs₀ (F := F)) 𝒱₀ (c : Thread nD τ) none) Set.univ (tripG arg11 harg11 arg12 harg12 k) (fun _ => mainInv c XW (k.val + 1) ()) := by
  have hk : k.val < 24 := lt24 k
  rcases Nat.eq_zero_or_pos k.val with h | h
  · exact trip_first c XW arg11 harg11 arg12 harg12 k h
  rcases Nat.lt_trichotomy k.val 16 with h' | h' | h'
  · exact trip_mid c XW arg11 harg11 arg12 harg12 k h (by omega)
  · exact trip_tail c XW arg11 harg11 arg12 harg12 k h'
  · exact trip_late c XW arg11 harg11 arg12 harg12 k h'

end Cert.Proof.Kernel
end
-- ==== Proof.Kernel.Body.lean ====
/-
  The whole body: the prologue's copies and issues, the rows loop, the main loop, the tail and the drain.
-/
module

public import proofs.«01_k».proof.Proof.Kernel.Trip
public import Idealize.ShloMosaic.Lib.Batch

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The main loop's resources at its two ends -/

section Ends

variable (c : Dev nD) (XW : Buf (Elt F) (wM.view.loc (c : Thread nD τ)))

/-- The members from `j` on. -/
def pre {n : ℕ} (Φ : Fin n → sProp 𝕄) (j : ℕ) (b : Fin n) : sProp 𝕄 := if j ≤ b.val then Φ b else iprop(emp)
theorem peel {n : ℕ} (Φ : Fin n → sProp 𝕄) (j : Fin n) : bigSep Finset.univ (pre Φ j.val) ⊢ iprop(Φ j ∗ bigSep Finset.univ (pre Φ (j.val + 1))) := by
  iintro H
  ihave H := (swap1 (Ψ := pre Φ (j.val + 1)) j (fun b hb => by
    have : b.val ≠ j.val := fun e => hb (Fin.ext e)
    unfold pre; exact if_congr (by omega) rfl rfl)) $$ H
  simp only [pre]
  rw [if_pos (le_refl _), if_neg (by omega)]
  icases H with ⟨H1, H2⟩
  isplitl [H1]; · iexact H1
  iapply H2
  iempintro
theorem peel' {n : ℕ} (Φ : Fin n → sProp 𝕄) (a : ℕ) (j : Fin n) (h : j.val = a) : bigSep Finset.univ (pre Φ a) ⊢ iprop(Φ j ∗ bigSep Finset.univ (pre Φ (a + 1))) := h ▸ peel Φ j
theorem homes_zero : bigSep Finset.univ (homeP c XW) ⊢ iprop(homeP c XW 0 ∗ homeP c XW 1 ∗ homeP c XW 2 ∗ homeP c XW 3 ∗ homeP c XW 4 ∗ homeP c XW 5 ∗ homeP c XW 6 ∗ homeP c XW 7
    ∗ bigSep Finset.univ (homeSt c XW 0)) := by
  iintro H
  ihave H := (Entails.of_eq (show bigSep Finset.univ (homeP c XW) = bigSep Finset.univ (pre (homeP c XW) 0) from bigSep_congr fun b _ => (if_pos (Nat.zero_le _)).symm)) $$ H
  ihave H := (peel' (homeP c XW) 0 0 rfl) $$ H
  icases H with ⟨H0, H⟩
  ihave H := (peel' (homeP c XW) 1 1 rfl) $$ H
  icases H with ⟨H1, H⟩
  ihave H := (peel' (homeP c XW) 2 2 rfl) $$ H
  icases H with ⟨H2, H⟩
  ihave H := (peel' (homeP c XW) 3 3 rfl) $$ H
  icases H with ⟨H3, H⟩
  ihave H := (peel' (homeP c XW) 4 4 rfl) $$ H
  icases H with ⟨H4, H⟩
  ihave H := (peel' (homeP c XW) 5 5 rfl) $$ H
  icases H with ⟨H5, H⟩
  ihave H := (peel' (homeP c XW) 6 6 rfl) $$ H
  icases H with ⟨H6, H⟩
  ihave H := (peel' (homeP c XW) 7 7 rfl) $$ H
  icases H with ⟨H7, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (Entails.of_eq (show bigSep Finset.univ (pre (homeP c XW) 8) = bigSep Finset.univ (homeSt c XW 0) from
    bigSep_congr fun b _ => by unfold pre homeSt; exact if_congr (by omega) rfl rfl))
  iexact H
theorem homes_done : bigSep Finset.univ (homeSt c XW 24) ⊢ bigSep Finset.univ (homeP c XW) :=
  Entails.of_eq (bigSep_congr fun b _ => if_pos (.inl b.isLt))
theorem slots_zero : (iprop((∃ f, flightP c XW 0 0 f) ∗ (∃ f, flightP c XW 1 1 f) ∗ (∃ f, flightP c XW 2 2 f) ∗ (∃ f, flightP c XW 3 3 f) ∗ (∃ f, flightP c XW 4 4 f) ∗ (∃ f, flightP c XW 5 5 f) ∗ (∃ f, flightP c XW 6 6 f) ∗ (∃ f, flightP c XW 7 7 f)) : sProp 𝕄) ⊢ bigSep Finset.univ (slotSt c XW 0) := by
  refine Entails.of_eq ((bigSep_fin8 (slotSt c XW 0)).trans ?_).symm
  rfl
theorem slot_done (s : Fin 8) (hs : s ≠ 0) : slotSt c XW 24 s = iprop(cellP c s ∗ ∃ f, slotP c s f) := by
  unfold slotSt; rw [if_neg (by unfold blk; omega), if_neg hs]
theorem slot0_done : slotSt c XW 24 0 = iprop(cellP c 0 ∗ tflights c XW) := by
  unfold slotSt; rw [if_neg (by unfold blk; omega), if_pos rfl]
theorem slots_done : bigSep Finset.univ (slotSt c XW 24) ⊢ iprop((cellP c 0 ∗ tflights c XW) ∗ (cellP c 1 ∗ ∃ f, slotP c 1 f) ∗ (cellP c 2 ∗ ∃ f, slotP c 2 f) ∗ (cellP c 3 ∗ ∃ f, slotP c 3 f) ∗ (cellP c 4 ∗ ∃ f, slotP c 4 f) ∗ (cellP c 5 ∗ ∃ f, slotP c 5 f) ∗ (cellP c 6 ∗ ∃ f, slotP c 6 f) ∗ (cellP c 7 ∗ ∃ f, slotP c 7 f)) := by
  rw [bigSep_fin8, slot0_done]
  simp only [slot_done c XW _ (by decide : (1 : Fin 8) ≠ 0), slot_done c XW _ (by decide : (2 : Fin 8) ≠ 0), slot_done c XW _ (by decide : (3 : Fin 8) ≠ 0), slot_done c XW _ (by decide : (4 : Fin 8) ≠ 0), slot_done c XW _ (by decide : (5 : Fin 8) ≠ 0), slot_done c XW _ (by decide : (6 : Fin 8) ≠ 0), slot_done c XW _ (by decide : (7 : Fin 8) ≠ 0)]
  exact .rfl
theorem z_some (f : Buf (Elt F) ((c : Thread nD τ).loc cc0_scratch9)) : (bigSep Finset.univ (fun b => zP c b f) : sProp 𝕄) ⊢ bigSep Finset.univ (fun b => iprop(∃ f, zP c b f)) := by
  have h (b : Fin 25) : (zP c b f : sProp 𝕄) ⊢ iprop(∃ f, zP c b f) := by
    iintro H; iexists f; iexact H
  exact bigSep_mono fun b _ => h b
theorem o_some (f : Buf (Elt F) ((c : Thread nD τ).loc main_v1_2)) : (bigSep Finset.univ (fun b => oP c b f) : sProp 𝕄) ⊢ bigSep Finset.univ (fun b => iprop(∃ f, oP c b f)) := by
  have h (b : Fin 25) : (oP c b f : sProp 𝕄) ⊢ iprop(∃ f, oP c b f) := by
    iintro H; iexists f; iexact H
  exact bigSep_mono fun b _ => h b
theorem zo_zero : (iprop(bigSep Finset.univ (fun b => iprop(∃ f, zP c b f)) ∗ bigSep Finset.univ (fun b => iprop(∃ f, oP c b f))) : sProp 𝕄) ⊢ bigSep Finset.univ (zoSt c 0) := by
  refine (Entails.of_eq (BI.bigSep_sep _ _ _).symm).trans (Entails.of_eq (bigSep_congr fun b _ => ?_))
  exact (if_pos (Nat.zero_le _)).symm
theorem zo_done : bigSep Finset.univ (zoSt c 24) ⊢ (iprop(((∃ f, zP c 24 f) ∗ (∃ f, oP c 24 f)) ∗ ((∃ f, zP c 23 f) ∗ (∃ f, oP c 23 f))) : sProp 𝕄) := by
  iintro H
  ihave H := (swap2 (Ψ := zoSt c 24) 24 23 (by decide) (fun b _ _ => rfl)) $$ H
  icases H with ⟨H1, H2, -⟩
  isplitl [H1]
  · iapply (Entails.of_eq (show zoSt c 24 24 = iprop((∃ f, zP c 24 f) ∗ (∃ f, oP c 24 f)) from if_pos (by decide))); iexact H1
  · iapply (Entails.of_eq (show zoSt c 24 23 = iprop((∃ f, zP c 23 f) ∗ (∃ f, oP c 23 f)) from if_pos (by decide))); iexact H2
theorem out_done : bigSep Finset.univ (fun b : Fin 25 => iprop((∃ f, oP c (Ring.bk 25 b.val) f) ∗ (∃ g, zP c (Ring.bk 25 b.val) g)))
    ⊢ (iprop(bigSep Finset.univ (fun b => iprop(∃ f, oP c b f)) ∗ bigSep Finset.univ (fun b => iprop(∃ f, zP c b f))) : sProp 𝕄) := by
  refine (Entails.of_eq (bigSep_congr fun b _ => ?_)).trans (Entails.of_eq (BI.bigSep_sep _ _ _))
  rw [show Ring.bk 25 b.val = b from Fin.ext (Ring.bk_val b.isLt)]; rfl

end Ends

/-! ## The rows loop and the drain loop -/

section Loops

variable (c : Dev nD)

/-- The rows loop: the ids and the two length words it reads, and the histogram it writes. -/
def rowsInv (_ : ℕ) (_ : Unit) : sProp 𝕄 :=
  iprop((∃ f, held c idM f) ∗ (∃ f, held c shM f) ∗ (∃ f, held c spM f) ∗ (∃ f, held c hiM f))

/-- Before trip `k` of the drain loop. -/
def drainInv (k : ℕ) (_ : Unit) : sProp 𝕄 :=
  iprop((∃ W, owes (c : Thread nD τ) 0 W)
    ∗ (if k < 25 then batchP c 25 (k * 1920)
       else iprop(semVal ((c : Thread nD τ), SemLoc.dma osm.sem) 0 ∗ bigSep Finset.univ (fun b : Fin 25 => iprop((∃ f, oP c (Ring.bk 25 b.val) f) ∗ (∃ g, zP c (Ring.bk 25 b.val) g))))))

end Loops

section Run

variable (c : Dev nD) (XW : Buf (Elt F) (wM.view.loc (c : Thread nD τ)))
  (arg11 : Memref sig .tc .vmem S1x12 .f32) (harg11 : arg11.IsWhole) (arg12 : Memref sig .tc .vmem S12x20 .f32) (harg12 : arg12.IsWhole)
  (Vx : Buf (Elt F) (xM.view.loc (c : Thread nD τ)))
  (Vws : Buf (Elt F) (wsM.view.loc (c : Thread nD τ)))
  (Vids : Buf (Elt F) (idsM.view.loc (c : Thread nD τ)))
  (Vcand : Buf (Elt F) (candM.view.loc (c : Thread nD τ)))
  (Vxs : Buf (Elt F) (xsM.view.loc (c : Thread nD τ)))
  (Vhl : Buf (Elt F) (hlM.view.loc (c : Thread nD τ)))
  (Vpl : Buf (Elt F) (plM.view.loc (c : Thread nD τ)))
  (Vpr : Buf (Elt F) (prM.view.loc (c : Thread nD τ)))
  (Vfr : Buf (Elt F) (frM.view.loc (c : Thread nD τ)))
  (Vrp : Buf (Elt F) (rpM.view.loc (c : Thread nD τ)))

/-- What the body holds before and after: its scratch, its cells at zero, its operands, its results. -/
def bodySt : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch9), ((c : Thread nD τ).loc cc0_scratch9) ↦{fullShare} f)
    ∗ (∃ f : Buf (Elt F) ((c : Thread nD τ).loc main_v1_2), ((c : Thread nD τ).loc main_v1_2) ↦{fullShare} f)
    ∗ (((c : Thread nD τ).loc main_arg2) ↦{fullShare} XW)
    ∗ (∃ f, held c xrM f) ∗ (∃ f, held c xpM f) ∗ (∃ f, held c wcM f) ∗ (∃ f, held c idM f) ∗ (∃ f, held c cdM f) ∗ (∃ f, held c clM f) ∗ (∃ f, held c chM f) ∗ (∃ f, held c hiM f) ∗ (∃ f, held c cfM f) ∗ (∃ f, held c rmM f) ∗ (∃ f, held c rsM f) ∗ (∃ f, held c pkM f) ∗ (∃ f, held c sxM f) ∗ (∃ f, held c shM f) ∗ (∃ f, held c spM f) ∗ (∃ f, held c srM f) ∗ (∃ f, held c sfM f) ∗ (∃ f, held c seM f)
    ∗ cellP c 0 ∗ cellP c 1 ∗ cellP c 2 ∗ cellP c 3 ∗ cellP c 4 ∗ cellP c 5 ∗ cellP c 6 ∗ cellP c 7
    ∗ tcellP c 0 ∗ tcellP c 1 ∗ tcellP c 2 ∗ tcellP c 3 ∗ tcellP c 4
    ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
    ∗ semVal ((c : Thread nD τ), SemLoc.dma osm.sem) 0
    ∗ held c xM Vx ∗ held c wsM Vws ∗ held c idsM Vids ∗ held c candM Vcand ∗ held c xsM Vxs ∗ held c hlM Vhl ∗ held c plM Vpl ∗ held c prM Vpr ∗ held c frM Vfr ∗ held c rpM Vrp
    ∗ (∃ f, held c arg11 f) ∗ (∃ f, held c arg12 f) ∗ (∃ W, owes (c : Thread nD τ) 0 W))

set_option maxHeartbeats 8000000 in
theorem body_run :
    bodySt c XW arg11 arg12 Vx Vws Vids Vcand Vxs Vhl Vpl Vpr Vfr Vrp ⊢ wp frame (wpE (defs₀ (F := F)) 𝒱₀ (c : Thread nD τ) none) Set.univ
      (cc0_head_penalised_logits (F := F) xM (Memref.isWhole_whole _) wM (Memref.isWhole_whole _) wsM (Memref.isWhole_whole _) idsM (Memref.isWhole_whole _) candM (Memref.isWhole_whole _) xsM (Memref.isWhole_whole _) hlM (Memref.isWhole_whole _) plM (Memref.isWhole_whole _) prM (Memref.isWhole_whole _) frM (Memref.isWhole_whole _) rpM (Memref.isWhole_whole _) arg11 harg11 arg12 harg12 outM (Memref.isWhole_whole _) wbM (Memref.isWhole_whole _) xrM (Memref.isWhole_whole _) xpM (Memref.isWhole_whole _) wcM (Memref.isWhole_whole _) idM (Memref.isWhole_whole _) cdM (Memref.isWhole_whole _) clM (Memref.isWhole_whole _) chM (Memref.isWhole_whole _) hiM (Memref.isWhole_whole _) zM (Memref.isWhole_whole _) cfM (Memref.isWhole_whole _) sxM (Memref.isWhole_whole _) shM (Memref.isWhole_whole _) spM (Memref.isWhole_whole _) srM (Memref.isWhole_whole _) sfM (Memref.isWhole_whole _) seM (Memref.isWhole_whole _) rmM (Memref.isWhole_whole _) rsM (Memref.isWhole_whole _) pkM (Memref.isWhole_whole _) cc0_scratch20 cc0_scratch21 cc0_scratch22 cc0_scratch23 cc0_scratch24)
      (fun _ => bodySt c XW arg11 arg12 Vx Vws Vids Vcand Vxs Vhl Vpl Vpr Vfr Vrp) := by
  unfold bodySt
  iintro ⟨⟨%fwb, Hwb⟩, ⟨%fz, Hz⟩, ⟨%fo, Ho⟩, Hw, ⟨%fxr, Hxr⟩, ⟨%fxp, Hxp⟩, ⟨%fwc, Hwc⟩, ⟨%fid, Hid⟩, ⟨%fcd, Hcd⟩, ⟨%fcl, Hcl⟩, ⟨%fch, Hch⟩, ⟨%fhi, Hhi⟩, ⟨%fcf, Hcf⟩, ⟨%frm, Hrm⟩, ⟨%frs, Hrs⟩, ⟨%fpk, Hpk⟩, ⟨%fsx, Hsx⟩, ⟨%fsh, Hsh⟩, ⟨%fsp, Hsp⟩, ⟨%fsr, Hsr⟩, ⟨%fsf, Hsf⟩, ⟨%fse, Hse⟩, Hc0, Hc1, Hc2, Hc3, Hc4, Hc5, Hc6, Hc7, Ht0, Ht1, Ht2, Ht3, Ht4, Hq15, Hq16, Hq17, Hq18, Hq19, Hq20, Hq21, Hq22, Hq23, Hq24, Hos, HVx, HVws, HVids, HVcand, HVxs, HVhl, HVpl, HVpr, HVfr, HVrp, ⟨%f11, H11⟩, ⟨%f12, H12⟩, ⟨%W, HO⟩⟩
  ihave Hwb := (Entails.of_eq ((ring_split c fwb).trans (bigSep_fin8 _))) $$ Hwb
  icases Hwb with ⟨Hs0, Hs1, Hs2, Hs3, Hs4, Hs5, Hs6, Hs7⟩
  ihave Hz := (Entails.of_eq (z_split c fz)) $$ Hz
  ihave Ho := (Entails.of_eq (o_split c fo)) $$ Ho
  ihave Hw := (Entails.of_eq (w_split c XW)) $$ Hw
  icases Hw with ⟨Hw, Hu0, Hu1, Hu2, Hu3, Hu4⟩
  ihave Hw := (homes_zero c XW) $$ Hw
  icases Hw with ⟨Hh0, Hh1, Hh2, Hh3, Hh4, Hh5, Hh6, Hh7, Hw⟩
  imod (Transfers.batch_alloc' (Lvl := ℕ) (countersEmb (U := UU nD τ)) (c : Thread nD τ) () 1920 (fun b : Fin 25 => (iprop((∃ f, oP c (Ring.bk 25 b.val) f) ∗ (∃ g, zP c (Ring.bk 25 b.val) g)) : sProp 𝕄)) (sm := .dma osm.sem) (E := Set.univ)) $$ Hos with HB
  rw [cc0_head_penalised_logits_eq_skeleton]
  sl_unfold [cc0_head_penalised_logits_skel]
  sl_exec
  sl_for (rowsInv (F := F) c) $$ [Hid Hsh Hsp Hhi]
  case region =>
    intro k _
    unfold rowsInv
    iintro ⟨⟨%gid, Hid⟩, ⟨%gsh, Hsh⟩, ⟨%gsp, Hsp⟩, ⟨%ghi, Hhi⟩⟩
    sl_unfold [body_run.sl.prog.body_1, k0_t1_body]
    sl_exec
    sl_step
    isplitl [Hid]; · iexists _; iexact Hid
    isplitl [Hsh]; · iexists _; iexact Hsh
    isplitl [Hsp]; · iexists _; iexact Hsp
    iexists _; iexact Hhi
  · unfold rowsInv
    isplitl [Hid]; · iexists _; iexact Hid
    isplitl [Hsh]; · iexists _; iexact Hsh
    isplitl [Hsp]; · iexists _; iexact Hsp
    iexists _; iexact Hhi
  iintro %_ HL
  unfold rowsInv
  icases HL with ⟨⟨%gid, Hid⟩, ⟨%gsh, Hsh⟩, ⟨%gsp, Hsp⟩, ⟨%ghi, Hhi⟩⟩
  sl_exec
  sl_for (mainInv c XW) $$ [Hxp Hcf Hcl Hch Hwc Hhi Hpk Hrm Hrs HO HB Hc0 Hc1 Hc2 Hc3 Hc4 Hc5 Hc6 Hc7 Hw Ht0 Ht1 Ht2 Ht3 Ht4 Hu0 Hu1 Hu2 Hu3 Hu4 Hz Ho]
  case region =>
    intro k _
    exact trip c XW arg11 harg11 arg12 harg12 k
  · unfold mainInv arrs tailSt thomes
    isplitl [Hxp Hcf Hcl Hch Hwc Hhi Hpk Hrm Hrs]
    · isplitl [Hxp]; · iexists _; iexact Hxp
      isplitl [Hcf]; · iexists _; iexact Hcf
      isplitl [Hcl]; · iexists _; iexact Hcl
      isplitl [Hch]; · iexists _; iexact Hch
      isplitl [Hwc]; · iexists _; iexact Hwc
      isplitl [Hhi]; · iexists _; iexact Hhi
      isplitl [Hpk]; · iexists _; iexact Hpk
      isplitl [Hrm]; · iexists _; iexact Hrm
      iexists _; iexact Hrs
    isplitl [HO]; · iexists _; iexact HO
    isplitl [HB]; · iexact HB
    isplitl [Hc0 Hc1 Hc2 Hc3 Hc4 Hc5 Hc6 Hc7]
    · iapply (slots_zero c XW)
      isplitl [Hc0]; · iexists _; iexact Hc0
      isplitl [Hc1]; · iexists _; iexact Hc1
      isplitl [Hc2]; · iexists _; iexact Hc2
      isplitl [Hc3]; · iexists _; iexact Hc3
      isplitl [Hc4]; · iexists _; iexact Hc4
      isplitl [Hc5]; · iexists _; iexact Hc5
      isplitl [Hc6]; · iexists _; iexact Hc6
      iexists _; iexact Hc7
    isplitl [Hw]; · iexact Hw
    isplitl [Ht0 Ht1 Ht2 Ht3 Ht4 Hu0 Hu1 Hu2 Hu3 Hu4]
    · iapply (Entails.of_eq (if_pos (Nat.zero_le 16)).symm)
      isplitl [Ht0]; · iexact Ht0
      isplitl [Ht1]; · iexact Ht1
      isplitl [Ht2]; · iexact Ht2
      isplitl [Ht3]; · iexact Ht3
      isplitl [Ht4]; · iexact Ht4
      isplitl [Hu0]; · iexact Hu0
      isplitl [Hu1]; · iexact Hu1
      isplitl [Hu2]; · iexact Hu2
      isplitl [Hu3]; · iexact Hu3
      iexact Hu4
    iapply (zo_zero c)
    isplitl [Hz]
    · iapply (z_some c fz); iexact Hz
    · iapply (o_some c fo); iexact Ho
  iintro %_ HL
  ihave HL := (Entails.of_eq (show mainInv c XW k0_t2_loop.trips () = mainInv c XW 24 () from rfl)) $$ HL
  unfold mainInv arrs
  icases HL with ⟨⟨⟨%hxp, Hxp⟩, ⟨%hcf, Hcf⟩, ⟨%hcl, Hcl⟩, ⟨%hch, Hch⟩, ⟨%hwc, Hwc⟩, ⟨%hhi, Hhi⟩, ⟨%hpk, Hpk⟩, ⟨%hrm, Hrm⟩, ⟨%hrs, Hrs⟩⟩, ⟨%W1, HO⟩, HB, Hsl, Hw, -, Hzo⟩
  ihave Hw := (homes_done c XW) $$ Hw
  ihave Hsl := (slots_done c XW) $$ Hsl
  ihave Hzo := (zo_done c) $$ Hzo
  unfold tflights
  icases Hzo with ⟨⟨⟨%fz24, Hz24⟩, ⟨%fo24, Ho24⟩⟩, ⟨%fz23, Hz23⟩, ⟨%fo23, Ho23⟩⟩
  icases Hsl with ⟨⟨Hc0, ⟨%ft0, Ht0⟩, ⟨%ft1, Ht1⟩, ⟨%ft2, Ht2⟩, ⟨%ft3, Ht3⟩, ⟨%ft4, Ht4⟩⟩, ⟨Hc1, ⟨%fs1, Hs1⟩⟩, ⟨Hc2, ⟨%fs2, Hs2⟩⟩, ⟨Hc3, ⟨%fs3, Hs3⟩⟩, ⟨Hc4, ⟨%fs4, Hs4⟩⟩, ⟨Hc5, ⟨%fs5, Hs5⟩⟩, ⟨Hc6, ⟨%fs6, Hs6⟩⟩, ⟨Hc7, ⟨%fs7, Hs7⟩⟩⟩
  sl_exec
  sl_for (drainInv (F := F) c) $$ [HO HB]
  case region =>
    intro k _
    have hk : k.val < 25 := lt_of_lt_of_eq k.isLt (by decide)
    unfold drainInv
    simp only [if_pos hk]
    rcases Nat.lt_or_ge (k.val + 1) 25 with h1 | h1
    · simp only [if_pos h1]
      iintro ⟨⟨%W, HO⟩, HB⟩
      dsimp only [body_run.sl.prog.body_3]
      sl_exec
      sl_step
      isplitl [HO]; · iexists _; iexact HO
      rw [show (k.val + 1) * 1920 = k.val * 1920 + 1920 by omega]
      iexact HB
    · simp only [if_neg (show ¬ k.val + 1 < 25 by omega)]
      iintro ⟨⟨%W, HO⟩, HB⟩
      dsimp only [body_run.sl.prog.body_3]
      sl_exec
      sl_step
      isplitl [HO]; · iexists _; iexact HO
      isplitl [HB]; · iexact HB
      iexact HB_all
  · unfold drainInv
    rw [if_pos (by decide)]
    isplitl [HO]; · iexists _; iexact HO
    iexact HB
  iintro %_ HL
  ihave HL := (Entails.of_eq (show drainInv (F := F) c k0_t3_loop.trips () = iprop((∃ W, owes (c : Thread nD τ) 0 W)
    ∗ (semVal ((c : Thread nD τ), SemLoc.dma osm.sem) 0 ∗ bigSep Finset.univ (fun b : Fin 25 => iprop((∃ f, oP c (Ring.bk 25 b.val) f) ∗ (∃ g, zP c (Ring.bk 25 b.val) g))))) from rfl)) $$ HL
  icases HL with ⟨⟨%W2, HO⟩, Hos, Hoz⟩
  ihave Hoz := (out_done c) $$ Hoz
  icases Hoz with ⟨Ho, Hz⟩
  sl_exec
  sl_step
  isplitl [Ht0_dst Ht1_dst Ht2_dst Ht3_dst Ht4_dst Hs1 Hs2 Hs3 Hs4 Hs5 Hs6 Hs7]
  · iapply (ring_join c fwb)
    iapply (Entails.of_eq (bigSep_fin8 _).symm)
    isplitl [Ht0_dst Ht1_dst Ht2_dst Ht3_dst Ht4_dst]
    · iapply (slot0_join c fwb)
      isplitl [Ht0_dst]; · iexists _; iexact Ht0_dst
      isplitl [Ht1_dst]; · iexists _; iexact Ht1_dst
      isplitl [Ht2_dst]; · iexists _; iexact Ht2_dst
      isplitl [Ht3_dst]; · iexists _; iexact Ht3_dst
      iexists _; iexact Ht4_dst
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    iexists _; iexact Hs7
  isplitl [Hz]; · iapply (z_join c fz); iexact Hz
  isplitl [Ho]; · iapply (o_join c fo); iexact Ho
  isplitl [Hw Ht0_src Ht1_src Ht2_src Ht3_src Ht4_src]
  · iapply (Entails.of_eq (w_split c XW).symm)
    isplitl [Hw]; · iexact Hw
    isplitl [Ht0_src]; · iexact Ht0_src
    isplitl [Ht1_src]; · iexact Ht1_src
    isplitl [Ht2_src]; · iexact Ht2_src
    isplitl [Ht3_src]; · iexact Ht3_src
    iexact Ht4_src
  isplitl [Hxr]; · iexists _; iexact Hxr
  isplitl [Hxp]; · iexists _; iexact Hxp
  isplitl [Hwc]; · iexists _; iexact Hwc
  isplitl [Hid]; · iexists _; iexact Hid
  isplitl [Hcd]; · iexists _; iexact Hcd
  isplitl [Hcl]; · iexists _; iexact Hcl
  isplitl [Hch]; · iexists _; iexact Hch
  isplitl [Hhi]; · iexists _; iexact Hhi
  isplitl [Hcf]; · iexists _; iexact Hcf
  isplitl [Hrm]; · iexists _; iexact Hrm
  isplitl [Hrs]; · iexists _; iexact Hrs
  isplitl [Hpk]; · iexists _; iexact Hpk
  isplitl [Hsx]; · iexists _; iexact Hsx
  isplitl [Hsh]; · iexists _; iexact Hsh
  isplitl [Hsp]; · iexists _; iexact Hsp
  isplitl [Hsr]; · iexists _; iexact Hsr
  isplitl [Hsf]; · iexists _; iexact Hsf
  isplitl [Hse]; · iexists _; iexact Hse
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Ht0]; · iexact Ht0
  isplitl [Ht1]; · iexact Ht1
  isplitl [Ht2]; · iexact Ht2
  isplitl [Ht3]; · iexact Ht3
  isplitl [Ht4]; · iexact Ht4
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hos]; · iexact Hos
  isplitl [HVx]; · iexact HVx
  isplitl [HVws]; · iexact HVws
  isplitl [HVids]; · iexact HVids
  isplitl [HVcand]; · iexact HVcand
  isplitl [HVxs]; · iexact HVxs
  isplitl [HVhl]; · iexact HVhl
  isplitl [HVpl]; · iexact HVpl
  isplitl [HVpr]; · iexact HVpr
  isplitl [HVfr]; · iexact HVfr
  isplitl [HVrp]; · iexact HVrp
  isplitl [H11]; · iexists _; iexact H11
  isplitl [H12]; · iexists _; iexact H12
  iexists _; iexact HO

end Run

end Cert.Proof.Kernel
end
-- ==== Proof.Kernel.Frame.lean ====
/-
  The launch: the region's proof data, the body's obligation from the body's run, the run of the whole program and the frame.
-/
module

public import proofs.«01_k».proof.Proof.Kernel.Body
public import proofs.«01_k».proof.Proof.Gen.Kernel.Frame
public import Idealize.ShloMosaic.Lib.Pipeline.FrameBody

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

open Idealize.ShloMosaic.Pipeline (Dat Cfg Window BodyObligationLoose)

section Phi

variable (c : Dev nD)

/-- The kernel's own cells. -/
abbrev osem0 : Fin 24 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25] : Fin 24 → SemLoc sig) j
theorem ownSemFacts0 : Pipeline.OwnSemFacts spec0 osem0 := by decide
theorem ownSems00_eq :
    (Pipeline.ownSems0 (Ix := Unit) (Name := ℕ) (U := UU nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem0 [0, 1, 2, 3, 4, 5, 6, 7, 8, 9, 10, 11, 12, 13, 14, 15, 16, 17, 18, 19, 20, 21, 22, 23] (by decide) (by decide)]; rfl
/-- The buffers outside the windows that the body only reads. -/
def H0 : Finset (Ref sig .tc) := {main_arg0, main_arg1, main_arg2, main_arg4, main_arg5, main_arg6, main_arg7, main_arg8, main_arg9, main_arg10, main_v0}
theorem H0_sub : H0 ⊆ Pipeline.restRefs sig spec0 := by decide
theorem hbmPts0_eq (V : (b : Ref sig .tc) → Buf (Elt F) ((c : Thread nD τ).loc b)) :
    (bigSep H0 (fun b => ((c : Thread nD τ).loc b) ↦{fullShare} V b) : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_arg7) ↦{fullShare} V main_arg7) ∗ (((c : Thread nD τ).loc main_arg8) ↦{fullShare} V main_arg8) ∗ (((c : Thread nD τ).loc main_arg9) ↦{fullShare} V main_arg9) ∗ (((c : Thread nD τ).loc main_arg10) ↦{fullShare} V main_arg10) ∗ (((c : Thread nD τ).loc main_v0) ↦{fullShare} V main_v0)) := by
  rw [BI.bigSep_eq_bigSepL_of_eq [main_arg0, main_arg1, main_arg2, main_arg4, main_arg5, main_arg6, main_arg7, main_arg8, main_arg9, main_arg10, main_v0] (by decide) (by decide)]; rfl
/-- The result the body writes itself. -/
def R0 : Finset (Ref sig .tc) := {main_v1_2}
theorem R0_sub : R0 ⊆ Pipeline.restRefs sig spec0 \ H0 := by decide
theorem owned0_eq : (Pipeline.owned R0 c : sProp 𝕄) = iprop((∃ f : Buf (Elt F) ((c : Thread nD τ).loc main_v1_2), ((c : Thread nD τ).loc main_v1_2) ↦{fullShare} f)) := by
  unfold Pipeline.owned; rw [BI.bigSep_eq_bigSepL_of_eq [main_v1_2] (by decide) (by decide)]; rfl
theorem held_scr (b : Ref sig .tc) (f : Buf (Elt F) ((c : Thread nD τ).loc b)) : (held c (Memref.whole b) f : sProp 𝕄) = (((c : Thread nD τ).loc b) ↦{fullShare} f) := by
  show (((c : Thread nD τ).loc b) ↦[(View.whole b).set]{fullShare} f) = _
  rw [View.set_whole]

end Phi

section Sound

variable (c : Dev nD) (V : (b : Ref sig .tc) → Buf (Elt F) ((c : Thread nD τ).loc b))
  (arg11 : Memref sig .tc .vmem S1x12 .f32) (harg11 : arg11.IsWhole) (arg12 : Memref sig .tc .vmem S12x20 .f32) (harg12 : arg12.IsWhole)

/-- The region's invariant beside the two results and the waits owed. -/
def regionSt : sProp 𝕄 :=
  iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch17), ((c : Thread nD τ).loc cc0_scratch17) ↦{fullShare} f) ∗ (∃ f : Buf (Elt F) ((c : Thread nD τ).loc cc0_scratch18), ((c : Thread nD τ).loc cc0_scratch18) ↦{fullShare} f) ∗ (∃ f : Buf (Elt F) ((c : Thread nD τ).loc cc0_scratch19), ((c : Thread nD τ).loc cc0_scratch19) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f) ∗ (∃ f : Buf (Elt F) ((c : Thread nD τ).loc cc0_scratch14), ((c : Thread nD τ).loc cc0_scratch14) ↦{fullShare} f) ∗ (∃ f : Buf (Elt F) ((c : Thread nD τ).loc cc0_scratch15), ((c : Thread nD τ).loc cc0_scratch15) ↦{fullShare} f) ∗ (∃ f : Buf (Elt F) ((c : Thread nD τ).loc cc0_scratch16), ((c : Thread nD τ).loc cc0_scratch16) ↦{fullShare} f))
    ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)
    ∗ ((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_arg7) ↦{fullShare} V main_arg7) ∗ (((c : Thread nD τ).loc main_arg8) ↦{fullShare} V main_arg8) ∗ (((c : Thread nD τ).loc main_arg9) ↦{fullShare} V main_arg9) ∗ (((c : Thread nD τ).loc main_arg10) ↦{fullShare} V main_arg10) ∗ (((c : Thread nD τ).loc main_v0) ↦{fullShare} V main_v0))
    ∗ (∃ f : Buf (Elt F) ((c : Thread nD τ).loc main_v1_2), ((c : Thread nD τ).loc main_v1_2) ↦{fullShare} f)
    ∗ (∃ f, held c arg11 f) ∗ (∃ f, held c arg12 f) ∗ (∃ W, owes (c : Thread nD τ) 0 W))

abbrev bodyV : sProp 𝕄 := bodySt c (V main_arg2) arg11 arg12 (V main_arg0) (V main_v0) (V main_arg4) (V main_arg10) (V main_arg1) (V main_arg5) (V main_arg6) (V main_arg7) (V main_arg8) (V main_arg9)

theorem region_body : regionSt c V arg11 arg12 ⊢ bodyV c V arg11 arg12 := by
  unfold regionSt bodyV bodySt
  iintro ⟨⟨Hwb, Hxr, Hxp, Hwc, Hid, Hcd, Hcl, Hch, Hhi, Hz, Hcf, Hrm, Hrs, Hpk, Hsx, Hsh, Hsp, Hsr, Hsf, Hse⟩, ⟨Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Vmain_arg0, Vmain_arg1, Vmain_arg2, Vmain_arg4, Vmain_arg5, Vmain_arg6, Vmain_arg7, Vmain_arg8, Vmain_arg9, Vmain_arg10, Vmain_v0⟩, Ho, H11, H12, HO⟩
  isplitl [Hwb]; · iexact Hwb
  isplitl [Hz]; · iexact Hz
  isplitl [Ho]; · iexact Ho
  isplitl [Vmain_arg2]; · iexact Vmain_arg2
  isplitl [Hxr]; · icases Hxr with ⟨%f, Hxr⟩; iexists f; iapply (Entails.of_eq (held_scr c cc0_scratch1 f).symm); iexact Hxr
  isplitl [Hxp]; · icases Hxp with ⟨%f, Hxp⟩; iexists f; iapply (Entails.of_eq (held_scr c cc0_scratch2 f).symm); iexact Hxp
  isplitl [Hwc]; · icases Hwc with ⟨%f, Hwc⟩; iexists f; iapply (Entails.of_eq (held_scr c cc0_scratch3 f).symm); iexact Hwc
  isplitl [Hid]; · icases Hid with ⟨%f, Hid⟩; iexists f; iapply (Entails.of_eq (held_scr c cc0_scratch4 f).symm); iexact Hid
  isplitl [Hcd]; · icases Hcd with ⟨%f, Hcd⟩; iexists f; iapply (Entails.of_eq (held_scr c cc0_scratch5 f).symm); iexact Hcd
  isplitl [Hcl]; · icases Hcl with ⟨%f, Hcl⟩; iexists f; iapply (Entails.of_eq (held_scr c cc0_scratch6 f).symm); iexact Hcl
  isplitl [Hch]; · icases Hch with ⟨%f, Hch⟩; iexists f; iapply (Entails.of_eq (held_scr c cc0_scratch7 f).symm); iexact Hch
  isplitl [Hhi]; · icases Hhi with ⟨%f, Hhi⟩; iexists f; iapply (Entails.of_eq (held_scr c cc0_scratch8 f).symm); iexact Hhi
  isplitl [Hcf]; · icases Hcf with ⟨%f, Hcf⟩; iexists f; iapply (Entails.of_eq (held_scr c cc0_scratch10 f).symm); iexact Hcf
  isplitl [Hrm]; · icases Hrm with ⟨%f, Hrm⟩; iexists f; iapply (Entails.of_eq (held_scr c cc0_scratch17 f).symm); iexact Hrm
  isplitl [Hrs]; · icases Hrs with ⟨%f, Hrs⟩; iexists f; iapply (Entails.of_eq (held_scr c cc0_scratch18 f).symm); iexact Hrs
  isplitl [Hpk]; · icases Hpk with ⟨%f, Hpk⟩; iexists f; iapply (Entails.of_eq (held_scr c cc0_scratch19 f).symm); iexact Hpk
  isplitl [Hsx]; · icases Hsx with ⟨%f, Hsx⟩; iexists f; iapply (Entails.of_eq (held_scr c cc0_scratch11 f).symm); iexact Hsx
  isplitl [Hsh]; · icases Hsh with ⟨%f, Hsh⟩; iexists f; iapply (Entails.of_eq (held_scr c cc0_scratch12 f).symm); iexact Hsh
  isplitl [Hsp]; · icases Hsp with ⟨%f, Hsp⟩; iexists f; iapply (Entails.of_eq (held_scr c cc0_scratch13 f).symm); iexact Hsp
  isplitl [Hsr]; · icases Hsr with ⟨%f, Hsr⟩; iexists f; iapply (Entails.of_eq (held_scr c cc0_scratch14 f).symm); iexact Hsr
  isplitl [Hsf]; · icases Hsf with ⟨%f, Hsf⟩; iexists f; iapply (Entails.of_eq (held_scr c cc0_scratch15 f).symm); iexact Hsf
  isplitl [Hse]; · icases Hse with ⟨%f, Hse⟩; iexists f; iapply (Entails.of_eq (held_scr c cc0_scratch16 f).symm); iexact Hse
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Vmain_arg0]; · iapply (Entails.of_eq (held_scr c main_arg0 _).symm); iexact Vmain_arg0
  isplitl [Vmain_v0]; · iapply (Entails.of_eq (held_scr c main_v0 _).symm); iexact Vmain_v0
  isplitl [Vmain_arg4]; · iapply (Entails.of_eq (held_scr c main_arg4 _).symm); iexact Vmain_arg4
  isplitl [Vmain_arg10]; · iapply (Entails.of_eq (held_scr c main_arg10 _).symm); iexact Vmain_arg10
  isplitl [Vmain_arg1]; · iapply (Entails.of_eq (held_scr c main_arg1 _).symm); iexact Vmain_arg1
  isplitl [Vmain_arg5]; · iapply (Entails.of_eq (held_scr c main_arg5 _).symm); iexact Vmain_arg5
  isplitl [Vmain_arg6]; · iapply (Entails.of_eq (held_scr c main_arg6 _).symm); iexact Vmain_arg6
  isplitl [Vmain_arg7]; · iapply (Entails.of_eq (held_scr c main_arg7 _).symm); iexact Vmain_arg7
  isplitl [Vmain_arg8]; · iapply (Entails.of_eq (held_scr c main_arg8 _).symm); iexact Vmain_arg8
  isplitl [Vmain_arg9]; · iapply (Entails.of_eq (held_scr c main_arg9 _).symm); iexact Vmain_arg9
  isplitl [H11]; · iexact H11
  isplitl [H12]; · iexact H12
  iexact HO

theorem body_region : bodyV c V arg11 arg12 ⊢ regionSt c V arg11 arg12 := by
  unfold regionSt bodyV bodySt
  iintro ⟨Hwb, Hz, Ho, Vmain_arg2, Hxr, Hxp, Hwc, Hid, Hcd, Hcl, Hch, Hhi, Hcf, Hrm, Hrs, Hpk, Hsx, Hsh, Hsp, Hsr, Hsf, Hse, Hq2, Hq3, Hq4, Hq5, Hq6, Hq7, Hq8, Hq9, Hq10, Hq11, Hq12, Hq13, Hq14, Hq15, Hq16, Hq17, Hq18, Hq19, Hq20, Hq21, Hq22, Hq23, Hq24, Hq25, Vmain_arg0, Vmain_v0, Vmain_arg4, Vmain_arg10, Vmain_arg1, Vmain_arg5, Vmain_arg6, Vmain_arg7, Vmain_arg8, Vmain_arg9, H11, H12, HO⟩
  isplitl [Hwb Hxr Hxp Hwc Hid Hcd Hcl Hch Hhi Hz Hcf Hrm Hrs Hpk Hsx Hsh Hsp Hsr Hsf Hse]
  · isplitl [Hwb]; · iexact Hwb
    isplitl [Hxr]; · icases Hxr with ⟨%f, Hxr⟩; iexists f; iapply (Entails.of_eq (held_scr c cc0_scratch1 f)); iexact Hxr
    isplitl [Hxp]; · icases Hxp with ⟨%f, Hxp⟩; iexists f; iapply (Entails.of_eq (held_scr c cc0_scratch2 f)); iexact Hxp
    isplitl [Hwc]; · icases Hwc with ⟨%f, Hwc⟩; iexists f; iapply (Entails.of_eq (held_scr c cc0_scratch3 f)); iexact Hwc
    isplitl [Hid]; · icases Hid with ⟨%f, Hid⟩; iexists f; iapply (Entails.of_eq (held_scr c cc0_scratch4 f)); iexact Hid
    isplitl [Hcd]; · icases Hcd with ⟨%f, Hcd⟩; iexists f; iapply (Entails.of_eq (held_scr c cc0_scratch5 f)); iexact Hcd
    isplitl [Hcl]; · icases Hcl with ⟨%f, Hcl⟩; iexists f; iapply (Entails.of_eq (held_scr c cc0_scratch6 f)); iexact Hcl
    isplitl [Hch]; · icases Hch with ⟨%f, Hch⟩; iexists f; iapply (Entails.of_eq (held_scr c cc0_scratch7 f)); iexact Hch
    isplitl [Hhi]; · icases Hhi with ⟨%f, Hhi⟩; iexists f; iapply (Entails.of_eq (held_scr c cc0_scratch8 f)); iexact Hhi
    isplitl [Hz]; · iexact Hz
    isplitl [Hcf]; · icases Hcf with ⟨%f, Hcf⟩; iexists f; iapply (Entails.of_eq (held_scr c cc0_scratch10 f)); iexact Hcf
    isplitl [Hrm]; · icases Hrm with ⟨%f, Hrm⟩; iexists f; iapply (Entails.of_eq (held_scr c cc0_scratch17 f)); iexact Hrm
    isplitl [Hrs]; · icases Hrs with ⟨%f, Hrs⟩; iexists f; iapply (Entails.of_eq (held_scr c cc0_scratch18 f)); iexact Hrs
    isplitl [Hpk]; · icases Hpk with ⟨%f, Hpk⟩; iexists f; iapply (Entails.of_eq (held_scr c cc0_scratch19 f)); iexact Hpk
    isplitl [Hsx]; · icases Hsx with ⟨%f, Hsx⟩; iexists f; iapply (Entails.of_eq (held_scr c cc0_scratch11 f)); iexact Hsx
    isplitl [Hsh]; · icases Hsh with ⟨%f, Hsh⟩; iexists f; iapply (Entails.of_eq (held_scr c cc0_scratch12 f)); iexact Hsh
    isplitl [Hsp]; · icases Hsp with ⟨%f, Hsp⟩; iexists f; iapply (Entails.of_eq (held_scr c cc0_scratch13 f)); iexact Hsp
    isplitl [Hsr]; · icases Hsr with ⟨%f, Hsr⟩; iexists f; iapply (Entails.of_eq (held_scr c cc0_scratch14 f)); iexact Hsr
    isplitl [Hsf]; · icases Hsf with ⟨%f, Hsf⟩; iexists f; iapply (Entails.of_eq (held_scr c cc0_scratch15 f)); iexact Hsf
    icases Hse with ⟨%f, Hse⟩; iexists f; iapply (Entails.of_eq (held_scr c cc0_scratch16 f)); iexact Hse
  isplitl [Hq2 Hq3 Hq4 Hq5 Hq6 Hq7 Hq8 Hq9 Hq10 Hq11 Hq12 Hq13 Hq14 Hq15 Hq16 Hq17 Hq18 Hq19 Hq20 Hq21 Hq22 Hq23 Hq24 Hq25]
  · isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexact Hq25
  isplitl [Vmain_arg0 Vmain_arg1 Vmain_arg2 Vmain_arg4 Vmain_arg5 Vmain_arg6 Vmain_arg7 Vmain_arg8 Vmain_arg9 Vmain_arg10 Vmain_v0]
  · isplitl [Vmain_arg0]; · iapply (Entails.of_eq (held_scr c main_arg0 _)); iexact Vmain_arg0
    isplitl [Vmain_arg1]; · iapply (Entails.of_eq (held_scr c main_arg1 _)); iexact Vmain_arg1
    isplitl [Vmain_arg2]; · iexact Vmain_arg2
    isplitl [Vmain_arg4]; · iapply (Entails.of_eq (held_scr c main_arg4 _)); iexact Vmain_arg4
    isplitl [Vmain_arg5]; · iapply (Entails.of_eq (held_scr c main_arg5 _)); iexact Vmain_arg5
    isplitl [Vmain_arg6]; · iapply (Entails.of_eq (held_scr c main_arg6 _)); iexact Vmain_arg6
    isplitl [Vmain_arg7]; · iapply (Entails.of_eq (held_scr c main_arg7 _)); iexact Vmain_arg7
    isplitl [Vmain_arg8]; · iapply (Entails.of_eq (held_scr c main_arg8 _)); iexact Vmain_arg8
    isplitl [Vmain_arg9]; · iapply (Entails.of_eq (held_scr c main_arg9 _)); iexact Vmain_arg9
    isplitl [Vmain_arg10]; · iapply (Entails.of_eq (held_scr c main_arg10 _)); iexact Vmain_arg10
    iapply (Entails.of_eq (held_scr c main_v0 _)); iexact Vmain_v0
  isplitl [Ho]; · iexact Ho
  isplitl [H11]; · iexact H11
  isplitl [H12]; · iexact H12
  iexact HO

end Sound

variable (m : (ℓ : Loc nD τ sig) → Buf (Elt F) ℓ) (ρ : Dev nD → PrngReg)

/-- The region's proof data: what the arrays hold, the region's invariant, nothing owed. -/
def dats (_ : Fin 1) (c : Dev nD) : Dat τ (Elt F) Unit ℕ (Pipeline.UD sig nD τ) ℕ cfg0 c where
  A w := V m c (Pipeline.arrRef spec0 w)
  after w _ := match w with
    | ⟨0, _⟩ => fun _ => Scalar.ofBits .f32 0x00000000#32
    | ⟨1, _⟩ => fun _ => Scalar.ofBits .f32 0x00000000#32
  Φ _ := Pipeline.ΦDR osem0 spec0 H0 R0 (V m) c
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    (iprop((dats m 0 c).Φ t.castSucc ∗ (dats m 0 c).owesAt () t.castSucc
      ∗ (∃ X, owns (c : Thread nD τ) (win0_0.stage (cfg0.slots t 0)) fullShare X) ∗ (∃ X, owns (c : Thread nD τ) (win0_1.stage (cfg0.slots t 1)) fullShare X)) : sProp 𝕄)
    ⊢ wp frame (wpE (defs₀ (F := F)) 𝒱₀ (c : Thread nD τ) none) Set.univ (bodyAt0 t)
      (fun _ => iprop((dats m 0 c).Φ t.succ ∗ (dats m 0 c).owesAt () t.succ
      ∗ (∃ X, owns (c : Thread nD τ) (win0_0.stage (cfg0.slots t 0)) fullShare X) ∗ (∃ X, owns (c : Thread nD τ) (win0_1.stage (cfg0.slots t 1)) fullShare X))) := by
  have hΦ (s) : (dats m 0 c).Φ s = Pipeline.ΦDR osem0 spec0 H0 R0 (V m) c := rfl
  rw [hΦ, hΦ, Pipeline.ΦDR_eq, scopedRest0_eq, ownSems00_eq, hbmPts0_eq c (V m c), owned0_eq]
  unfold Dat.owesAt Pipeline.owesWithin
  rw [show (dats m 0 c).owed t.castSucc = 0 from rfl, show (dats m 0 c).owed t.succ = 0 from rfl]
  unfold owns
  have hrun := body_run c (V m c main_arg2) (win0_0.stage (cfg0.slots t 0)) (hstage0_0 0) (win0_1.stage (cfg0.slots t 1)) (hstage0_1 0)
    (V m c main_arg0) (V m c main_v0) (V m c main_arg4) (V m c main_arg10) (V m c main_arg1) (V m c main_arg5) (V m c main_arg6) (V m c main_arg7) (V m c main_arg8) (V m c main_arg9)
  have h1 : (iprop(regionSt c (V m c) (win0_0.stage (cfg0.slots t 0)) (win0_1.stage (cfg0.slots t 1)) ∗ ∃ r, prngReg c r) : sProp 𝕄)
      ⊢ wp frame (wpE (defs₀ (F := F)) 𝒱₀ (c : Thread nD τ) none) Set.univ (bodyAt0 t) (fun _ => iprop(bodyV c (V m c) (win0_0.stage (cfg0.slots t 0)) (win0_1.stage (cfg0.slots t 1)) ∗ ∃ r, prngReg c r)) :=
    (Idealize.SL.BI.sep_mono_l ((region_body c (V m c) (win0_0.stage (cfg0.slots t 0)) (win0_1.stage (cfg0.slots t 1))).trans hrun)).trans (wp_frame_r _ _ _)
  have h2 : (iprop(bodyV c (V m c) (win0_0.stage (cfg0.slots t 0)) (win0_1.stage (cfg0.slots t 1)) ∗ ∃ r, prngReg c r) : sProp 𝕄) ⊢ iprop(regionSt c (V m c) (win0_0.stage (cfg0.slots t 0)) (win0_1.stage (cfg0.slots t 1)) ∗ ∃ r, prngReg c r) :=
    Idealize.SL.BI.sep_mono_l (body_region c (V m c) (win0_0.stage (cfg0.slots t 0)) (win0_1.stage (cfg0.slots t 1)))
  refine triple_restated h1 rfl ?_ fun _ => h2.trans ?_
  · unfold regionSt
    iintro ⟨⟨HS, Hg, Hq, HV, Ho⟩, ⟨%W, -, HW⟩, ⟨%X0, %f0, -, H11⟩, ⟨%X1, %f1, -, H12⟩⟩
    isplitr [Hg]
    swap; · iexact Hg
    isplitl [HS]; · iexact HS
    isplitl [Hq]; · iexact Hq
    isplitl [HV]; · iexact HV
    isplitl [Ho]; · iexact Ho
    isplitl [H11]; · iexists _; iexact H11
    isplitl [H12]; · iexists _; iexact H12
    iexists _; iexact HW
  · unfold regionSt
    iintro ⟨⟨HS, Hq, HV, Ho, ⟨%f0, H11⟩, ⟨%f1, H12⟩, ⟨%W, HW⟩⟩, Hg⟩
    isplitl [HS Hq HV Ho Hg]
    · isplitl [HS]; · iexact HS
      isplitl [Hg]; · iexact Hg
      isplitl [Hq]; · iexact Hq
      isplitl [HV]; · iexact HV
      iexact Ho
    isplitl [HW]
    · iexists W; isplitr; · ipureintro; exact fun _ _ => Or.inl trivial
      iexact HW
    isplitl [H11]
    · iexists _; iexists f0; isplitr; · ipureintro; rfl
      iexact H11
    · iexists _; iexists f1; isplitr; · ipureintro; rfl
      iexact H12

theorem body_obligation (c : Dev nD) : BodyObligationLoose (dats (F := F) m 0 c) (defs₀ (F := F)) 𝒱₀ () Set.univ (fun _ => true) := fun t => by
  rw [bigSep_W0, defs₀_row]
  exact sound_body m c t

theorem hmainU : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What the run leaves. -/
abbrev RunPost (r : PUnit × MemSt nD τ sig (Elt F)) : Prop :=
  Pipeline.RDat.FramePostR cfg0 (fun c => (dats m 0 c).toRForget fun _ => true) R0 (V m) r ∧ r.2.sem = fun _ => 0

set_option backward.isDefEq.respectTransparency.types false in
theorem run_main : θ_run defs (onTc (τ := τ) (main (F := F))) (s₀ m ρ) (RunPost m) :=
  Pipeline.θ_run_frame_dmaR_forget cfgs (dats m) (0 : Fin 1) launch0 osem0 defs₀ 𝒱₀ (fun _ => true) ownSemFacts0 H0 R0 H0_sub R0_sub m ρ main
    (hbody := body_obligation m) (hshare := fun c => (dats m 0 c).share_full fun _ => rfl) (howed := fun _ _ => rfl)
    (V := V m) (hmain := hmainU m) (hA := fun _ _ => rfl) (hin := fun _ => .rfl) (hout := fun _ => .rfl) (Q' := RunPost m) (hQ' := fun _ h => h)

/-- The program runs, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => by
    have key (c : Dev nD) (b : Ref sig .tc) (hb : b ∈ Pipeline.restRefs sig spec0 \ R0) : r.2.mem ((c.tc : Thread nD τ).loc b) = V m c b := (h.1 c).2 b hb
    exact ⟨fun c => ⟨(key c main_arg0 (Finset.mem_sdiff.mpr ⟨Pipeline.mem_restRefs_of main_arg0 (by decide) (by decide), by decide⟩)).trans (V_main_arg0 m c),
      (key c main_arg1 (Finset.mem_sdiff.mpr ⟨Pipeline.mem_restRefs_of main_arg1 (by decide) (by decide), by decide⟩)).trans (V_main_arg1 m c),
      (key c main_arg2 (Finset.mem_sdiff.mpr ⟨Pipeline.mem_restRefs_of main_arg2 (by decide) (by decide), by decide⟩)).trans (V_main_arg2 m c),
      (key c main_arg3 (Finset.mem_sdiff.mpr ⟨Pipeline.mem_restRefs_of main_arg3 (by decide) (by decide), by decide⟩)).trans (V_main_arg3 m c),
      (key c main_arg4 (Finset.mem_sdiff.mpr ⟨Pipeline.mem_restRefs_of main_arg4 (by decide) (by decide), by decide⟩)).trans (V_main_arg4 m c),
      (key c main_arg5 (Finset.mem_sdiff.mpr ⟨Pipeline.mem_restRefs_of main_arg5 (by decide) (by decide), by decide⟩)).trans (V_main_arg5 m c),
      (key c main_arg6 (Finset.mem_sdiff.mpr ⟨Pipeline.mem_restRefs_of main_arg6 (by decide) (by decide), by decide⟩)).trans (V_main_arg6 m c),
      (key c main_arg7 (Finset.mem_sdiff.mpr ⟨Pipeline.mem_restRefs_of main_arg7 (by decide) (by decide), by decide⟩)).trans (V_main_arg7 m c),
      (key c main_arg8 (Finset.mem_sdiff.mpr ⟨Pipeline.mem_restRefs_of main_arg8 (by decide) (by decide), by decide⟩)).trans (V_main_arg8 m c),
      (key c main_arg9 (Finset.mem_sdiff.mpr ⟨Pipeline.mem_restRefs_of main_arg9 (by decide) (by decide), by decide⟩)).trans (V_main_arg9 m c),
      (key c main_arg10 (Finset.mem_sdiff.mpr ⟨Pipeline.mem_restRefs_of main_arg10 (by decide) (by decide), by decide⟩)).trans (V_main_arg10 m c)⟩, h.2⟩) (run_main m ρ)

end Cert.Proof.Kernel
end
-- ==== Proof.KernelIdeal.Names.lean ====
/-
  The names the body's slices go by: column block `b` of the weights, ring slot `s`, the five column windows of the
  tail, column slab `b` of the logits (in VMEM and in the result), and the cells they are copied on. Each printed
  slice is one of these names (`@[sl_canon]`), its offset a closed form of the trip.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra: the pipeline library's cells beside the counters the kernel's own transfers ride on. -/
abbrev UU (nD : Nat) (τ : Topo) : Type := UR sig nD τ × Counters
abbrev EP : Emb (UR sig nD τ) (MT nD τ sig Unit (Elt F) ℕ (UU nD τ) ℕ) := embL
abbrev 𝒱₀ : Variants := Variants.none

/-! ## The arrays -/

abbrev xM : Memref sig .tc .hbm S12x4096 .fp8e4m3 := Memref.whole main_arg0
abbrev wM : Memref sig .tc .hbm S4096x32000 .fp8e4m3 := Memref.whole main_arg2
abbrev wsM : Memref sig .tc .hbm S250x128 .f32 := Memref.whole main_v0
abbrev idsM : Memref sig .tc .hbm S12x2048 .i32 := Memref.whole main_arg4
abbrev candM : Memref sig .tc .hbm S12x20 .i32 := Memref.whole main_arg10
abbrev xsM : Memref sig .tc .hbm S12 .f32 := Memref.whole main_arg1
abbrev hlM : Memref sig .tc .hbm S12 .i32 := Memref.whole main_arg5
abbrev plM : Memref sig .tc .hbm S12 .i32 := Memref.whole main_arg6
abbrev prM : Memref sig .tc .hbm S12 .f32 := Memref.whole main_arg7
abbrev frM : Memref sig .tc .hbm S12 .f32 := Memref.whole main_arg8
abbrev rpM : Memref sig .tc .hbm S12 .f32 := Memref.whole main_arg9
abbrev outM : Memref sig .tc .hbm S12x32000 .f32 := Memref.whole main_v1_2
abbrev wbM : Memref sig .tc .vmem S8x4096x1280 .fp8e4m3 := Memref.whole cc0_scratch0
abbrev xrM : Memref sig .tc .vmem S12x4096 .fp8e4m3 := Memref.whole cc0_scratch1
abbrev xpM : Memref sig .tc .vmem S32x4096 .fp8e4m3 := Memref.whole cc0_scratch2
abbrev wcM : Memref sig .tc .vmem S250x128 .f32 := Memref.whole cc0_scratch3
abbrev idM : Memref sig .tc .vmem S12x2048 .i32 := Memref.whole cc0_scratch4
abbrev cdM : Memref sig .tc .vmem S12x20 .i32 := Memref.whole cc0_scratch5
abbrev clM : Memref sig .tc .vmem S16x128 .i32 := Memref.whole cc0_scratch6
abbrev chM : Memref sig .tc .vmem S16x128 .i32 := Memref.whole cc0_scratch7
abbrev hiM : Memref sig .tc .vmem S256x16x128 .f32 := Memref.whole cc0_scratch8
abbrev zM : Memref sig .tc .vmem S12x32000 .f32 := Memref.whole cc0_scratch9
abbrev cfM : Memref sig .tc .vmem S4x16x128 .f32 := Memref.whole cc0_scratch10
abbrev sxM : Memref sig .tc .smem S12 .f32 := Memref.whole cc0_scratch11
abbrev shM : Memref sig .tc .smem S12 .i32 := Memref.whole cc0_scratch12
abbrev spM : Memref sig .tc .smem S12 .i32 := Memref.whole cc0_scratch13
abbrev srM : Memref sig .tc .smem S12 .f32 := Memref.whole cc0_scratch14
abbrev sfM : Memref sig .tc .smem S12 .f32 := Memref.whole cc0_scratch15
abbrev seM : Memref sig .tc .smem S12 .f32 := Memref.whole cc0_scratch16
abbrev rmM : Memref sig .tc .vmem S16x128 .f32 := Memref.whole cc0_scratch17
abbrev rsM : Memref sig .tc .vmem S16x128 .f32 := Memref.whole cc0_scratch18
abbrev pkM : Memref sig .tc .vmem S16x128 .f32 := Memref.whole cc0_scratch19

/-! ## Blocks, slots, windows and cells -/

abbrev wOff (b : Fin 24) : Fin 2 → Nat := ![0, b.val * 1280]
theorem wOff_inb (b : Fin 24) : ∀ a, wOff b a + S4096x1280.size a ≤ S4096x32000.size a := by
  have := b.isLt; intro a; fin_cases a
  · show 0 + 4096 ≤ 4096; omega
  · show b.val * 1280 + 1280 ≤ 32000; omega
abbrev tOff (p : Fin 5) : Fin 2 → Nat := ![0, 30720 + p.val * 256]
theorem tOff_inb (p : Fin 5) : ∀ a, tOff p a + S4096x256.size a ≤ S4096x32000.size a := by
  have := p.isLt; intro a; fin_cases a
  · show 0 + 4096 ≤ 4096; omega
  · show 30720 + p.val * 256 + 256 ≤ 32000; omega
abbrev slotOff (s : Fin 8) : Fin 3 → Nat := ![s.val, 0, 0]
theorem slotOff_inb (s : Fin 8) : ∀ a, slotOff s a + S1x4096x1280.size a ≤ S8x4096x1280.size a := by
  have := s.isLt; intro a; fin_cases a
  · show s.val + 1 ≤ 8; omega
  · show 0 + 4096 ≤ 4096; omega
  · show 0 + 1280 ≤ 1280; omega
abbrev colOff (p : Fin 5) : Fin 3 → Nat := ![0, 0, p.val * 256]
theorem colOff_inb (p : Fin 5) : ∀ a, colOff p a + S1x4096x256.size a ≤ S8x4096x1280.size a := by
  have := p.isLt; intro a; fin_cases a
  · show 0 + 1 ≤ 8; omega
  · show 0 + 4096 ≤ 4096; omega
  · show p.val * 256 + 256 ≤ 1280; omega
abbrev zOff (b : Fin 25) : Fin 2 → Nat := ![0, b.val * 1280]
theorem zOff_inb (b : Fin 25) : ∀ a, zOff b a + S12x1280.size a ≤ S12x32000.size a := by
  have := b.isLt; intro a; fin_cases a
  · show 0 + 12 ≤ 12; omega
  · show b.val * 1280 + 1280 ≤ 32000; omega
abbrev semOff (s : Fin 8) : Fin 1 → Nat := ![s.val]
theorem semOff_inb (s : Fin 8) : ∀ a, semOff s a + S1.size a ≤ S8.size a := by
  have := s.isLt; intro a; fin_cases a; show s.val + 1 ≤ 8; omega
abbrev tsemOff (p : Fin 5) : Fin 1 → Nat := ![p.val]
theorem tsemOff_inb (p : Fin 5) : ∀ a, tsemOff p a + S1.size a ≤ S5.size a := by
  have := p.isLt; intro a; fin_cases a; show p.val + 1 ≤ 5; omega

/-- Columns `1280 b … 1280 b + 1279` of the weights. -/
def wblk (b : Fin 24) : Memref sig .tc .hbm S4096x1280 .fp8e4m3 :=
  wM.slice (Rect.unit (s := S4096x32000) (wOff b) S4096x1280.size (wOff_inb b)) (fun _ => rfl)
/-- Tail window `p` of the weights: columns `30720 + 256 p …`. -/
def wtl (p : Fin 5) : Memref sig .tc .hbm S4096x256 .fp8e4m3 :=
  wM.slice (Rect.unit (s := S4096x32000) (tOff p) S4096x256.size (tOff_inb p)) (fun _ => rfl)
/-- Slot `s` of the weight ring. -/
def wslot (s : Fin 8) : Memref sig .tc .vmem S4096x1280 .fp8e4m3 :=
  (wbM.slice (Rect.unit (s := S8x4096x1280) (slotOff s) S1x4096x1280.size (slotOff_inb s)) (fun _ => rfl)).squeeze S4096x1280 squeezes_S1x4096x1280_S4096x1280
/-- Column window `p` of slot 0, which the tail windows land in. -/
def wcol (p : Fin 5) : Memref sig .tc .vmem S4096x256 .fp8e4m3 :=
  (wbM.slice (Rect.unit (s := S8x4096x1280) (colOff p) S1x4096x256.size (colOff_inb p)) (fun _ => rfl)).squeeze S4096x256 squeezes_S1x4096x256_S4096x256
/-- Column slab `b` of the logits in VMEM. -/
def zslab (b : Fin 25) : Memref sig .tc .vmem S12x1280 .f32 :=
  zM.slice (Rect.unit (s := S12x32000) (zOff b) S12x1280.size (zOff_inb b)) (fun _ => rfl)
/-- Column slab `b` of the result. -/
def oslab (b : Fin 25) : Memref sig .tc .hbm S12x1280 .f32 :=
  outM.slice (Rect.unit (s := S12x32000) (zOff b) S12x1280.size (zOff_inb b)) (fun _ => rfl)
/-- Slot `s`'s cell. -/
def csm (s : Fin 8) : DmaSems sig S_ := (cc0_scratch20.slice (Rect.unit (s := S8) (semOff s) S1.size (semOff_inb s))).squeeze S_ squeezes_S1_S_
/-- Tail window `p`'s cell. -/
def tsm (p : Fin 5) : DmaSems sig S_ := (cc0_scratch21.slice (Rect.unit (s := S5) (tsemOff p) S1.size (tsemOff_inb p))).squeeze S_ squeezes_S1_S_
/-- The result copies' one cell. -/
def osm : DmaSems sig S_ := (cc0_scratch24.slice (Rect.unit (s := S1) ![0] S1.size inb_S1_S1_0)).squeeze S_ squeezes_S1_S_

instance (s : Fin 8) : ClosedOff (slotOff s) := ⟨slotOff s, rfl⟩
instance (b : Fin 24) : ClosedOff (wOff b) := ⟨wOff b, rfl⟩
instance (b : Fin 25) : ClosedOff (zOff b) := ⟨zOff b, rfl⟩
instance (p : Fin 5) : ClosedOff (tOff p) := ⟨tOff p, rfl⟩
instance (p : Fin 5) : ClosedOff (colOff p) := ⟨colOff p, rfl⟩

/-! ## The trip's chains in closed form -/

section Chain
open Affine

theorem trips2 : k0_t2_loop.trips = 24 := by decide
theorem trips3 : k0_t3_loop.trips = 25 := by decide
theorem trips1 : k0_t1_loop.trips = 12 := by decide
theorem lt24 (k : Fin k0_t2_loop.trips) : k.val < 24 := Nat.lt_of_lt_of_eq k.isLt trips2

theorem isInt_iv (k : Fin k0_t2_loop.trips) : IsInt (Scf.iv 0#32 1#32 k.val) k.val := by
  have := lt24 k
  exact iv (e := k.val) (ofNat (e := 0) 0 ⟨rfl, by decide⟩) (ofNat (e := 1) 1 ⟨rfl, by decide⟩) k.val ⟨by omega, by omega, by omega⟩
theorem isInt_rem (k : Fin k0_t2_loop.trips) : IsInt (Scalar.remsi (Scf.iv 0#32 1#32 k.val) 8#32) (k.val % 8 : Nat) :=
  remsi (e := (k.val % 8 : Nat)) (isInt_iv k) (ofNat (e := 8) 8 ⟨rfl, by decide⟩) ⟨by omega, by omega, by omega⟩
theorem isInt_mul (k : Fin k0_t2_loop.trips) : IsInt (Scalar.muli (Scf.iv 0#32 1#32 k.val) 1280#32) (k.val * 1280 : Nat) := by
  have := lt24 k
  exact muli (e := (k.val * 1280 : Nat)) (isInt_iv k) (ofNat (e := 1280) 1280 ⟨rfl, by decide⟩) ⟨by push_cast; omega, by omega, by omega⟩
theorem isInt_add8 (k : Fin k0_t2_loop.trips) : IsInt (Scalar.addi (Scf.iv 0#32 1#32 k.val) 8#32) (k.val + 8 : Nat) := by
  have := lt24 k
  exact addi (e := (k.val + 8 : Nat)) (isInt_iv k) (ofNat (e := 8) 8 ⟨rfl, by decide⟩) ⟨by push_cast; omega, by omega, by omega⟩
theorem isInt_mul8 (k : Fin k0_t2_loop.trips) : IsInt (Scalar.muli (Scalar.addi (Scf.iv 0#32 1#32 k.val) 8#32) 1280#32) ((k.val + 8) * 1280 : Nat) := by
  have := lt24 k
  exact muli (e := ((k.val + 8) * 1280 : Nat)) (isInt_add8 k) (ofNat (e := 1280) 1280 ⟨rfl, by decide⟩) ⟨by push_cast; omega, by omega, by omega⟩
theorem isInt_sub (k : Fin k0_t2_loop.trips) (hk : 0 < k.val) : IsInt (Scalar.subi (Scf.iv 0#32 1#32 k.val) 1#32) (k.val - 1 : Nat) := by
  have := lt24 k
  exact subi (e := (k.val - 1 : Nat)) (isInt_iv k) (ofNat (e := 1) 1 ⟨rfl, by decide⟩) ⟨by omega, by omega, by omega⟩
theorem isInt_subm (k : Fin k0_t2_loop.trips) (hk : 0 < k.val) : IsInt (Scalar.muli (Scalar.subi (Scf.iv 0#32 1#32 k.val) 1#32) 1280#32) ((k.val - 1) * 1280 : Nat) := by
  have := lt24 k
  exact muli (e := ((k.val - 1) * 1280 : Nat)) (isInt_sub k hk) (ofNat (e := 1280) 1280 ⟨rfl, by decide⟩) ⟨by push_cast; omega, by omega, by omega⟩

theorem off4_eq (k : Fin k0_t2_loop.trips) : k0_off4 k = semOff (Ring.sl 8 k.val) :=
  vec_cons (isInt_rem k) (by simp [Ring.sl, Fin.ofNat]) vec_nil
theorem off5_eq (k : Fin k0_t2_loop.trips) : k0_off5 k = slotOff (Ring.sl 8 k.val) :=
  vec_cons (isInt_rem k) (by simp [Ring.sl, Fin.ofNat]) rfl
theorem off7_eq (k : Fin k0_t2_loop.trips) : k0_off7 k = slotOff (Ring.sl 8 k.val) :=
  vec_cons (indexCast (isInt_rem k)) (by simp [Ring.sl, Fin.ofNat]) rfl
theorem off8_eq (k : Fin k0_t2_loop.trips) : k0_off8 k = semOff (Ring.sl 8 k.val) :=
  vec_cons (isInt_rem k) (by simp [Ring.sl, Fin.ofNat]) vec_nil
theorem off9_eq (k : Fin k0_t2_loop.trips) : k0_off9 k = slotOff (Ring.sl 8 k.val) :=
  vec_cons (isInt_rem k) (by simp [Ring.sl, Fin.ofNat]) rfl
theorem off6_eq (k : Fin k0_t2_loop.trips) : k0_off6 k = wOff (Ring.bk 24 k.val) := by
  refine congrArg (Matrix.vecCons 0) (vec_cons (isInt_mul k) ?_ vec_nil)
  rw [Ring.bk_val (lt24 k)]
theorem off10_eq (k : Fin k0_t2_loop.trips) (hk : k.val + 8 < 24) : k0_off10 k = wOff (Ring.bk 24 (k.val + 8)) := by
  refine congrArg (Matrix.vecCons 0) (vec_cons (isInt_mul8 k) ?_ vec_nil)
  rw [Ring.bk_val hk]
theorem off14_eq (k : Fin k0_t2_loop.trips) (hk : 0 < k.val) : k0_off14 k = zOff (Ring.bk 25 (k.val - 1)) := by
  refine congrArg (Matrix.vecCons 0) (vec_cons (isInt_subm k hk) ?_ vec_nil)
  rw [Ring.bk_val (by have := lt24 k; omega)]

instance (k : Fin k0_t2_loop.trips) : ClosedOff (k0_off5 k) := ⟨slotOff (Ring.sl 8 k.val), off5_eq k⟩
instance (k : Fin k0_t2_loop.trips) : ClosedOff (k0_off7 k) := ⟨slotOff (Ring.sl 8 k.val), off7_eq k⟩

/-- Chunk `j` of trip `k` is chunk `10 k + j` of the logits. -/
theorem isInt_chunk (k : Fin k0_t2_loop.trips) (j : Fin 10) :
    IsInt (Scalar.addi (Scalar.muli (Scf.iv 0#32 1#32 k.val) 10#32) (BitVec.ofNat 32 j.val)) (k.val * 10 + j.val : Nat) := by
  have := lt24 k; have := j.isLt
  exact addi (e := (k.val * 10 + j.val : Nat)) (muli (e := (k.val * 10 : Nat)) (isInt_iv k) (ofNat (e := 10) 10 ⟨rfl, by decide⟩) ⟨by push_cast; omega, by omega, by omega⟩)
    (ofNat (e := j.val) j.val ⟨rfl, by omega⟩) ⟨by push_cast; omega, by omega, by omega⟩
theorem off11_eq (k : Fin k0_t2_loop.trips) (j : Fin 10) : k0_off11 k (BitVec.ofNat 32 j.val) = ![k.val * 10 + j.val, 0] :=
  vec_cons (indexCast (isInt_chunk k j)) rfl rfl
theorem off12_eq (k : Fin k0_t2_loop.trips) (j : Fin 10) : k0_off12 k (BitVec.ofNat 32 j.val) = ![k.val * 10 + j.val, 0, 0] :=
  vec_cons (indexCast (isInt_chunk k j)) rfl rfl
theorem off13_eq (k : Fin k0_t2_loop.trips) (j : Fin 10) : k0_off13 k (BitVec.ofNat 32 j.val) = ![0, (k.val * 10 + j.val) * 128] := by
  have := lt24 k; have := j.isLt
  exact congrArg (Matrix.vecCons 0) (vec_cons (indexCast (muli (e := ((k.val * 10 + j.val) * 128 : Nat)) (isInt_chunk k j) (ofNat (e := 128) 128 ⟨rfl, by decide⟩)
    ⟨by push_cast; omega, by omega, by omega⟩)) rfl vec_nil)

theorem off13_eq' (k : Fin k0_t2_loop.trips) (j : Fin 10) : k0_off13 k (BitVec.ofNat 32 j.val) = ![0, (Ring.bk 25 k.val).val * 1280 + j.val * 128] := by
  rw [off13_eq, Ring.bk_val (by have := lt24 k; omega)]
  exact congrArg (fun n => ![0, n]) (by omega)

instance (k : Fin k0_t2_loop.trips) : ClosedOff (k0_off13 k 0#32) := ⟨![0, (Ring.bk 25 k.val).val * 1280 + 0], off13_eq' k 0⟩
instance (k : Fin k0_t2_loop.trips) : ClosedOff (k0_off13 k 1#32) := ⟨![0, (Ring.bk 25 k.val).val * 1280 + 128], off13_eq' k 1⟩
instance (k : Fin k0_t2_loop.trips) : ClosedOff (k0_off13 k 2#32) := ⟨![0, (Ring.bk 25 k.val).val * 1280 + 256], off13_eq' k 2⟩
instance (k : Fin k0_t2_loop.trips) : ClosedOff (k0_off13 k 3#32) := ⟨![0, (Ring.bk 25 k.val).val * 1280 + 384], off13_eq' k 3⟩
instance (k : Fin k0_t2_loop.trips) : ClosedOff (k0_off13 k 4#32) := ⟨![0, (Ring.bk 25 k.val).val * 1280 + 512], off13_eq' k 4⟩
instance (k : Fin k0_t2_loop.trips) : ClosedOff (k0_off13 k 5#32) := ⟨![0, (Ring.bk 25 k.val).val * 1280 + 640], off13_eq' k 5⟩
instance (k : Fin k0_t2_loop.trips) : ClosedOff (k0_off13 k 6#32) := ⟨![0, (Ring.bk 25 k.val).val * 1280 + 768], off13_eq' k 6⟩
instance (k : Fin k0_t2_loop.trips) : ClosedOff (k0_off13 k 7#32) := ⟨![0, (Ring.bk 25 k.val).val * 1280 + 896], off13_eq' k 7⟩
instance (k : Fin k0_t2_loop.trips) : ClosedOff (k0_off13 k 8#32) := ⟨![0, (Ring.bk 25 k.val).val * 1280 + 1024], off13_eq' k 8⟩
instance (k : Fin k0_t2_loop.trips) : ClosedOff (k0_off13 k 9#32) := ⟨![0, (Ring.bk 25 k.val).val * 1280 + 1152], off13_eq' k 9⟩

end Chain

/-! ## The canonical-name equations -/

section Canon

theorem csm_congr {off : Fin 1 → Nat} {s : Fin 8} (e : off = semOff s) (hh) :
    (cc0_scratch20.slice (Rect.unit (s := S8) off S1.size hh)).squeeze S_ squeezes_S1_S_ = csm s :=
  congrArg (fun A : DmaSems sig S1 => A.squeeze S_ squeezes_S1_S_) (SemArray.slice_unit_congr _ e _ _)
theorem tsm_congr {off : Fin 1 → Nat} {s : Fin 5} (e : off = tsemOff s) (hh) :
    (cc0_scratch21.slice (Rect.unit (s := S5) off S1.size hh)).squeeze S_ squeezes_S1_S_ = tsm s :=
  congrArg (fun A : DmaSems sig S1 => A.squeeze S_ squeezes_S1_S_) (SemArray.slice_unit_congr _ e _ _)
theorem wslot_congr {off : Fin 3 → Nat} {s : Fin 8} (e : off = slotOff s) (hh hs) :
    (wbM.slice (Rect.unit (s := S8x4096x1280) off S1x4096x1280.size hh) hs).squeeze S4096x1280 squeezes_S1x4096x1280_S4096x1280 = wslot s :=
  congrArg (fun M : Memref sig .tc .vmem S1x4096x1280 .fp8e4m3 => M.squeeze S4096x1280 squeezes_S1x4096x1280_S4096x1280) (Memref.slice_unit_congr _ e _ _ _ _)
theorem wcol_congr {off : Fin 3 → Nat} {s : Fin 5} (e : off = colOff s) (hh hs) :
    (wbM.slice (Rect.unit (s := S8x4096x1280) off S1x4096x256.size hh) hs).squeeze S4096x256 squeezes_S1x4096x256_S4096x256 = wcol s :=
  congrArg (fun M : Memref sig .tc .vmem S1x4096x256 .fp8e4m3 => M.squeeze S4096x256 squeezes_S1x4096x256_S4096x256) (Memref.slice_unit_congr _ e _ _ _ _)
theorem wblk_congr {off : Fin 2 → Nat} {b : Fin 24} (e : off = wOff b) (hh hs) :
    wM.slice (Rect.unit (s := S4096x32000) off S4096x1280.size hh) hs = wblk b := Memref.slice_unit_congr _ e _ _ _ (fun _ => rfl)
theorem wtl_congr {off : Fin 2 → Nat} {b : Fin 5} (e : off = tOff b) (hh hs) :
    wM.slice (Rect.unit (s := S4096x32000) off S4096x256.size hh) hs = wtl b := Memref.slice_unit_congr _ e _ _ _ (fun _ => rfl)
theorem zslab_congr {off : Fin 2 → Nat} {b : Fin 25} (e : off = zOff b) (hh hs) :
    zM.slice (Rect.unit (s := S12x32000) off S12x1280.size hh) hs = zslab b := Memref.slice_unit_congr _ e _ _ _ (fun _ => rfl)
theorem oslab_congr {off : Fin 2 → Nat} {b : Fin 25} (e : off = zOff b) (hh hs) :
    outM.slice (Rect.unit (s := S12x32000) off S12x1280.size hh) hs = oslab b := Memref.slice_unit_congr _ e _ _ _ (fun _ => rfl)

/-! The literal slices. -/
@[sl_canon] theorem semL0 (hh) : (cc0_scratch20.slice (Rect.unit (s := S8) ![0] S1.size hh)).squeeze S_ squeezes_S1_S_ = csm 0 := csm_congr (by decide) _
@[sl_canon] theorem slotL0 (hh hs) : (wbM.slice (Rect.unit (s := S8x4096x1280) ![0, 0, 0] S1x4096x1280.size hh) hs).squeeze S4096x1280 squeezes_S1x4096x1280_S4096x1280 = wslot 0 := wslot_congr (by decide) _ _
@[sl_canon] theorem wblkL0 (hh hs) : wM.slice (Rect.unit (s := S4096x32000) ![0, 0] S4096x1280.size hh) hs = wblk 0 := wblk_congr (by decide) _ _
@[sl_canon] theorem semL1 (hh) : (cc0_scratch20.slice (Rect.unit (s := S8) ![1] S1.size hh)).squeeze S_ squeezes_S1_S_ = csm 1 := csm_congr (by decide) _
@[sl_canon] theorem slotL1 (hh hs) : (wbM.slice (Rect.unit (s := S8x4096x1280) ![1, 0, 0] S1x4096x1280.size hh) hs).squeeze S4096x1280 squeezes_S1x4096x1280_S4096x1280 = wslot 1 := wslot_congr (by decide) _ _
@[sl_canon] theorem wblkL1 (hh hs) : wM.slice (Rect.unit (s := S4096x32000) ![0, 1280] S4096x1280.size hh) hs = wblk 1 := wblk_congr (by decide) _ _
@[sl_canon] theorem semL2 (hh) : (cc0_scratch20.slice (Rect.unit (s := S8) ![2] S1.size hh)).squeeze S_ squeezes_S1_S_ = csm 2 := csm_congr (by decide) _
@[sl_canon] theorem slotL2 (hh hs) : (wbM.slice (Rect.unit (s := S8x4096x1280) ![2, 0, 0] S1x4096x1280.size hh) hs).squeeze S4096x1280 squeezes_S1x4096x1280_S4096x1280 = wslot 2 := wslot_congr (by decide) _ _
@[sl_canon] theorem wblkL2 (hh hs) : wM.slice (Rect.unit (s := S4096x32000) ![0, 2560] S4096x1280.size hh) hs = wblk 2 := wblk_congr (by decide) _ _
@[sl_canon] theorem semL3 (hh) : (cc0_scratch20.slice (Rect.unit (s := S8) ![3] S1.size hh)).squeeze S_ squeezes_S1_S_ = csm 3 := csm_congr (by decide) _
@[sl_canon] theorem slotL3 (hh hs) : (wbM.slice (Rect.unit (s := S8x4096x1280) ![3, 0, 0] S1x4096x1280.size hh) hs).squeeze S4096x1280 squeezes_S1x4096x1280_S4096x1280 = wslot 3 := wslot_congr (by decide) _ _
@[sl_canon] theorem wblkL3 (hh hs) : wM.slice (Rect.unit (s := S4096x32000) ![0, 3840] S4096x1280.size hh) hs = wblk 3 := wblk_congr (by decide) _ _
@[sl_canon] theorem semL4 (hh) : (cc0_scratch20.slice (Rect.unit (s := S8) ![4] S1.size hh)).squeeze S_ squeezes_S1_S_ = csm 4 := csm_congr (by decide) _
@[sl_canon] theorem slotL4 (hh hs) : (wbM.slice (Rect.unit (s := S8x4096x1280) ![4, 0, 0] S1x4096x1280.size hh) hs).squeeze S4096x1280 squeezes_S1x4096x1280_S4096x1280 = wslot 4 := wslot_congr (by decide) _ _
@[sl_canon] theorem wblkL4 (hh hs) : wM.slice (Rect.unit (s := S4096x32000) ![0, 5120] S4096x1280.size hh) hs = wblk 4 := wblk_congr (by decide) _ _
@[sl_canon] theorem semL5 (hh) : (cc0_scratch20.slice (Rect.unit (s := S8) ![5] S1.size hh)).squeeze S_ squeezes_S1_S_ = csm 5 := csm_congr (by decide) _
@[sl_canon] theorem slotL5 (hh hs) : (wbM.slice (Rect.unit (s := S8x4096x1280) ![5, 0, 0] S1x4096x1280.size hh) hs).squeeze S4096x1280 squeezes_S1x4096x1280_S4096x1280 = wslot 5 := wslot_congr (by decide) _ _
@[sl_canon] theorem wblkL5 (hh hs) : wM.slice (Rect.unit (s := S4096x32000) ![0, 6400] S4096x1280.size hh) hs = wblk 5 := wblk_congr (by decide) _ _
@[sl_canon] theorem semL6 (hh) : (cc0_scratch20.slice (Rect.unit (s := S8) ![6] S1.size hh)).squeeze S_ squeezes_S1_S_ = csm 6 := csm_congr (by decide) _
@[sl_canon] theorem slotL6 (hh hs) : (wbM.slice (Rect.unit (s := S8x4096x1280) ![6, 0, 0] S1x4096x1280.size hh) hs).squeeze S4096x1280 squeezes_S1x4096x1280_S4096x1280 = wslot 6 := wslot_congr (by decide) _ _
@[sl_canon] theorem wblkL6 (hh hs) : wM.slice (Rect.unit (s := S4096x32000) ![0, 7680] S4096x1280.size hh) hs = wblk 6 := wblk_congr (by decide) _ _
@[sl_canon] theorem semL7 (hh) : (cc0_scratch20.slice (Rect.unit (s := S8) ![7] S1.size hh)).squeeze S_ squeezes_S1_S_ = csm 7 := csm_congr (by decide) _
@[sl_canon] theorem slotL7 (hh hs) : (wbM.slice (Rect.unit (s := S8x4096x1280) ![7, 0, 0] S1x4096x1280.size hh) hs).squeeze S4096x1280 squeezes_S1x4096x1280_S4096x1280 = wslot 7 := wslot_congr (by decide) _ _
@[sl_canon] theorem wblkL7 (hh hs) : wM.slice (Rect.unit (s := S4096x32000) ![0, 8960] S4096x1280.size hh) hs = wblk 7 := wblk_congr (by decide) _ _
@[sl_canon] theorem tsmL0 (hh) : (cc0_scratch21.slice (Rect.unit (s := S5) ![0] S1.size hh)).squeeze S_ squeezes_S1_S_ = tsm 0 := tsm_congr (by decide) _
@[sl_canon] theorem wcolL0 (hh hs) : (wbM.slice (Rect.unit (s := S8x4096x1280) ![0, 0, 0] S1x4096x256.size hh) hs).squeeze S4096x256 squeezes_S1x4096x256_S4096x256 = wcol 0 := wcol_congr (by decide) _ _
@[sl_canon] theorem wtlL0 (hh hs) : wM.slice (Rect.unit (s := S4096x32000) ![0, 30720] S4096x256.size hh) hs = wtl 0 := wtl_congr (by decide) _ _
@[sl_canon] theorem tsmL1 (hh) : (cc0_scratch21.slice (Rect.unit (s := S5) ![1] S1.size hh)).squeeze S_ squeezes_S1_S_ = tsm 1 := tsm_congr (by decide) _
@[sl_canon] theorem wcolL1 (hh hs) : (wbM.slice (Rect.unit (s := S8x4096x1280) ![0, 0, 256] S1x4096x256.size hh) hs).squeeze S4096x256 squeezes_S1x4096x256_S4096x256 = wcol 1 := wcol_congr (by decide) _ _
@[sl_canon] theorem wtlL1 (hh hs) : wM.slice (Rect.unit (s := S4096x32000) ![0, 30976] S4096x256.size hh) hs = wtl 1 := wtl_congr (by decide) _ _
@[sl_canon] theorem tsmL2 (hh) : (cc0_scratch21.slice (Rect.unit (s := S5) ![2] S1.size hh)).squeeze S_ squeezes_S1_S_ = tsm 2 := tsm_congr (by decide) _
@[sl_canon] theorem wcolL2 (hh hs) : (wbM.slice (Rect.unit (s := S8x4096x1280) ![0, 0, 512] S1x4096x256.size hh) hs).squeeze S4096x256 squeezes_S1x4096x256_S4096x256 = wcol 2 := wcol_congr (by decide) _ _
@[sl_canon] theorem wtlL2 (hh hs) : wM.slice (Rect.unit (s := S4096x32000) ![0, 31232] S4096x256.size hh) hs = wtl 2 := wtl_congr (by decide) _ _
@[sl_canon] theorem tsmL3 (hh) : (cc0_scratch21.slice (Rect.unit (s := S5) ![3] S1.size hh)).squeeze S_ squeezes_S1_S_ = tsm 3 := tsm_congr (by decide) _
@[sl_canon] theorem wcolL3 (hh hs) : (wbM.slice (Rect.unit (s := S8x4096x1280) ![0, 0, 768] S1x4096x256.size hh) hs).squeeze S4096x256 squeezes_S1x4096x256_S4096x256 = wcol 3 := wcol_congr (by decide) _ _
@[sl_canon] theorem wtlL3 (hh hs) : wM.slice (Rect.unit (s := S4096x32000) ![0, 31488] S4096x256.size hh) hs = wtl 3 := wtl_congr (by decide) _ _
@[sl_canon] theorem tsmL4 (hh) : (cc0_scratch21.slice (Rect.unit (s := S5) ![4] S1.size hh)).squeeze S_ squeezes_S1_S_ = tsm 4 := tsm_congr (by decide) _
@[sl_canon] theorem wcolL4 (hh hs) : (wbM.slice (Rect.unit (s := S8x4096x1280) ![0, 0, 1024] S1x4096x256.size hh) hs).squeeze S4096x256 squeezes_S1x4096x256_S4096x256 = wcol 4 := wcol_congr (by decide) _ _
@[sl_canon] theorem wtlL4 (hh hs) : wM.slice (Rect.unit (s := S4096x32000) ![0, 31744] S4096x256.size hh) hs = wtl 4 := wtl_congr (by decide) _ _
@[sl_canon] theorem zslabL0 (hh hs) : zM.slice (Rect.unit (s := S12x32000) ![0, 0] S12x1280.size hh) hs = zslab 0 := zslab_congr (by decide) _ _
@[sl_canon] theorem oslabL0 (hh hs) : outM.slice (Rect.unit (s := S12x32000) ![0, 0] S12x1280.size hh) hs = oslab 0 := oslab_congr (by decide) _ _
@[sl_canon] theorem zslabL23 (hh hs) : zM.slice (Rect.unit (s := S12x32000) ![0, 29440] S12x1280.size hh) hs = zslab 23 := zslab_congr (by decide) _ _
@[sl_canon] theorem oslabL23 (hh hs) : outM.slice (Rect.unit (s := S12x32000) ![0, 29440] S12x1280.size hh) hs = oslab 23 := oslab_congr (by decide) _ _
@[sl_canon] theorem zslabL24 (hh hs) : zM.slice (Rect.unit (s := S12x32000) ![0, 30720] S12x1280.size hh) hs = zslab 24 := zslab_congr (by decide) _ _
@[sl_canon] theorem oslabL24 (hh hs) : outM.slice (Rect.unit (s := S12x32000) ![0, 30720] S12x1280.size hh) hs = oslab 24 := oslab_congr (by decide) _ _
@[sl_canon] theorem osmL (hh) : (cc0_scratch24.slice (Rect.unit (s := S1) ![0] S1.size hh)).squeeze S_ squeezes_S1_S_ = osm := rfl

/-! The main loop's trip `k`: slot and cell `k % 8`, block `k` waited for, block `k + 8` issued, slab `k - 1` sent out. -/
@[sl_canon] theorem semK (k : Fin k0_t2_loop.trips) (hh) :
    (cc0_scratch20.slice (Rect.unit (s := S8) (k0_off4 k) S1.size hh)).squeeze S_ squeezes_S1_S_ = csm (Ring.sl 8 k.val) := csm_congr (off4_eq k) _
@[sl_canon] theorem semK' (k : Fin k0_t2_loop.trips) (hh) :
    (cc0_scratch20.slice (Rect.unit (s := S8) (k0_off8 k) S1.size hh)).squeeze S_ squeezes_S1_S_ = csm (Ring.sl 8 k.val) := csm_congr (off8_eq k) _
@[sl_canon] theorem slotK (k : Fin k0_t2_loop.trips) (hh hs) :
    (wbM.slice (Rect.unit (s := S8x4096x1280) (k0_off5 k) S1x4096x1280.size hh) hs).squeeze S4096x1280 squeezes_S1x4096x1280_S4096x1280 = wslot (Ring.sl 8 k.val) := wslot_congr (off5_eq k) _ _
@[sl_canon] theorem slotK' (k : Fin k0_t2_loop.trips) (hh hs) :
    (wbM.slice (Rect.unit (s := S8x4096x1280) (k0_off9 k) S1x4096x1280.size hh) hs).squeeze S4096x1280 squeezes_S1x4096x1280_S4096x1280 = wslot (Ring.sl 8 k.val) := wslot_congr (off9_eq k) _ _
@[sl_canon] theorem wblkW (k : Fin k0_t2_loop.trips) (hh hs) :
    wM.slice (Rect.unit (s := S4096x32000) (k0_off6 k) S4096x1280.size hh) hs = wblk (Ring.bk 24 k.val) := wblk_congr (off6_eq k) _ _
@[sl_canon] theorem wblkI (k : Fin k0_t2_loop.trips) (hk : k.val + 8 < 24) (hh hs) :
    wM.slice (Rect.unit (s := S4096x32000) (k0_off10 k) S4096x1280.size hh) hs = wblk (Ring.bk 24 (k.val + 8)) := wblk_congr (off10_eq k hk) _ _
@[sl_canon] theorem zslabK (k : Fin k0_t2_loop.trips) (hk : 0 < k.val) (hh hs) :
    zM.slice (Rect.unit (s := S12x32000) (k0_off14 k) S12x1280.size hh) hs = zslab (Ring.bk 25 (k.val - 1)) := zslab_congr (off14_eq k hk) _ _
@[sl_canon] theorem oslabK (k : Fin k0_t2_loop.trips) (hk : 0 < k.val) (hh hs) :
    outM.slice (Rect.unit (s := S12x32000) (k0_off14 k) S12x1280.size hh) hs = oslab (Ring.bk 25 (k.val - 1)) := oslab_congr (off14_eq k hk) _ _

end Canon

end Cert.Proof.KernelIdeal
end
-- ==== Proof.KernelIdeal.Pieces.lean ====
/-
  The pieces the main loop's resources are made of: a column block of the weights at home, a ring slot, a block in
  flight into a slot, a slab of the logits, and the batch of the result's copies.
-/
module

public import proofs.«01_k».proof.Proof.KernelIdeal.Names
public import Idealize.ShloMosaic.Lib.Batch

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Pieces

variable (c : Dev nD) (XW : Buf (Elt F) (wM.view.loc (c : Thread nD τ)))

/-- A whole array held at contents `f`. -/
abbrev held {sp : Space} {s : Shape} {e : EltTy} (a : Memref sig .tc sp s e) (f : Buf (Elt F) (a.view.loc (c : Thread nD τ))) : sProp 𝕄 :=
  a.view.loc (c : Thread nD τ) ↦[a.view.set]{fullShare} f

abbrev cellP (s : Fin 8) : sProp 𝕄 := semVal ((c : Thread nD τ), SemLoc.dma (csm s).sem) 0
abbrev tcellP (p : Fin 5) : sProp 𝕄 := semVal ((c : Thread nD τ), SemLoc.dma (tsm p).sem) 0
abbrev slotP (s : Fin 8) (f : Buf (Elt F) ((wslot s).view.loc (c : Thread nD τ))) : sProp 𝕄 :=
  (wslot s).view.loc (c : Thread nD τ) ↦[(wslot s).view.set]{fullShare} f
/-- Block `b` of the weights at home. -/
abbrev homeP (b : Fin 24) : sProp 𝕄 := (wblk b).view.loc (c : Thread nD τ) ↦[(wblk b).view.set]{fullShare} XW
abbrev thomeP (p : Fin 5) : sProp 𝕄 := (wtl p).view.loc (c : Thread nD τ) ↦[(wtl p).view.set]{fullShare} XW
abbrev colP (p : Fin 5) (f : Buf (Elt F) ((wcol p).view.loc (c : Thread nD τ))) : sProp 𝕄 :=
  (wcol p).view.loc (c : Thread nD τ) ↦[(wcol p).view.set]{fullShare} f
/-- What block `b`'s copy leaves in slot `s`. -/
abbrev landed (s : Fin 8) (b : Fin 24) (f : Buf (Elt F) ((wslot s).view.loc (c : Thread nD τ))) : Buf (Elt F) ((wslot s).view.loc (c : Thread nD τ)) :=
  (wslot s).view.writes (Elt F) f [⟨Rect.whole S4096x1280, ReadAs.same.apply ((wblk b).view.read (Elt F) XW)⟩]
abbrev tlanded (p : Fin 5) (f : Buf (Elt F) ((wcol p).view.loc (c : Thread nD τ))) : Buf (Elt F) ((wcol p).view.loc (c : Thread nD τ)) :=
  (wcol p).view.writes (Elt F) f [⟨Rect.whole S4096x256, ReadAs.same.apply ((wtl p).view.read (Elt F) XW)⟩]
/-- Block `b` in flight into slot `s`. -/
abbrev flightP (s : Fin 8) (b : Fin 24) (f : Buf (Elt F) ((wslot s).view.loc (c : Thread nD τ))) : sProp 𝕄 :=
  Transfers.Flight countersEmb (c : Thread nD τ) (SemLoc.dma (csm s).sem) () 163840 iprop(slotP c s (landed c XW s b f) ∗ homeP c XW b)
/-- Tail window `p` in flight into its columns of slot 0. -/
abbrev tflightP (p : Fin 5) (f : Buf (Elt F) ((wcol p).view.loc (c : Thread nD τ))) : sProp 𝕄 :=
  Transfers.Flight countersEmb (c : Thread nD τ) (SemLoc.dma (tsm p).sem) () 32768 iprop(colP c p (tlanded c XW p f) ∗ thomeP c XW p)

/-- Slab `b` of the logits. -/
abbrev zP (b : Fin 25) (f : Buf (Elt F) ((zslab b).view.loc (c : Thread nD τ))) : sProp 𝕄 :=
  (zslab b).view.loc (c : Thread nD τ) ↦[(zslab b).view.set]{fullShare} f
/-- Slab `b` of the result. -/
abbrev oP (b : Fin 25) (f : Buf (Elt F) ((oslab b).view.loc (c : Thread nD τ))) : sProp 𝕄 :=
  (oslab b).view.loc (c : Thread nD τ) ↦[(oslab b).view.set]{fullShare} f
/-- Slab `b` of the logits at the contents `OZ` of the whole array. -/
abbrev zO (OZ : Buf (Elt F) (zM.view.loc (c : Thread nD τ))) (b : Fin 25) : sProp 𝕄 :=
  (zslab b).view.loc (c : Thread nD τ) ↦[(zslab b).view.set]{fullShare} OZ
/-- What slab `b`'s copy of the logits `OZ` leaves in the result. -/
abbrev oland (OZ : Buf (Elt F) (zM.view.loc (c : Thread nD τ))) (b : Fin 25) (f : Buf (Elt F) ((oslab b).view.loc (c : Thread nD τ))) : Buf (Elt F) ((oslab b).view.loc (c : Thread nD τ)) :=
  (oslab b).view.writes (Elt F) f [⟨Rect.whole S12x1280, ReadAs.same.apply ((zslab b).view.read (Elt F) OZ)⟩]
/-- What slab `b`'s copy delivers. -/
abbrev copyP (OZ : Buf (Elt F) (zM.view.loc (c : Thread nD τ))) (b : Fin 25) : sProp 𝕄 := iprop((∃ f, oP c b (oland c OZ b f)) ∗ zO c OZ b)
/-- The 25 copies of the result, `j` issued and `u` units waited for. -/
abbrev batchP (OZ : Buf (Elt F) (zM.view.loc (c : Thread nD τ))) (j u : ℕ) : sProp 𝕄 :=
  Transfers.Batch countersEmb (c : Thread nD τ) (SemLoc.dma osm.sem) () 1920 (fun b : Fin 25 => copyP c OZ (Ring.bk 25 b.val)) j u

end Pieces

/-- The main loop's region at trip `k` on the body's operands. -/
abbrev tripG (arg11 : Memref sig .tc .vmem S1x12 .f32) (harg11 : arg11.IsWhole) (arg12 : Memref sig .tc .vmem S12x20 .f32) (harg12 : arg12.IsWhole)
    (k : Fin k0_t2_loop.trips) : Prog (TpuEff nD τ sig (Elt F) Λ₀ .tc) Unit :=
  k0_t2_body (F := F) xM (Memref.isWhole_whole _) wM (Memref.isWhole_whole _) wsM (Memref.isWhole_whole _) idsM (Memref.isWhole_whole _) candM (Memref.isWhole_whole _)
    xsM (Memref.isWhole_whole _) hlM (Memref.isWhole_whole _) plM (Memref.isWhole_whole _) prM (Memref.isWhole_whole _) frM (Memref.isWhole_whole _) rpM (Memref.isWhole_whole _)
    arg11 harg11 arg12 harg12 outM (Memref.isWhole_whole _) wbM (Memref.isWhole_whole _) xrM (Memref.isWhole_whole _) xpM (Memref.isWhole_whole _) wcM (Memref.isWhole_whole _)
    idM (Memref.isWhole_whole _) cdM (Memref.isWhole_whole _) clM (Memref.isWhole_whole _) chM (Memref.isWhole_whole _) hiM (Memref.isWhole_whole _) zM (Memref.isWhole_whole _)
    cfM (Memref.isWhole_whole _) sxM (Memref.isWhole_whole _) shM (Memref.isWhole_whole _) spM (Memref.isWhole_whole _) srM (Memref.isWhole_whole _) sfM (Memref.isWhole_whole _)
    seM (Memref.isWhole_whole _) rmM (Memref.isWhole_whole _) rsM (Memref.isWhole_whole _) pkM (Memref.isWhole_whole _)
    cc0_scratch20 cc0_scratch21 cc0_scratch22 cc0_scratch23 cc0_scratch24 k ()

end Cert.Proof.KernelIdeal
end
-- ==== Proof.KernelIdeal.Main.lean ====
/-
  The main loop: its invariant at trip `k`, and one trip.

  Slot `s` holds, before trip `k`, the first block `b ≥ k` with `b ≡ s (mod 8)` in flight, if there is one; else it is
  at rest — but slot 0, from trip 17 on, has the five tail windows in flight into its columns. The blocks not in flight
  are at home. Slab `b` of the logits and of the result are held until trip `b + 1` issues slab `b`'s copy.
-/
module

public import proofs.«01_k».proof.Proof.KernelIdeal.Pieces

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## One or two members of a family changed -/

theorem swap1 {n : ℕ} {Φ Ψ : Fin n → sProp 𝕄} (i : Fin n) (h : ∀ b, b ≠ i → Φ b = Ψ b) :
    bigSep Finset.univ Φ ⊢ iprop(Φ i ∗ (Ψ i -∗ bigSep Finset.univ Ψ)) := by
  rw [bigSep_univ_split i, bigSep_univ_split (Φ := Ψ) i, bigSep_congr (fun b hb => h b (Finset.ne_of_mem_erase hb))]
  show iprop(Φ i ∗ bigSep (Finset.univ.erase i) Ψ) ⊢ iprop(Φ i ∗ (Ψ i -∗ (Ψ i ∗ bigSep (Finset.univ.erase i) Ψ)))
  iintro ⟨H1, H2⟩
  isplitl [H1]; · iexact H1
  iintro H3
  isplitl [H3]; · iexact H3
  iexact H2

theorem swap2 {n : ℕ} {Φ Ψ : Fin n → sProp 𝕄} (i j : Fin n) (hij : j ≠ i) (h : ∀ b, b ≠ i → b ≠ j → Φ b = Ψ b) :
    bigSep Finset.univ Φ ⊢ iprop(Φ i ∗ Φ j ∗ (Ψ i -∗ Ψ j -∗ bigSep Finset.univ Ψ)) := by
  have hj : j ∈ Finset.univ.erase i := Finset.mem_erase.mpr ⟨hij, Finset.mem_univ j⟩
  rw [bigSep_univ_split i, bigSep_univ_split (Φ := Ψ) i, bigSep_erase hj, bigSep_erase (Φ := Ψ) hj,
    bigSep_congr (fun b hb => h b (Finset.ne_of_mem_erase (Finset.mem_of_mem_erase hb)) (Finset.ne_of_mem_erase hb))]
  show iprop(Φ i ∗ Φ j ∗ bigSep ((Finset.univ.erase i).erase j) Ψ) ⊢ iprop(Φ i ∗ Φ j ∗ (Ψ i -∗ Ψ j -∗ (Ψ i ∗ Ψ j ∗ bigSep ((Finset.univ.erase i).erase j) Ψ)))
  iintro ⟨H1, H2, H3⟩
  isplitl [H1]; · iexact H1
  isplitl [H2]; · iexact H2
  iintro H4 H5
  isplitl [H4]; · iexact H4
  isplitl [H5]; · iexact H5
  iexact H3

/-! ## The invariant -/

section Inv

variable (c : Dev nD) (XW : Buf (Elt F) (wM.view.loc (c : Thread nD τ)))
  (XP : Buf (Elt F) (xpM.view.loc (c : Thread nD τ))) (CF : Buf (Elt F) (cfM.view.loc (c : Thread nD τ)))
  (WC : Buf (Elt F) (wcM.view.loc (c : Thread nD τ))) (HI : Buf (Elt F) (hiM.view.loc (c : Thread nD τ)))
  (OZ : Buf (Elt F) (zM.view.loc (c : Thread nD τ)))

/-- The arrays a trip reads and writes whole. -/
def arrs : sProp 𝕄 :=
  iprop(held c xpM XP ∗ held c cfM CF ∗ (∃ f, held c clM f) ∗ (∃ f, held c chM f) ∗ held c wcM WC ∗ held c hiM HI
    ∗ (∃ f, held c pkM f) ∗ (∃ f, held c rmM f) ∗ (∃ f, held c rsM f))
/-- The next block slot `s` holds from trip `k` on. -/
def blk (k s : ℕ) : ℕ := k + (s + 8 - k % 8) % 8
/-- The tail windows in flight into the columns of slot 0. -/
def tflights : sProp 𝕄 :=
  iprop((∃ f, tflightP c XW 0 f) ∗ (∃ f, tflightP c XW 1 f) ∗ (∃ f, tflightP c XW 2 f) ∗ (∃ f, tflightP c XW 3 f) ∗ (∃ f, tflightP c XW 4 f))
/-- The tail windows at home, their cells at rest. -/
def thomes : sProp 𝕄 :=
  iprop(tcellP c 0 ∗ tcellP c 1 ∗ tcellP c 2 ∗ tcellP c 3 ∗ tcellP c 4 ∗ thomeP c XW 0 ∗ thomeP c XW 1 ∗ thomeP c XW 2 ∗ thomeP c XW 3 ∗ thomeP c XW 4)
def slotSt (k : ℕ) (s : Fin 8) : sProp 𝕄 :=
  if blk k s.val < 24 then iprop(∃ f, flightP c XW s (Ring.bk 24 (blk k s.val)) f)
  else iprop(cellP c s ∗ (if s = 0 then tflights c XW else iprop(∃ f, slotP c s f)))
def tailSt (k : ℕ) : sProp 𝕄 := if k ≤ 16 then thomes c XW else iprop(emp)
def homeSt (k : ℕ) (b : Fin 24) : sProp 𝕄 := if b.val < k ∨ k + 8 ≤ b.val then homeP c XW b else iprop(emp)
def zoSt (k : ℕ) (b : Fin 25) : sProp 𝕄 :=
  if k ≤ b.val + 1 then iprop((if b.val < k then zO c OZ b else iprop(∃ f, zP c b f)) ∗ (∃ f, oP c b f)) else iprop(emp)

/-- Before trip `k` of the main loop. -/
def mainInv (k : ℕ) (_ : Unit) : sProp 𝕄 :=
  iprop(arrs c XP CF WC HI ∗ (∃ W, owes (c : Thread nD τ) 0 W) ∗ batchP c OZ (k - 1) 0 ∗ bigSep Finset.univ (slotSt c XW k) ∗ bigSep Finset.univ (homeSt c XW k)
    ∗ tailSt c XW k ∗ bigSep Finset.univ (zoSt c OZ k))

/-! ### What a trip changes -/

theorem sl_val (k : ℕ) : (Ring.sl 8 k).val = k % 8 := rfl
theorem blk_here (k : ℕ) : blk k (Ring.sl 8 k).val = k := by rw [sl_val]; unfold blk; omega
theorem blk_next (k : ℕ) : blk (k + 1) (Ring.sl 8 k).val = k + 8 := by rw [sl_val]; unfold blk; omega
theorem blk_other (k : ℕ) (s : Fin 8) (h : s ≠ Ring.sl 8 k) : blk k s.val = blk (k + 1) s.val := by
  have h' : s.val ≠ k % 8 := fun e => h (Fin.ext e)
  have := s.isLt; unfold blk; omega

theorem slot_here (k : ℕ) (hk : k < 24) : slotSt c XW k (Ring.sl 8 k) = iprop(∃ f, flightP c XW (Ring.sl 8 k) (Ring.bk 24 k) f) := by
  unfold slotSt; rw [blk_here, if_pos hk]
theorem slot_issued (k : ℕ) (hk : k + 8 < 24) : slotSt c XW (k + 1) (Ring.sl 8 k) = iprop(∃ f, flightP c XW (Ring.sl 8 k) (Ring.bk 24 (k + 8)) f) := by
  unfold slotSt; rw [blk_next, if_pos hk]
theorem slot_tail (k : ℕ) (hk : k = 16) : slotSt c XW (k + 1) (Ring.sl 8 k) = iprop(cellP c (Ring.sl 8 k) ∗ tflights c XW) := by
  unfold slotSt; rw [blk_next, if_neg (by omega), if_pos (by subst hk; rfl)]
theorem slot_rest (k : ℕ) (hk : 16 < k) (hk' : k < 24) : slotSt c XW (k + 1) (Ring.sl 8 k) = iprop(cellP c (Ring.sl 8 k) ∗ ∃ f, slotP c (Ring.sl 8 k) f) := by
  unfold slotSt; rw [blk_next, if_neg (by omega), if_neg (fun e => by have := congrArg Fin.val e; rw [sl_val] at this; simp at this; omega)]
theorem slots_open (k : ℕ) : bigSep Finset.univ (slotSt c XW k) ⊢ iprop(slotSt c XW k (Ring.sl 8 k) ∗ (slotSt c XW (k + 1) (Ring.sl 8 k) -∗ bigSep Finset.univ (slotSt c XW (k + 1)))) :=
  swap1 _ fun s hs => by unfold slotSt; rw [blk_other k s hs]

theorem homes_issue (k : ℕ) (hk : k + 8 < 24) :
    bigSep Finset.univ (homeSt c XW k) ⊢ iprop(homeP c XW (Ring.bk 24 (k + 8)) ∗ (homeP c XW (Ring.bk 24 k) -∗ bigSep Finset.univ (homeSt c XW (k + 1)))) := by
  have e1 := Ring.bk_val (NB := 24) (k := k) (by omega)
  have e2 := Ring.bk_val (NB := 24) (k := k + 8) hk
  iintro H
  ihave H := (swap2 (Ψ := homeSt c XW (k + 1)) (Ring.bk 24 k) (Ring.bk 24 (k + 8)) (fun e => by have := congrArg Fin.val e; omega) (fun b h1 h2 => by
    have h1' : b.val ≠ k := fun e => h1 (Fin.ext (e.trans e1.symm))
    have h2' : b.val ≠ k + 8 := fun e => h2 (Fin.ext (e.trans e2.symm))
    unfold homeSt; exact if_congr (by omega) rfl rfl)) $$ H
  simp only [homeSt, e1, e2]
  rw [if_neg (by omega), if_pos (by omega), if_pos (by omega), if_neg (by omega)]
  icases H with ⟨-, H2, Hk⟩
  isplitl [H2]; · iexact H2
  iintro H1
  iapply Hk $$ H1
  iempintro
theorem homes_last (k : ℕ) (hk : 24 ≤ k + 8) (hk' : k < 24) :
    bigSep Finset.univ (homeSt c XW k) ⊢ iprop(homeP c XW (Ring.bk 24 k) -∗ bigSep Finset.univ (homeSt c XW (k + 1))) := by
  have e1 := Ring.bk_val (NB := 24) (k := k) hk'
  iintro H
  ihave H := (swap1 (Ψ := homeSt c XW (k + 1)) (Ring.bk 24 k) (fun b h1 => by
    have h1' : b.val ≠ k := fun e => h1 (Fin.ext (e.trans e1.symm))
    have := b.isLt
    unfold homeSt; exact if_congr (by omega) rfl rfl)) $$ H
  simp only [homeSt, e1]
  rw [if_neg (by omega), if_pos (by omega)]
  icases H with ⟨-, Hk⟩
  iexact Hk

theorem zo_now (k : ℕ) (b : Fin 25) (h : k ≤ b.val) : zoSt c OZ k b = (iprop((∃ f, zP c b f) ∗ (∃ f, oP c b f)) : sProp 𝕄) := by
  unfold zoSt; rw [if_pos (by omega), if_neg (by omega)]
theorem zo_next (k : ℕ) (b : Fin 25) (h : b.val + 1 = k) : zoSt c OZ k b = (iprop(zO c OZ b ∗ (∃ f, oP c b f)) : sProp 𝕄) := by
  unfold zoSt; rw [if_pos (by omega), if_pos (by omega)]
theorem zo_gone (k : ℕ) (b : Fin 25) (h : b.val + 1 < k) : zoSt c OZ k b = (iprop(emp) : sProp 𝕄) := by
  unfold zoSt; rw [if_neg (by omega)]
theorem zo_other (k : ℕ) (b : Fin 25) (h1 : b.val ≠ k) (h2 : b.val + 1 ≠ k) : zoSt c OZ k b = zoSt c OZ (k + 1) b := by
  unfold zoSt
  by_cases h : k ≤ b.val
  · rw [if_pos (show k ≤ b.val + 1 by omega), if_pos (show k + 1 ≤ b.val + 1 by omega), if_neg (show ¬ b.val < k by omega), if_neg (show ¬ b.val < k + 1 by omega)]
  · rw [if_neg (show ¬ k ≤ b.val + 1 by omega), if_neg (show ¬ k + 1 ≤ b.val + 1 by omega)]

theorem zo_open (k : ℕ) (h0 : 0 < k) (hk : k < 25) :
    bigSep Finset.univ (zoSt c OZ k) ⊢ (iprop(((∃ f, zP c (Ring.bk 25 k) f) ∗ (∃ f, oP c (Ring.bk 25 k) f)) ∗ (zO c OZ (Ring.bk 25 (k - 1)) ∗ (∃ f, oP c (Ring.bk 25 (k - 1)) f))
      ∗ ((zO c OZ (Ring.bk 25 k) ∗ (∃ f, oP c (Ring.bk 25 k) f)) -∗ bigSep Finset.univ (zoSt c OZ (k + 1)))) : sProp 𝕄) := by
  have e1 := Ring.bk_val (NB := 25) (k := k) hk
  have e2 := Ring.bk_val (NB := 25) (k := k - 1) (by omega)
  iintro H
  ihave H := (swap2 (Ψ := zoSt c OZ (k + 1)) (Ring.bk 25 k) (Ring.bk 25 (k - 1)) (fun e => by have := congrArg Fin.val e; omega) (fun b h1 h2 => by
    have h1' : b.val ≠ k := fun e => h1 (Fin.ext (e.trans e1.symm))
    have h2' : b.val ≠ k - 1 := fun e => h2 (Fin.ext (e.trans e2.symm))
    exact zo_other c OZ k b h1' (by omega))) $$ H
  rw [zo_now c OZ k _ (by omega), zo_next c OZ k _ (by omega), zo_next c OZ (k + 1) (Ring.bk 25 k) (by omega), zo_gone c OZ (k + 1) _ (by omega)]
  icases H with ⟨H1, H2, Hk⟩
  isplitl [H1]; · iexact H1
  isplitl [H2]; · iexact H2
  iintro H1
  iapply Hk $$ H1
  iempintro
theorem zo_first : bigSep Finset.univ (zoSt c OZ 0) ⊢ (iprop(((∃ f, zP c (Ring.bk 25 0) f) ∗ (∃ f, oP c (Ring.bk 25 0) f))
      ∗ ((zO c OZ (Ring.bk 25 0) ∗ (∃ f, oP c (Ring.bk 25 0) f)) -∗ bigSep Finset.univ (zoSt c OZ (0 + 1)))) : sProp 𝕄) := by
  have e1 := Ring.bk_val (NB := 25) (k := 0) (by omega)
  iintro H
  ihave H := (swap1 (Ψ := zoSt c OZ (0 + 1)) (Ring.bk 25 0) (fun b h1 =>
    zo_other c OZ 0 b (fun e => h1 (Fin.ext (e.trans e1.symm))) (by omega))) $$ H
  rw [zo_now c OZ 0 _ (by omega), zo_next c OZ (0 + 1) _ (by omega)]
  iexact H

theorem tail_next (k : ℕ) (hk : k ≠ 16) : tailSt c XW k ⊢ tailSt c XW (k + 1) :=
  Entails.of_eq (if_congr (by omega) rfl rfl)
theorem tail_here (k : ℕ) (hk : k ≤ 16) : tailSt c XW k ⊢ iprop(tcellP c 0 ∗ tcellP c 1 ∗ tcellP c 2 ∗ tcellP c 3 ∗ tcellP c 4 ∗ thomeP c XW 0 ∗ thomeP c XW 1 ∗ thomeP c XW 2 ∗ thomeP c XW 3 ∗ thomeP c XW 4) :=
  Entails.of_eq (if_pos hk)
theorem tail_gone (k : ℕ) (hk : 16 < k) : (iprop(emp) : sProp 𝕄) ⊢ tailSt c XW k :=
  Entails.of_eq (if_neg (by omega)).symm

theorem c1_iff : ∀ k : Fin k0_t2_loop.trips, k0_cond1 k = 1#1 ↔ k.val + 8 < 24 := by decide +kernel
theorem c3_iff : ∀ k : Fin k0_t2_loop.trips, k0_cond3 k = 1#1 ↔ 0 < k.val := by decide +kernel
theorem c2_iff : ∀ k : Fin k0_t2_loop.trips, (Scalar.cmpi .ne (Scalar.extui (Scalar.cmpi .eq (Scalar.addi (Scf.iv 0#32 1#32 k) 8#32) 24#32) : BitVec 32) 0#32 = 1#1) ↔ k.val = 16 := by decide +kernel

end Inv

end Cert.Proof.KernelIdeal
end
-- ==== Proof.KernelIdeal.Sets.lean ====
/-
  How the arrays split into the pieces of the main loop: the weights into 24 column blocks and five tail windows, the
  ring into eight slots, slot 0 into the five tail windows' columns, the logits and the result into 25 column slabs.
-/
module

public import proofs.«01_k».proof.Proof.KernelIdeal.Pieces

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## Element sets -/

abbrev W24 (b : Fin 24) : Finset S4096x32000.Idx := (Rect.unit (s := S4096x32000) (wOff b) S4096x1280.size (wOff_inb b)).set
abbrev W5 (p : Fin 5) : Finset S4096x32000.Idx := (Rect.unit (s := S4096x32000) (tOff p) S4096x256.size (tOff_inb p)).set
abbrev S8' (s : Fin 8) : Finset S8x4096x1280.Idx := (Rect.unit (s := S8x4096x1280) (slotOff s) S1x4096x1280.size (slotOff_inb s)).set
abbrev C5 (p : Fin 5) : Finset S8x4096x1280.Idx := (Rect.unit (s := S8x4096x1280) (colOff p) S1x4096x256.size (colOff_inb p)).set
abbrev Z25 (b : Fin 25) : Finset S12x32000.Idx := (Rect.unit (s := S12x32000) (zOff b) S12x1280.size (zOff_inb b)).set

theorem wblk_set (b : Fin 24) : (wblk b).view.set = W24 b := View.set_slice_whole _ _
theorem wtl_set (p : Fin 5) : (wtl p).view.set = W5 p := View.set_slice_whole _ _
theorem wslot_set (s : Fin 8) : (wslot s).view.set = S8' s := (View.set_reshape _ _).trans (View.set_slice_whole _ _)
theorem wcol_set (p : Fin 5) : (wcol p).view.set = C5 p := (View.set_reshape _ _).trans (View.set_slice_whole _ _)
theorem zslab_set (b : Fin 25) : (zslab b).view.set = Z25 b := View.set_slice_whole _ _
theorem oslab_set (b : Fin 25) : (oslab b).view.set = Z25 b := View.set_slice_whole _ _

theorem mem_W24 (b : Fin 24) (y : S4096x32000.Idx) : y ∈ W24 b ↔ b.val * 1280 ≤ (y 1).val ∧ (y 1).val < b.val * 1280 + 1280 := by
  rw [Rect.mem_set_unit]
  have h0 : (y 0).val < 4096 := (y 0).isLt
  constructor
  · intro H; exact H 1
  · intro H i; fin_cases i
    · show 0 ≤ (y 0).val ∧ (y 0).val < 0 + 4096; omega
    · exact H
theorem mem_W5 (p : Fin 5) (y : S4096x32000.Idx) : y ∈ W5 p ↔ 30720 + p.val * 256 ≤ (y 1).val ∧ (y 1).val < 30720 + p.val * 256 + 256 := by
  rw [Rect.mem_set_unit]
  have h0 : (y 0).val < 4096 := (y 0).isLt
  constructor
  · intro H; exact H 1
  · intro H i; fin_cases i
    · show 0 ≤ (y 0).val ∧ (y 0).val < 0 + 4096; omega
    · exact H
theorem mem_S8 (s : Fin 8) (y : S8x4096x1280.Idx) : y ∈ S8' s ↔ (y 0).val = s.val := by
  rw [Rect.mem_set_unit]
  have h1 : (y 1).val < 4096 := (y 1).isLt
  have h2 : (y 2).val < 1280 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 4096; omega
    · show 0 ≤ (y 2).val ∧ (y 2).val < 0 + 1280; omega
theorem mem_C5 (p : Fin 5) (y : S8x4096x1280.Idx) : y ∈ C5 p ↔ (y 0).val = 0 ∧ p.val * 256 ≤ (y 2).val ∧ (y 2).val < p.val * 256 + 256 := by
  rw [Rect.mem_set_unit]
  have h1 : (y 1).val < 4096 := (y 1).isLt
  constructor
  · intro H
    have a0 : 0 ≤ (y 0).val ∧ (y 0).val < 0 + 1 := H 0
    have a2 : p.val * 256 ≤ (y 2).val ∧ (y 2).val < p.val * 256 + 256 := H 2
    omega
  · intro H i; fin_cases i
    · show 0 ≤ (y 0).val ∧ (y 0).val < 0 + 1; omega
    · show 0 ≤ (y 1).val ∧ (y 1).val < 0 + 4096; omega
    · exact H.2
theorem mem_Z25 (b : Fin 25) (y : S12x32000.Idx) : y ∈ Z25 b ↔ b.val * 1280 ≤ (y 1).val ∧ (y 1).val < b.val * 1280 + 1280 := by
  rw [Rect.mem_set_unit]
  have h0 : (y 0).val < 12 := (y 0).isLt
  constructor
  · intro H; exact H 1
  · intro H i; fin_cases i
    · show 0 ≤ (y 0).val ∧ (y 0).val < 0 + 12; omega
    · exact H

theorem W24_disjoint : ∀ b b' : Fin 24, b ≠ b' → Disjoint (W24 b) (W24 b') := by
  intro b b' hne; rw [Finset.disjoint_left]; intro y hy hy'; rw [mem_W24] at hy hy'; exact hne (Fin.ext (by omega))
theorem W5_disjoint : ∀ b b' : Fin 5, b ≠ b' → Disjoint (W5 b) (W5 b') := by
  intro b b' hne; rw [Finset.disjoint_left]; intro y hy hy'; rw [mem_W5] at hy hy'; exact hne (Fin.ext (by omega))
theorem S8_disjoint : ∀ b b' : Fin 8, b ≠ b' → Disjoint (S8' b) (S8' b') := by
  intro b b' hne; rw [Finset.disjoint_left]; intro y hy hy'; rw [mem_S8] at hy hy'; exact hne (Fin.ext (by omega))
theorem C5_disjoint : ∀ b b' : Fin 5, b ≠ b' → Disjoint (C5 b) (C5 b') := by
  intro b b' hne; rw [Finset.disjoint_left]; intro y hy hy'; rw [mem_C5] at hy hy'; exact hne (Fin.ext (by omega))
theorem Z25_disjoint : ∀ b b' : Fin 25, b ≠ b' → Disjoint (Z25 b) (Z25 b') := by
  intro b b' hne; rw [Finset.disjoint_left]; intro y hy hy'; rw [mem_Z25] at hy hy'; exact hne (Fin.ext (by omega))

theorem S8_cover : Finset.univ.biUnion S8' = Finset.univ := by
  ext y; simp only [Finset.mem_biUnion, Finset.mem_univ, true_and, iff_true]
  exact ⟨y 0, (mem_S8 _ y).mpr rfl⟩
theorem Z25_cover : Finset.univ.biUnion Z25 = Finset.univ := by
  ext y; simp only [Finset.mem_biUnion, Finset.mem_univ, true_and, iff_true]
  have h1 : (y 1).val < 32000 := (y 1).isLt
  exact ⟨⟨(y 1).val / 1280, by omega⟩, (mem_Z25 _ y).mpr (by dsimp only; omega)⟩
theorem C5_cover : Finset.univ.biUnion C5 = S8' 0 := by
  ext y; simp only [Finset.mem_biUnion, Finset.mem_univ, true_and]
  have h2 : (y 2).val < 1280 := (y 2).isLt
  rw [mem_S8]
  constructor
  · rintro ⟨p, hp⟩; exact ((mem_C5 p y).mp hp).1
  · intro H; exact ⟨⟨(y 2).val / 256, by omega⟩, (mem_C5 _ y).mpr ⟨H, by dsimp only; omega⟩⟩
theorem W_disjoint : Disjoint (Finset.univ.biUnion W24) (Finset.univ.biUnion W5) := by
  rw [Finset.disjoint_left]; intro y hy hy'
  simp only [Finset.mem_biUnion, Finset.mem_univ, true_and] at hy hy'
  obtain ⟨b, hb⟩ := hy; obtain ⟨p, hp⟩ := hy'
  rw [mem_W24] at hb; rw [mem_W5] at hp
  have := b.isLt; omega
theorem W_cover : Finset.univ.biUnion W24 ∪ Finset.univ.biUnion W5 = Finset.univ := by
  ext y; simp only [Finset.mem_union, Finset.mem_biUnion, Finset.mem_univ, true_and, iff_true]
  have h1 : (y 1).val < 32000 := (y 1).isLt
  by_cases h : (y 1).val < 30720
  · exact .inl ⟨⟨(y 1).val / 1280, by omega⟩, (mem_W24 _ y).mpr (by dsimp only; omega)⟩
  · exact .inr ⟨⟨((y 1).val - 30720) / 256, by omega⟩, (mem_W5 _ y).mpr (by dsimp only; omega)⟩

/-! ## The arrays and their pieces -/

section Split

variable (c : Dev nD)

theorem bigSep_fin5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem slotP_eq (s : Fin 8) (f) : slotP c s f = (((c : Thread nD τ).loc cc0_scratch0) ↦[S8' s]{fullShare} f : sProp 𝕄) :=
  congrArg (fun S => (_ ↦[S]{fullShare} f : sProp 𝕄)) (wslot_set s)
theorem colP_eq (p : Fin 5) (f) : colP c p f = (((c : Thread nD τ).loc cc0_scratch0) ↦[C5 p]{fullShare} f : sProp 𝕄) :=
  congrArg (fun S => (_ ↦[S]{fullShare} f : sProp 𝕄)) (wcol_set p)
theorem zP_eq (b : Fin 25) (f) : zP c b f = (((c : Thread nD τ).loc cc0_scratch9) ↦[Z25 b]{fullShare} f : sProp 𝕄) :=
  congrArg (fun S => (_ ↦[S]{fullShare} f : sProp 𝕄)) (zslab_set b)
theorem oP_eq (b : Fin 25) (f) : oP c b f = (((c : Thread nD τ).loc main_v1_2) ↦[Z25 b]{fullShare} f : sProp 𝕄) :=
  congrArg (fun S => (_ ↦[S]{fullShare} f : sProp 𝕄)) (oslab_set b)
theorem homeP_eq (b : Fin 24) (f) : homeP c f b = (((c : Thread nD τ).loc main_arg2) ↦[W24 b]{fullShare} f : sProp 𝕄) :=
  congrArg (fun S => (_ ↦[S]{fullShare} f : sProp 𝕄)) (wblk_set b)
theorem thomeP_eq (p : Fin 5) (f) : thomeP c f p = (((c : Thread nD τ).loc main_arg2) ↦[W5 p]{fullShare} f : sProp 𝕄) :=
  congrArg (fun S => (_ ↦[S]{fullShare} f : sProp 𝕄)) (wtl_set p)

theorem slot0_eq (f : Buf (Elt F) ((c : Thread nD τ).loc cc0_scratch0)) :
    (slotP c 0 f : sProp 𝕄) = iprop(colP c 0 f ∗ colP c 1 f ∗ colP c 2 f ∗ colP c 3 f ∗ colP c 4 f) := by
  exact (slotP_eq c 0 f).trans ((Ring.pointsTo_sub_blocks (ℓ := (c : Thread nD τ).loc cc0_scratch0) C5 C5_disjoint (S8' 0) C5_cover f).trans
    ((bigSep_congr fun p _ => (colP_eq c p f).symm).trans (bigSep_fin5 (fun p => colP c p f))))
/-- Slot 0 is the five tail windows' columns; -/
theorem slot0_split (s : Fin 8) (hs : s = 0) (f) : (slotP c s f : sProp 𝕄) ⊢ iprop(colP c 0 f ∗ colP c 1 f ∗ colP c 2 f ∗ colP c 3 f ∗ colP c 4 f) := by
  subst hs; exact Entails.of_eq (slot0_eq c f)
/-- and back. -/
theorem slot0_join (f₀ : Buf (Elt F) ((c : Thread nD τ).loc cc0_scratch0)) :
    iprop((∃ f, colP c 0 f) ∗ (∃ f, colP c 1 f) ∗ (∃ f, colP c 2 f) ∗ (∃ f, colP c 3 f) ∗ (∃ f, colP c 4 f)) ⊢ (iprop(∃ f, slotP c 0 f) : sProp 𝕄) := by
  have h := Ring.pointsTo_sub_blocks_join_exists (Ix := Unit) (Name := ℕ) (U := UU nD τ) (Lvl := ℕ) (q := fullShare) (ℓ := (c : Thread nD τ).loc cc0_scratch0) C5 C5_disjoint (S8' 0) C5_cover f₀
  rw [← bigSep_fin5 (fun p => iprop(∃ f, colP c p f))]
  refine (Entails.of_eq (bigSep_congr fun p _ => ?_)).trans (h.trans (Entails.of_eq ?_))
  · simp only [colP_eq]; rfl
  · simp only [slotP_eq]; rfl

/-- The ring is its eight slots, and back. -/
theorem ring_split (f : Buf (Elt F) ((c : Thread nD τ).loc cc0_scratch0)) :
    (((c : Thread nD τ).loc cc0_scratch0) ↦{fullShare} f : sProp 𝕄) = bigSep Finset.univ fun s => slotP c s f := by
  rw [Ring.pointsTo_blocks (ℓ := (c : Thread nD τ).loc cc0_scratch0) S8' S8_disjoint S8_cover]
  exact bigSep_congr fun s _ => (slotP_eq c s f).symm
theorem ring_join (f₀ : Buf (Elt F) ((c : Thread nD τ).loc cc0_scratch0)) :
    bigSep Finset.univ (fun s => iprop(∃ f, slotP c s f)) ⊢ (iprop(∃ f : Buf (Elt F) ((c : Thread nD τ).loc cc0_scratch0), ((c : Thread nD τ).loc cc0_scratch0) ↦{fullShare} f) : sProp 𝕄) := by
  simp only [slotP_eq]
  exact Ring.pointsTo_blocks_join_exists (ℓ := (c : Thread nD τ).loc cc0_scratch0) S8' S8_disjoint S8_cover f₀

/-- The logits are their 25 slabs, and back. -/
theorem z_split (f : Buf (Elt F) ((c : Thread nD τ).loc cc0_scratch9)) :
    (((c : Thread nD τ).loc cc0_scratch9) ↦{fullShare} f : sProp 𝕄) = bigSep Finset.univ fun s => zP c s f := by
  rw [Ring.pointsTo_blocks (ℓ := (c : Thread nD τ).loc cc0_scratch9) Z25 Z25_disjoint Z25_cover]
  exact bigSep_congr fun s _ => (zP_eq c s f).symm
theorem z_join (f₀ : Buf (Elt F) ((c : Thread nD τ).loc cc0_scratch9)) :
    bigSep Finset.univ (fun s => iprop(∃ f, zP c s f)) ⊢ (iprop(∃ f : Buf (Elt F) ((c : Thread nD τ).loc cc0_scratch9), ((c : Thread nD τ).loc cc0_scratch9) ↦{fullShare} f) : sProp 𝕄) := by
  simp only [zP_eq]
  exact Ring.pointsTo_blocks_join_exists (ℓ := (c : Thread nD τ).loc cc0_scratch9) Z25 Z25_disjoint Z25_cover f₀
/-- The result is its 25 slabs, and back. -/
theorem o_split (f : Buf (Elt F) ((c : Thread nD τ).loc main_v1_2)) :
    (((c : Thread nD τ).loc main_v1_2) ↦{fullShare} f : sProp 𝕄) = bigSep Finset.univ fun s => oP c s f := by
  rw [Ring.pointsTo_blocks (ℓ := (c : Thread nD τ).loc main_v1_2) Z25 Z25_disjoint Z25_cover]
  exact bigSep_congr fun s _ => (oP_eq c s f).symm
theorem o_join (f₀ : Buf (Elt F) ((c : Thread nD τ).loc main_v1_2)) :
    bigSep Finset.univ (fun s => iprop(∃ f, oP c s f)) ⊢ (iprop(∃ f : Buf (Elt F) ((c : Thread nD τ).loc main_v1_2), ((c : Thread nD τ).loc main_v1_2) ↦{fullShare} f) : sProp 𝕄) := by
  simp only [oP_eq]
  exact Ring.pointsTo_blocks_join_exists (ℓ := (c : Thread nD τ).loc main_v1_2) Z25 Z25_disjoint Z25_cover f₀

/-- The weights are their blocks and tail windows. -/
theorem w_split (XW : Buf (Elt F) ((c : Thread nD τ).loc main_arg2)) :
    (((c : Thread nD τ).loc main_arg2) ↦{fullShare} XW : sProp 𝕄)
      = iprop(bigSep Finset.univ (homeP c XW) ∗ thomeP c XW 0 ∗ thomeP c XW 1 ∗ thomeP c XW 2 ∗ thomeP c XW 3 ∗ thomeP c XW 4) := by
  have e : (((c : Thread nD τ).loc main_arg2) ↦{fullShare} XW : sProp 𝕄)
      = (((c : Thread nD τ).loc main_arg2) ↦[Finset.univ.biUnion W24 ∪ Finset.univ.biUnion W5]{fullShare} XW : sProp 𝕄) :=
    congrArg (fun S => (_ ↦[S]{fullShare} XW : sProp 𝕄)) W_cover.symm
  have e2 := Entails.antisymm (pointsTo_union (q := fullShare) (f := XW) (Ix := Unit) (Name := ℕ) (U := UU nD τ) (Lvl := ℕ) (ℓ := (c : Thread nD τ).loc main_arg2) W_disjoint).1
    (pointsTo_union (ℓ := (c : Thread nD τ).loc main_arg2) W_disjoint).2
  have e3 : (((c : Thread nD τ).loc main_arg2) ↦[Finset.univ.biUnion W24]{fullShare} XW : sProp 𝕄) = bigSep Finset.univ (homeP c XW) :=
    (Ring.pointsTo_sub_blocks (ℓ := (c : Thread nD τ).loc main_arg2) W24 W24_disjoint _ rfl XW).trans (bigSep_congr fun b _ => (homeP_eq c b XW).symm)
  have e4 : (((c : Thread nD τ).loc main_arg2) ↦[Finset.univ.biUnion W5]{fullShare} XW : sProp 𝕄) = iprop(thomeP c XW 0 ∗ thomeP c XW 1 ∗ thomeP c XW 2 ∗ thomeP c XW 3 ∗ thomeP c XW 4) :=
    ((Ring.pointsTo_sub_blocks (ℓ := (c : Thread nD τ).loc main_arg2) W5 W5_disjoint _ rfl XW).trans (bigSep_congr fun b _ => (thomeP_eq c b XW).symm)).trans (bigSep_fin5 (fun p => thomeP c XW p))
  exact e.trans (e2.trans (congrArg₂ (fun A B : sProp 𝕄 => iprop(A ∗ B)) e3 e4))

end Split

end Cert.Proof.KernelIdeal
end
-- ==== Proof.KernelIdeal.Chunk.lean ====
/-
  What one trip of the main loop writes: each chunk of 128 columns of the logits is one pointwise function of the
  product, the coefficient rows, the weight scales and the packed counts.
-/
module

public import proofs.«01_k».proof.Proof.KernelIdeal.Pieces
public import proofs.«01_k».proof.Proof.KernelIdeal.Sets
public import Idealize.ShloMosaic.Lib.Pipeline.Value

@[expose] public section

noncomputable section

namespace Cert.Proof.KernelIdeal

open Cert.KernelIdeal Cert.KernelIdeal.Gen
open Idealize.ShloMosaic
open Idealize.ShloMosaic.TcCoe Idealize.ShloMosaic.Tactic

variable {F : FTy → Type} [FloatOps F]

/-- One penalised logit: `a` the product, `xs` and `w` the scales, `h` the packed count. -/
def postE (a xs rep frq prs w h : F .f32) : F .f32 :=
  FloatOps.subf (FloatOps.subf (Scalar.select (FloatOps.cmpf .ogt h (Scalar.ofBits .f32 0x00000000#32))
      (Scalar.select (FloatOps.cmpf .ogt (FloatOps.mulf (FloatOps.mulf a xs) w) (Scalar.ofBits .f32 0x00000000#32))
        (FloatOps.divf (FloatOps.mulf (FloatOps.mulf a xs) w) rep) (FloatOps.mulf (FloatOps.mulf (FloatOps.mulf a xs) w) rep)
        : F .f32) (FloatOps.mulf (FloatOps.mulf a xs) w)) (FloatOps.mulf (FloatOps.floor h) frq))
    (Scalar.select (FloatOps.cmpf .ogt (FloatOps.floor h) (Scalar.ofBits .f32 0x00000000#32)) prs (Scalar.ofBits .f32 0x00000000#32) : F .f32)

/-- A chunk of 128 columns from its columns `a` of the product, as the body's vector operations. -/
def chunkC (a xs rep frq prs : FVec F S16x128 .f32) (w : Vec F S1x128 .f32) (h : Vec F S1x16x128 .f32) : FVec F S12x128 .f32 :=
  have z : FVec F S16x128 .f32 := mulf (mulf a xs) (broadcastTo S16x128 w broadcasts_S1x128_S16x128)
  have c : FVec F S16x128 .f32 := shapeCast S16x128 h shapeCasts_S1x16x128_S16x128
  have n : FVec F S16x128 .f32 := broadcast S16x128 (Scalar.ofBits .f32 0x00000000#32)
  shapeCast S12x128 (extractStridedSlice S12x128 ![0, 0]
    (subf (subf (select (cmpf .ogt c n) (select (cmpf .ogt z n) (divf z rep) (mulf z rep)) z) (mulf (floor c) frq))
      (select (cmpf .ogt (floor c) n) prs n)) slices_S16x128_o0_0_S12x128) shapeCasts_S12x128_S12x128

/-- Row `b`, lane `l` of a 16-row, 128-lane block. -/
abbrev lane (x : S12x128.Idx) : S16x128.Idx := fun a => match a with
  | ⟨0, _⟩ => ⟨(x 0).val, lt_trans (x 0).isLt (show 12 < 16 by decide)⟩
  | ⟨1, _⟩ => ⟨(x 1).val, (x 1).isLt⟩
abbrev lane0 (x : S12x128.Idx) : S1x16x128.Idx := fun a => match a with
  | ⟨0, _⟩ => ⟨0, show 0 < 1 by decide⟩
  | ⟨1, _⟩ => ⟨(x 0).val, lt_trans (x 0).isLt (show 12 < 16 by decide)⟩
  | ⟨2, _⟩ => ⟨(x 1).val, (x 1).isLt⟩
abbrev lane1 (x : S12x128.Idx) : S1x128.Idx := fun a => match a with
  | ⟨0, _⟩ => ⟨0, show 0 < 1 by decide⟩
  | ⟨1, _⟩ => ⟨(x 1).val, (x 1).isLt⟩
abbrev laneC (o : ℕ) (ho : o + 128 ≤ 1280) (x : S12x128.Idx) : S16x1280.Idx := fun a => match a with
  | ⟨0, _⟩ => ⟨(x 0).val, lt_trans (x 0).isLt (show 12 < 16 by decide)⟩
  | ⟨1, _⟩ => ⟨o + (x 1).val, by have : (x 1).val < 128 := (x 1).isLt; show o + (x 1).val < 1280; omega⟩

theorem rowMajor_lane (x : S12x128.Idx) : (S1x16x128.rowMajor (lane0 x)).val = (S16x128.rowMajor (lane x)).val := by
  rw [Shape.rowMajor_val_three, Shape.rowMajor_val_two]
  show (0 * 16 + (x 0).val) * 128 + (x 1).val = (x 0).val * 128 + (x 1).val
  omega

theorem chunkC_apply (a xs rep frq prs : FVec F S16x128 .f32) (w : Vec F S1x128 .f32) (h : Vec F S1x16x128 .f32) (x : S12x128.Idx) :
    chunkC a xs rep frq prs w h x
      = postE (a (lane x)) (xs (lane x)) (rep (lane x)) (frq (lane x)) (prs (lane x)) (w (lane1 x)) (h (lane0 x)) := by
  unfold chunkC
  refine (shapeCast_apply _ _ x x rfl).trans ?_
  refine (extractStridedSlice_apply _ _ _ x (lane x) (fun a => match a with
    | ⟨0, _⟩ => (Nat.zero_add _).symm | ⟨1, _⟩ => (Nat.zero_add _).symm)).trans ?_
  have e2 : broadcastTo S16x128 w broadcasts_S1x128_S16x128 (lane x) = w (lane1 x) :=
    broadcastTo_apply _ _ _ _ (fun a => match a with | ⟨0, _⟩ => rfl | ⟨1, _⟩ => rfl)
  have e3 : shapeCast S16x128 h shapeCasts_S1x16x128_S16x128 (lane x) = h (lane0 x) :=
    shapeCast_apply _ _ _ _ (rowMajor_lane x)
  unfold postE
  rw [← e2, ← e3]
  rfl

abbrev cfI (i : Fin 4) (y : S12x32000.Idx) : S4x16x128.Idx := fun a => match a with
  | ⟨0, _⟩ => i
  | ⟨1, _⟩ => ⟨(y 0).val, lt_trans (y 0).isLt (show 12 < 16 by decide)⟩
  | ⟨2, _⟩ => ⟨(y 1).val % 128, Nat.mod_lt _ (show 0 < 128 by decide)⟩
abbrev wcI (y : S12x32000.Idx) : S250x128.Idx := fun a => match a with
  | ⟨0, _⟩ => ⟨(y 1).val / 128, by have : (y 1).val < 32000 := (y 1).isLt; show (y 1).val / 128 < 250; omega⟩
  | ⟨1, _⟩ => ⟨(y 1).val % 128, Nat.mod_lt _ (show 0 < 128 by decide)⟩
abbrev hiI (y : S12x32000.Idx) : S256x16x128.Idx := fun a => match a with
  | ⟨0, _⟩ => ⟨(y 1).val / 128, by have : (y 1).val < 32000 := (y 1).isLt; show (y 1).val / 128 < 256; omega⟩
  | ⟨1, _⟩ => ⟨(y 0).val, lt_trans (y 0).isLt (show 12 < 16 by decide)⟩
  | ⟨2, _⟩ => ⟨(y 1).val % 128, Nat.mod_lt _ (show 0 < 128 by decide)⟩

/-- The whole logits: entry `(b, v)` is `postE` of the product, of the coefficients of row `b`, of column `v`'s scale and count. -/
def zAt (ACC : ℕ → ℕ → F .f32) (CF : S4x16x128.Idx → F .f32) (WC : S250x128.Idx → F .f32) (HI : S256x16x128.Idx → F .f32) (y : S12x32000.Idx) : F .f32 :=
  postE (ACC (y 0).val (y 1).val) (CF (cfI 0 y)) (CF (cfI 1 y)) (CF (cfI 2 y)) (CF (cfI 3 y)) (WC (wcI y)) (HI (hiI y))

section Writes

variable (c : Dev nD) (ACC : ℕ → ℕ → F .f32)
  (CF : Buf (Elt F) (cfM.view.loc (c : Thread nD τ)))
  (WC : Buf (Elt F) (wcM.view.loc (c : Thread nD τ))) (HI : Buf (Elt F) (hiM.view.loc (c : Thread nD τ)))

/-- A coefficient row as loaded. -/
abbrev cfLd (i : ℕ) (h : ∀ a, (![i, 0, 0] : Fin 3 → ℕ) a + S1x16x128.size a ≤ S4x16x128.size a) : Vec F S1x16x128 .f32 :=
  View.readAt (Elt F) cfM.view (Rect.unit (s := S4x16x128) ![i, 0, 0] S1x16x128.size h).toLoadRect CF

/-- One chunk's vector at an index is the array `zAt` there. -/
theorem chunk_zAt (n : ℕ) (hn' : n < 250)
    (a : FVec F S16x128 .f32) (ha : ∀ x : S12x128.Idx, a (lane x) = ACC (x 0).val (n * 128 + (x 1).val))
    (f11 : Fin 2 → ℕ) (e11 : f11 = ![n, 0]) (i11) (f12 : Fin 3 → ℕ) (e12 : f12 = ![n, 0, 0]) (i12)
    (y : S12x32000.Idx) (x : S12x128.Idx) (hx0 : (y 0).val = (x 0).val) (hx1 : (y 1).val = n * 128 + (x 1).val) :
    chunkC a (k0_pay4 (cfLd c CF 0 inb_S4x16x128_S1x16x128_0_0_0)) (k0_pay5 (cfLd c CF 1 inb_S4x16x128_S1x16x128_1_0_0))
      (k0_pay6 (cfLd c CF 2 inb_S4x16x128_S1x16x128_2_0_0)) (k0_pay7 (cfLd c CF 3 inb_S4x16x128_S1x16x128_3_0_0))
      (View.readAt (Elt F) wcM.view (Rect.unit (s := S250x128) f11 S1x128.size i11).toLoadRect WC)
      (View.readAt (Elt F) hiM.view (Rect.unit (s := S256x16x128) f12 S1x16x128.size i12).toLoadRect HI) x = zAt ACC CF WC HI y := by
  subst e11 e12
  have hxl : (x 1).val < 128 := (x 1).isLt
  have hxb : (x 0).val < 12 := (x 0).isLt
  have hd : (y 1).val / 128 = n := by omega
  have hm : (y 1).val % 128 = (x 1).val := by omega
  rw [chunkC_apply]
  have ecf (i : Fin 4) (h) : shapeCast S16x128 (cfLd c CF i.val h) shapeCasts_S1x16x128_S16x128 (lane x) = (CF : S4x16x128.Idx → F .f32) (cfI i y) := by
    refine (shapeCast_apply _ _ (lane x) (lane0 x) (rowMajor_lane x)).trans ?_
    refine congrArg (CF : S4x16x128.Idx → F .f32) (funext fun a => Fin.ext ?_)
    match a with
    | ⟨0, _⟩ => rfl
    | ⟨1, _⟩ => show 0 + 1 * (x 0).val = (y 0).val; omega
    | ⟨2, _⟩ => show 0 + 1 * (x 1).val = (y 1).val % 128; omega
  have eacc : a (lane x) = ACC (y 0).val (y 1).val := by rw [ha x, hx0, hx1]
  unfold zAt
  dsimp only
  rw [eacc]
  congr 1
  · exact ecf 0 inb_S4x16x128_S1x16x128_0_0_0
  · exact ecf 1 inb_S4x16x128_S1x16x128_1_0_0
  · exact ecf 2 inb_S4x16x128_S1x16x128_2_0_0
  · exact ecf 3 inb_S4x16x128_S1x16x128_3_0_0
  · refine congrArg (WC : S250x128.Idx → F .f32) (funext fun a => Fin.ext ?_)
    match a with
    | ⟨0, _⟩ => show n + 1 * 0 = (y 1).val / 128; omega
    | ⟨1, _⟩ => show 0 + 1 * (x 1).val = (y 1).val % 128; omega
  · refine congrArg (HI : S256x16x128.Idx → F .f32) (funext fun a => Fin.ext ?_)
    match a with
    | ⟨0, _⟩ => show n + 1 * 0 = (y 1).val / 128; omega
    | ⟨1, _⟩ => show 0 + 1 * (x 0).val = (y 0).val; omega
    | ⟨2, _⟩ => show 0 + 1 * (x 1).val = (y 1).val % 128; omega

/-- A store of one chunk, read at `y`: the stored vector inside the chunk, the old contents outside. -/
theorem wr_step (n : ℕ) (off : Fin 2 → ℕ) (e : off = ![0, n * 128]) (h) (g OZ : Buf (Elt F) (zM.view.loc (c : Thread nD τ))) (v : S12x128.Idx → F .f32)
    (y : S12x32000.Idx)
    (hv : ∀ x : S12x128.Idx, (y 0).val = (x 0).val → (y 1).val = n * 128 + (x 1).val → v x = OZ y)
    (hg : ¬ (n * 128 ≤ (y 1).val ∧ (y 1).val < n * 128 + 128) → g y = OZ y) :
    View.write (Elt F) (zM.access (Rect.unit (s := S12x32000) off S12x128.size h)) g v Finset.univ y = OZ y := by
  subst e
  refine (congrFun (View.write_whole_slice_unit cc0_scratch9 ![0, n * 128] S12x128.size h g v) y).trans ?_
  unfold updateSlice
  split
  · next hin =>
    refine hv _ ?_ ?_
    · show (y 0).val = (y 0).val - 0; omega
    · have := hin 1
      show (y 1).val = n * 128 + ((y 1).val - n * 128)
      have h2 : n * 128 ≤ (y 1).val := this.1
      omega
  · next hin =>
    refine hg fun hh => hin fun a => ?_
    match a with
    | ⟨0, _⟩ => exact ⟨Nat.zero_le _, lt_of_lt_of_eq (y 0).isLt (Nat.zero_add _).symm⟩
    | ⟨1, _⟩ => exact hh

/-! ## One trip's ten stores -/

theorem inb11 (k : Fin k0_t2_loop.trips) (j : Fin 10) : ∀ a, k0_off11 k (BitVec.ofNat 32 j.val) a + S1x128.size a ≤ S250x128.size a := by
  rw [off11_eq]
  have hk := lt24 k; have hj := j.isLt
  intro a
  match a with
  | ⟨0, _⟩ => show k.val * 10 + j.val + 1 ≤ 250; omega
  | ⟨1, _⟩ => show 0 + 128 ≤ 128; omega
theorem inb12 (k : Fin k0_t2_loop.trips) (j : Fin 10) : ∀ a, k0_off12 k (BitVec.ofNat 32 j.val) a + S1x16x128.size a ≤ S256x16x128.size a := by
  rw [off12_eq]
  have hk := lt24 k; have hj := j.isLt
  intro a
  match a with
  | ⟨0, _⟩ => show k.val * 10 + j.val + 1 ≤ 256; omega
  | ⟨1, _⟩ => show 0 + 16 ≤ 16; omega
  | ⟨2, _⟩ => show 0 + 128 ≤ 128; omega
theorem inb13 (k : Fin k0_t2_loop.trips) (j : Fin 10) : ∀ a, k0_off13 k (BitVec.ofNat 32 j.val) a + S12x128.size a ≤ S12x32000.size a := by
  rw [off13_eq]
  have hk := lt24 k; have hj := j.isLt
  intro a
  match a with
  | ⟨0, _⟩ => show 0 + 12 ≤ 12; omega
  | ⟨1, _⟩ => show (k.val * 10 + j.val) * 128 + 128 ≤ 32000; omega
theorem sliceJ (j : Fin 10) : S16x1280.Slices ![0, 128 * j.val] S16x128 := by
  revert j; decide

/-- Chunk `j` of trip `k` from the block product `acc`. -/
abbrev chunkP (k : Fin k0_t2_loop.trips) (acc : FVec F S16x1280 .f32) (j : Fin 10) : FVec F S12x128 .f32 :=
  chunkC (extractStridedSlice S16x128 ![0, 128 * j.val] acc (sliceJ j)) (k0_pay4 (cfLd c CF 0 inb_S4x16x128_S1x16x128_0_0_0)) (k0_pay5 (cfLd c CF 1 inb_S4x16x128_S1x16x128_1_0_0))
      (k0_pay6 (cfLd c CF 2 inb_S4x16x128_S1x16x128_2_0_0)) (k0_pay7 (cfLd c CF 3 inb_S4x16x128_S1x16x128_3_0_0))
      (View.readAt (Elt F) wcM.view (Rect.unit (s := S250x128) (k0_off11 k (BitVec.ofNat 32 j.val)) S1x128.size (inb11 k j)).toLoadRect WC)
      (View.readAt (Elt F) hiM.view (Rect.unit (s := S256x16x128) (k0_off12 k (BitVec.ofNat 32 j.val)) S1x16x128.size (inb12 k j)).toLoadRect HI)

/-- The store of chunk `j`. -/
abbrev zw (k : Fin k0_t2_loop.trips) (acc : FVec F S16x1280 .f32) (j : Fin 10) (g : Buf (Elt F) (zM.view.loc (c : Thread nD τ))) : Buf (Elt F) (zM.view.loc (c : Thread nD τ)) :=
  View.write (Elt F) (zM.access (Rect.unit (s := S12x32000) (k0_off13 k (BitVec.ofNat 32 j.val)) S12x128.size (inb13 k j))) g
    (chunkP c CF WC HI k acc j) Finset.univ

theorem zw_step (k : Fin k0_t2_loop.trips) (acc : FVec F S16x1280 .f32)
    (hacc : ∀ y : S16x1280.Idx, (y 0).val < 12 → acc y = ACC (y 0).val (k.val * 1280 + (y 1).val)) (j : Fin 10)
    (g : Buf (Elt F) (zM.view.loc (c : Thread nD τ))) (y : S12x32000.Idx)
    (hg : ¬ ((k.val * 10 + j.val) * 128 ≤ (y 1).val ∧ (y 1).val < (k.val * 10 + j.val) * 128 + 128) → (g : S12x32000.Idx → F .f32) y = zAt ACC CF WC HI y) :
    (zw c CF WC HI k acc j g : S12x32000.Idx → F .f32) y = zAt ACC CF WC HI y := by
  have hk := lt24 k; have hj := j.isLt
  exact wr_step c (k.val * 10 + j.val) _ (off13_eq k j) _ g (zAt ACC CF WC HI) _ y
    (fun x h0 h1 => chunk_zAt c ACC CF WC HI (k.val * 10 + j.val) (by omega) _ (fun x => by
        have hx : (x 0).val < 12 := (x 0).isLt
        refine (extractStridedSlice_apply _ _ _ (lane x) (laneC (128 * j.val) (by omega) x) (fun a => match a with
          | ⟨0, _⟩ => (Nat.zero_add _).symm | ⟨1, _⟩ => rfl)).trans ((hacc _ hx).trans ?_)
        show ACC (x 0).val (k.val * 1280 + (128 * j.val + (x 1).val)) = _
        congr 1; omega)
      _ (off11_eq k j) _ _ (off12_eq k j) _ y x h0 h1) hg

/-- The ten stores of trip `k`. -/
abbrev slabW (k : Fin k0_t2_loop.trips) (acc : FVec F S16x1280 .f32) (g : Buf (Elt F) (zM.view.loc (c : Thread nD τ))) : Buf (Elt F) (zM.view.loc (c : Thread nD τ)) :=
  zw c CF WC HI k acc 9 (zw c CF WC HI k acc 8 (zw c CF WC HI k acc 7 (zw c CF WC HI k acc 6 (zw c CF WC HI k acc 5
      (zw c CF WC HI k acc 4 (zw c CF WC HI k acc 3 (zw c CF WC HI k acc 2 (zw c CF WC HI k acc 1 (zw c CF WC HI k acc 0 g)))))))))

/-- The ten stores of trip `k` leave `zAt` on slab `k`. -/
theorem slab_zAt (k : Fin k0_t2_loop.trips) (acc : FVec F S16x1280 .f32)
    (hacc : ∀ y : S16x1280.Idx, (y 0).val < 12 → acc y = ACC (y 0).val (k.val * 1280 + (y 1).val))
    (g : Buf (Elt F) (zM.view.loc (c : Thread nD τ))) (y : S12x32000.Idx) (hy : y ∈ (zslab (Ring.bk 25 k.val)).view.set) :
    (slabW c CF WC HI k acc g : S12x32000.Idx → F .f32) y = zAt ACC CF WC HI y := by
  have hk := lt24 k
  have e := zslab_set (Ring.bk 25 k.val)
  replace hy := (mem_Z25 _ y).mp (e ▸ hy)
  rw [Ring.bk_val (by omega)] at hy
  refine zw_step c ACC CF WC HI k acc hacc 9 _ y fun h9 => zw_step c ACC CF WC HI k acc hacc 8 _ y fun h8 => zw_step c ACC CF WC HI k acc hacc 7 _ y fun h7 =>
    zw_step c ACC CF WC HI k acc hacc 6 _ y fun h6 => zw_step c ACC CF WC HI k acc hacc 5 _ y fun h5 => zw_step c ACC CF WC HI k acc hacc 4 _ y fun h4 =>
    zw_step c ACC CF WC HI k acc hacc 3 _ y fun h3 => zw_step c ACC CF WC HI k acc hacc 2 _ y fun h2 => zw_step c ACC CF WC HI k acc hacc 1 _ y fun h1 =>
    zw_step c ACC CF WC HI k acc hacc 0 _ y fun h0 => ?_
  exfalso
  change ¬ ((k.val * 10 + 9) * 128 ≤ (y 1).val ∧ (y 1).val < (k.val * 10 + 9) * 128 + 128) at h9
  change ¬ ((k.val * 10 + 8) * 128 ≤ (y 1).val ∧ (y 1).val < (k.val * 10 + 8) * 128 + 128) at h8
  change ¬ ((k.val * 10 + 7) * 128 ≤ (y 1).val ∧ (y 1).val < (k.val * 10 + 7) * 128 + 128) at h7
  change ¬ ((k.val * 10 + 6) * 128 ≤ (y 1).val ∧ (y 1).val < (k.val * 10 + 6) * 128 + 128) at h6
  change ¬ ((k.val * 10 + 5) * 128 ≤ (y 1).val ∧ (y 1).val < (k.val * 10 + 5) * 128 + 128) at h5
  change ¬ ((k.val * 10 + 4) * 128 ≤ (y 1).val ∧ (y 1).val < (k.val * 10 + 4) * 128 + 128) at h4
  change ¬ ((k.val * 10 + 3) * 128 ≤ (y 1).val ∧ (y 1).val < (k.val * 10 + 3) * 128 + 128) at h3
  change ¬ ((k.val * 10 + 2) * 128 ≤ (y 1).val ∧ (y 1).val < (k.val * 10 + 2) * 128 + 128) at h2
  change ¬ ((k.val * 10 + 1) * 128 ≤ (y 1).val ∧ (y 1).val < (k.val * 10 + 1) * 128 + 128) at h1
  change ¬ ((k.val * 10 + 0) * 128 ≤ (y 1).val ∧ (y 1).val < (k.val * 10 + 0) * 128 + 128) at h0
  omega

variable (XW : Buf (Elt F) (wM.view.loc (c : Thread nD τ))) (XP : Buf (Elt F) (xpM.view.loc (c : Thread nD τ)))

/-- The padded activations as loaded. -/
abbrev xpLd : Vec F S32x4096 .fp8e4m3 := View.readAt (Elt F) xpM.view (Rect.unit (s := S32x4096) ![0, 0] S32x4096.size inb_S32x4096_S32x4096_0_0).toLoadRect XP
/-- Block `k` of the weights as loaded from its slot. -/
abbrev blkLd (k : Fin k0_t2_loop.trips) : Vec F S1x4096x1280 .fp8e4m3 :=
  View.readAt (Elt F) wbM.view (Rect.unit (s := S8x4096x1280) (k0_off7 k) S1x4096x1280.size (k0_off7_inb k)).toLoadRect
    ((wslot (Ring.sl 8 k.val)).view.writes (Elt F) (wslot (Ring.sl 8 k.val)).view.junk
      [⟨Rect.whole S4096x1280, ReadAs.same.apply (View.read (Elt F) (wblk (Ring.bk 24 k.val)).view XW)⟩])

/-- `ACC` is what the block products hold. -/
def AccOk : Prop := ∀ (k : Fin k0_t2_loop.trips) (y : S16x1280.Idx), (y 0).val < 12 →
  k0_pay3 (xpLd c XP) (blkLd c XW k) y = ACC (y 0).val (k.val * 1280 + (y 1).val)

/-- `OZ` is what every trip's stores leave on its slab. -/
def SlabOk (OZ : Buf (Elt F) (zM.view.loc (c : Thread nD τ))) : Prop := ∀ (k : Fin k0_t2_loop.trips) (g : Buf (Elt F) (zM.view.loc (c : Thread nD τ))) (y : S12x32000.Idx),
  y ∈ (zslab (Ring.bk 25 k.val)).view.set →
    (slabW c CF WC HI k (k0_pay3 (xpLd c XP) (blkLd c XW k)) g : S12x32000.Idx → F .f32) y = (OZ : S12x32000.Idx → F .f32) y

theorem slabOk (h : AccOk c ACC XW XP) : SlabOk c CF WC HI XW XP (zAt ACC CF WC HI) :=
  fun k g y hy => slab_zAt c ACC CF WC HI k _ (h k) g y hy

/-! ## The last slab: five windows of 256 columns, two chunks each -/

/-- Tail window `p` of the weights as loaded. -/
abbrev tailLd (p : Fin 5) : Vec F S1x4096x256 .fp8e4m3 :=
  View.readAt (Elt F) wbM.view (Rect.unit (s := S8x4096x1280) (colOff p) S1x4096x256.size (colOff_inb p)).toLoadRect
    ((wcol p).view.writes (Elt F) (wcol p).view.junk [⟨Rect.whole S4096x256, ReadAs.same.apply (View.read (Elt F) (wtl p).view XW)⟩])

/-- `ACC` is what the tail products hold. -/
def AccTail : Prop := ∀ (p : Fin 5) (y : S16x256.Idx), (y 0).val < 12 →
  k0_pay96 (xpLd c XP) (tailLd c XW p) y = ACC (y 0).val (30720 + (p.val * 256 + (y 1).val))

theorem tb11 (i : Fin 10) : ∀ a, (![240 + i.val, 0] : Fin 2 → ℕ) a + S1x128.size a ≤ S250x128.size a := by
  have hj := i.isLt
  intro a
  match a with
  | ⟨0, _⟩ => show 240 + i.val + 1 ≤ 250; omega
  | ⟨1, _⟩ => show 0 + 128 ≤ 128; omega
theorem tb12 (i : Fin 10) : ∀ a, (![240 + i.val, 0, 0] : Fin 3 → ℕ) a + S1x16x128.size a ≤ S256x16x128.size a := by
  have hj := i.isLt
  intro a
  match a with
  | ⟨0, _⟩ => show 240 + i.val + 1 ≤ 256; omega
  | ⟨1, _⟩ => show 0 + 16 ≤ 16; omega
  | ⟨2, _⟩ => show 0 + 128 ≤ 128; omega
theorem tb13 (i : Fin 10) : ∀ a, (![0, (240 + i.val) * 128] : Fin 2 → ℕ) a + S12x128.size a ≤ S12x32000.size a := by
  have hj := i.isLt
  intro a
  match a with
  | ⟨0, _⟩ => show 0 + 12 ≤ 12; omega
  | ⟨1, _⟩ => show (240 + i.val) * 128 + 128 ≤ 32000; omega
theorem sliceT (i : Fin 10) : S16x256.Slices ![0, 128 * (i.val % 2)] S16x128 := by
  revert i; decide
abbrev laneT (o : ℕ) (ho : o + 128 ≤ 256) (x : S12x128.Idx) : S16x256.Idx := fun a => match a with
  | ⟨0, _⟩ => ⟨(x 0).val, lt_trans (x 0).isLt (show 12 < 16 by decide)⟩
  | ⟨1, _⟩ => ⟨o + (x 1).val, by have : (x 1).val < 128 := (x 1).isLt; show o + (x 1).val < 256; omega⟩
/-- The window that tail chunk `i` reads. -/
abbrev tw (i : Fin 10) : Fin 5 := ⟨i.val / 2, by omega⟩

/-- The store of tail chunk `i`. -/
abbrev tz (i : Fin 10) (g : Buf (Elt F) (zM.view.loc (c : Thread nD τ))) : Buf (Elt F) (zM.view.loc (c : Thread nD τ)) :=
  View.write (Elt F) (zM.access (Rect.unit (s := S12x32000) ![0, (240 + i.val) * 128] S12x128.size (tb13 i))) g
    (chunkC (extractStridedSlice S16x128 ![0, 128 * (i.val % 2)] (k0_pay96 (xpLd c XP) (tailLd c XW (tw i))) (sliceT i))
      (k0_pay4 (cfLd c CF 0 inb_S4x16x128_S1x16x128_0_0_0)) (k0_pay5 (cfLd c CF 1 inb_S4x16x128_S1x16x128_1_0_0))
      (k0_pay6 (cfLd c CF 2 inb_S4x16x128_S1x16x128_2_0_0)) (k0_pay7 (cfLd c CF 3 inb_S4x16x128_S1x16x128_3_0_0))
      (View.readAt (Elt F) wcM.view (Rect.unit (s := S250x128) ![240 + i.val, 0] S1x128.size (tb11 i)).toLoadRect WC)
      (View.readAt (Elt F) hiM.view (Rect.unit (s := S256x16x128) ![240 + i.val, 0, 0] S1x16x128.size (tb12 i)).toLoadRect HI)) Finset.univ

theorem tz_step (hacc : AccTail c ACC XW XP) (i : Fin 10) (g : Buf (Elt F) (zM.view.loc (c : Thread nD τ))) (y : S12x32000.Idx)
    (hg : ¬ ((240 + i.val) * 128 ≤ (y 1).val ∧ (y 1).val < (240 + i.val) * 128 + 128) → (g : S12x32000.Idx → F .f32) y = zAt ACC CF WC HI y) :
    (tz c CF WC HI XW XP i g : S12x32000.Idx → F .f32) y = zAt ACC CF WC HI y := by
  have hj := i.isLt
  exact wr_step c (240 + i.val) _ rfl _ g (zAt ACC CF WC HI) _ y
    (fun x h0 h1 => chunk_zAt c ACC CF WC HI (240 + i.val) (by omega) _ (fun x => by
        have hx : (x 0).val < 12 := (x 0).isLt
        refine (extractStridedSlice_apply _ _ _ (lane x) (laneT (128 * (i.val % 2)) (by omega) x) (fun a => match a with
          | ⟨0, _⟩ => (Nat.zero_add _).symm | ⟨1, _⟩ => rfl)).trans ((hacc _ _ hx).trans ?_)
        show ACC (x 0).val (30720 + (i.val / 2 * 256 + (128 * (i.val % 2) + (x 1).val))) = _
        congr 1; omega)
      _ rfl _ _ rfl _ y x h0 h1) hg

/-- The ten stores of the last slab. -/
abbrev tailW (g : Buf (Elt F) (zM.view.loc (c : Thread nD τ))) : Buf (Elt F) (zM.view.loc (c : Thread nD τ)) :=
  tz c CF WC HI XW XP 9 (tz c CF WC HI XW XP 8 (tz c CF WC HI XW XP 7 (tz c CF WC HI XW XP 6 (tz c CF WC HI XW XP 5
      (tz c CF WC HI XW XP 4 (tz c CF WC HI XW XP 3 (tz c CF WC HI XW XP 2 (tz c CF WC HI XW XP 1 (tz c CF WC HI XW XP 0 g)))))))))

/-- `OZ` is what the last slab's stores leave on it. -/
def TailOk (OZ : Buf (Elt F) (zM.view.loc (c : Thread nD τ))) : Prop := ∀ (g : Buf (Elt F) (zM.view.loc (c : Thread nD τ))) (y : S12x32000.Idx),
  y ∈ (zslab 24).view.set → (tailW c CF WC HI XW XP g : S12x32000.Idx → F .f32) y = (OZ : S12x32000.Idx → F .f32) y

theorem tailOk (hacc : AccTail c ACC XW XP) : TailOk c CF WC HI XW XP (zAt ACC CF WC HI) := by
  intro g y hy
  have e := zslab_set 24
  replace hy := (mem_Z25 _ y).mp (e ▸ hy)
  refine tz_step c ACC CF WC HI XW XP hacc 9 _ y fun h9 => tz_step c ACC CF WC HI XW XP hacc 8 _ y fun h8 => tz_step c ACC CF WC HI XW XP hacc 7 _ y fun h7 =>
    tz_step c ACC CF WC HI XW XP hacc 6 _ y fun h6 => tz_step c ACC CF WC HI XW XP hacc 5 _ y fun h5 => tz_step c ACC CF WC HI XW XP hacc 4 _ y fun h4 =>
    tz_step c ACC CF WC HI XW XP hacc 3 _ y fun h3 => tz_step c ACC CF WC HI XW XP hacc 2 _ y fun h2 => tz_step c ACC CF WC HI XW XP hacc 1 _ y fun h1 =>
    tz_step c ACC CF WC HI XW XP hacc 0 _ y fun h0 => ?_
  exfalso
  change ¬ ((240 + 9) * 128 ≤ (y 1).val ∧ (y 1).val < (240 + 9) * 128 + 128) at h9
  change ¬ ((240 + 8) * 128 ≤ (y 1).val ∧ (y 1).val < (240 + 8) * 128 + 128) at h8
  change ¬ ((240 + 7) * 128 ≤ (y 1).val ∧ (y 1).val < (240 + 7) * 128 + 128) at h7
  change ¬ ((240 + 6) * 128 ≤ (y 1).val ∧ (y 1).val < (240 + 6) * 128 + 128) at h6
  change ¬ ((240 + 5) * 128 ≤ (y 1).val ∧ (y 1).val < (240 + 5) * 128 + 128) at h5
  change ¬ ((240 + 4) * 128 ≤ (y 1).val ∧ (y 1).val < (240 + 4) * 128 + 128) at h4
  change ¬ ((240 + 3) * 128 ≤ (y 1).val ∧ (y 1).val < (240 + 3) * 128 + 128) at h3
  change ¬ ((240 + 2) * 128 ≤ (y 1).val ∧ (y 1).val < (240 + 2) * 128 + 128) at h2
  change ¬ ((240 + 1) * 128 ≤ (y 1).val ∧ (y 1).val < (240 + 1) * 128 + 128) at h1
  change ¬ ((240 + 0) * 128 ≤ (y 1).val ∧ (y 1).val < (240 + 0) * 128 + 128) at h0
  have e24 : (24 : Fin 25).val = 24 := rfl
  rw [e24] at hy
  omega

end Writes

end Cert.Proof.KernelIdeal
end
-- ==== Proof.KernelIdeal.Trip.lean ====
/-
  One trip of the main loop, by cases: the first (nothing to copy out), trips 1 … 15 (block `k + 8` goes out again),
  trip 16 (the tail windows go out) and the later ones (the slot stays at rest).
-/
module

public import proofs.«01_k».proof.Proof.KernelIdeal.Main
public import proofs.«01_k».proof.Proof.KernelIdeal.Sets
public import proofs.«01_k».proof.Proof.KernelIdeal.Chunk

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (XW : Buf (Elt F) (wM.view.loc (c : Thread nD τ)))
  (XP : Buf (Elt F) (xpM.view.loc (c : Thread nD τ))) (CF : Buf (Elt F) (cfM.view.loc (c : Thread nD τ)))
  (WC : Buf (Elt F) (wcM.view.loc (c : Thread nD τ))) (HI : Buf (Elt F) (hiM.view.loc (c : Thread nD τ)))
  (OZ : Buf (Elt F) (zM.view.loc (c : Thread nD τ))) (hOZ : SlabOk c CF WC HI XW XP OZ)
  (arg11 : Memref sig .tc .vmem S1x12 .f32) (harg11 : arg11.IsWhole) (arg12 : Memref sig .tc .vmem S12x20 .f32) (harg12 : arg12.IsWhole)

include hOZ in
theorem trip_mid (k : Fin k0_t2_loop.trips) (h0 : 0 < k.val) (hk8 : k.val + 8 < 24) :
    mainInv c XW XP CF WC HI OZ k.val () ⊢ wp frame (wpE (defs₀ (F := F)) 𝒱₀ (c : Thread nD τ) none) Set.univ (tripG arg11 harg11 arg12 harg12 k) (fun _ => mainInv c XW XP CF WC HI OZ (k.val + 1) ()) := by
  have hk : k.val < 24 := lt24 k
  have hc1 := (c1_iff k).mpr hk8
  have hc3 := (c3_iff k).mpr h0
  have hc2 := mt (c2_iff k).mp (by omega)
  unfold mainInv arrs
  iintro ⟨⟨HXP, HCF, ⟨%CL, HCL⟩, ⟨%CH, HCH⟩, HWS, HHI, ⟨%P, HP⟩, ⟨%M, HM⟩, ⟨%S, HS⟩⟩, ⟨%W, HO⟩, HB, Hsl, Hho, Hta, Hzo⟩
  ihave Hsl := (slots_open c XW k.val) $$ Hsl
  rw [slot_here c XW k.val hk, slot_issued c XW k.val hk8]
  icases Hsl with ⟨⟨%f, HF⟩, Hslk⟩
  ihave Hho := (homes_issue c XW k.val hk8) $$ Hho
  icases Hho with ⟨Hh, Hhok⟩
  ihave Hzo := (zo_open c OZ k.val h0 (by omega)) $$ Hzo
  icases Hzo with ⟨⟨⟨%fz, Hz⟩, Ho⟩, ⟨Hzp, ⟨%fo, Hop⟩⟩, Hzok⟩
  dsimp only [tripG]
  sl_unfold [k0_t2_body]
  sl_exec
  sl_step
  isplitl [HXP HCF HCL HCH HWS HHI HP HM HS]
  · isplitl [HXP]; · iexact HXP
    isplitl [HCF]; · iexact HCF
    isplitl [HCL]; · iexists _; iexact HCL
    isplitl [HCH]; · iexists _; iexact HCH
    isplitl [HWS]; · iexact HWS
    isplitl [HHI]; · iexact HHI
    isplitl [HP]; · iexists _; iexact HP
    isplitl [HM]; · iexists _; iexact HM
    iexists _; iexact HS
  isplitl [HO]; · iexists _; iexact HO
  isplitl [HB]; · rw [show k.val + 1 - 1 = k.val - 1 + 1 by omega]; iexact HB
  isplitl [Hslk HF]; · iapply Hslk; iexists _; iexact HF
  isplitl [Hhok HF_src]; · iapply Hhok; iexact HF_src
  isplitl [Hta]; · iapply (tail_next c XW k.val (by omega)); iexact Hta
  iapply Hzok
  isplitl [Hz]
  · iapply (Entails.of_eq (pointsTo_congr fun y hy => ?_)); swap
    · iexact Hz
    exact hOZ k fz y hy
  iexact Ho

include hOZ in
theorem trip_first (k : Fin k0_t2_loop.trips) (h0 : k.val = 0) :
    mainInv c XW XP CF WC HI OZ k.val () ⊢ wp frame (wpE (defs₀ (F := F)) 𝒱₀ (c : Thread nD τ) none) Set.univ (tripG arg11 harg11 arg12 harg12 k) (fun _ => mainInv c XW XP CF WC HI OZ (k.val + 1) ()) := by
  have hk : k.val < 24 := lt24 k
  have hk8 : k.val + 8 < 24 := by omega
  have hc1 := (c1_iff k).mpr hk8
  have hc3 := mt (c3_iff k).mp (by omega)
  have hc2 := mt (c2_iff k).mp (by omega)
  unfold mainInv arrs
  iintro ⟨⟨HXP, HCF, ⟨%CL, HCL⟩, ⟨%CH, HCH⟩, HWS, HHI, ⟨%P, HP⟩, ⟨%M, HM⟩, ⟨%S, HS⟩⟩, ⟨%W, HO⟩, HB, Hsl, Hho, Hta, Hzo⟩
  ihave Hsl := (slots_open c XW k.val) $$ Hsl
  rw [slot_here c XW k.val hk, slot_issued c XW k.val hk8]
  icases Hsl with ⟨⟨%f, HF⟩, Hslk⟩
  ihave Hho := (homes_issue c XW k.val hk8) $$ Hho
  icases Hho with ⟨Hh, Hhok⟩
  ihave Hzo := (show bigSep Finset.univ (zoSt c OZ k.val) ⊢ (iprop(((∃ f, zP c (Ring.bk 25 k.val) f) ∗ (∃ f, oP c (Ring.bk 25 k.val) f))
      ∗ ((zO c OZ (Ring.bk 25 k.val) ∗ (∃ f, oP c (Ring.bk 25 k.val) f)) -∗ bigSep Finset.univ (zoSt c OZ (k.val + 1)))) : sProp 𝕄) from by rw [h0]; exact zo_first c OZ) $$ Hzo
  icases Hzo with ⟨⟨⟨%fz, Hz⟩, Ho⟩, Hzok⟩
  dsimp only [tripG]
  sl_unfold [k0_t2_body]
  sl_exec
  sl_step
  isplitl [HXP HCF HCL HCH HWS HHI HP HM HS]
  · isplitl [HXP]; · iexact HXP
    isplitl [HCF]; · iexact HCF
    isplitl [HCL]; · iexists _; iexact HCL
    isplitl [HCH]; · iexists _; iexact HCH
    isplitl [HWS]; · iexact HWS
    isplitl [HHI]; · iexact HHI
    isplitl [HP]; · iexists _; iexact HP
    isplitl [HM]; · iexists _; iexact HM
    iexists _; iexact HS
  isplitl [HO]; · iexists _; iexact HO
  isplitl [HB]; · rw [show k.val + 1 - 1 = k.val - 1 by omega]; iexact HB
  isplitl [Hslk HF]; · iapply Hslk; iexists _; iexact HF
  isplitl [Hhok HF_src]; · iapply Hhok; iexact HF_src
  isplitl [Hta]; · iapply (tail_next c XW k.val (by omega)); iexact Hta
  iapply Hzok
  isplitl [Hz]
  · iapply (Entails.of_eq (pointsTo_congr fun y hy => ?_)); swap
    · iexact Hz
    exact hOZ k fz y hy
  iexact Ho

include hOZ in
theorem trip_late (k : Fin k0_t2_loop.trips) (h0 : 16 < k.val) :
    mainInv c XW XP CF WC HI OZ k.val () ⊢ wp frame (wpE (defs₀ (F := F)) 𝒱₀ (c : Thread nD τ) none) Set.univ (tripG arg11 harg11 arg12 harg12 k) (fun _ => mainInv c XW XP CF WC HI OZ (k.val + 1) ()) := by
  have hk : k.val < 24 := lt24 k
  have h1 : 0 < k.val := by omega
  have hc1 := mt (c1_iff k).mp (by omega)
  have hc3 := (c3_iff k).mpr h1
  have hc2 := mt (c2_iff k).mp (by omega)
  unfold mainInv arrs
  iintro ⟨⟨HXP, HCF, ⟨%CL, HCL⟩, ⟨%CH, HCH⟩, HWS, HHI, ⟨%P, HP⟩, ⟨%M, HM⟩, ⟨%S, HS⟩⟩, ⟨%W, HO⟩, HB, Hsl, Hho, Hta, Hzo⟩
  ihave Hsl := (slots_open c XW k.val) $$ Hsl
  rw [slot_here c XW k.val hk, slot_rest c XW k.val h0 hk]
  icases Hsl with ⟨⟨%f, HF⟩, Hslk⟩
  ihave Hhok := (homes_last c XW k.val (by omega) hk) $$ Hho
  ihave Hzo := (zo_open c OZ k.val h1 (by omega)) $$ Hzo
  icases Hzo with ⟨⟨⟨%fz, Hz⟩, Ho⟩, ⟨Hzp, ⟨%fo, Hop⟩⟩, Hzok⟩
  dsimp only [tripG]
  sl_unfold [k0_t2_body]
  sl_exec
  sl_step
  isplitl [HXP HCF HCL HCH HWS HHI HP HM HS]
  · isplitl [HXP]; · iexact HXP
    isplitl [HCF]; · iexact HCF
    isplitl [HCL]; · iexists _; iexact HCL
    isplitl [HCH]; · iexists _; iexact HCH
    isplitl [HWS]; · iexact HWS
    isplitl [HHI]; · iexact HHI
    isplitl [HP]; · iexists _; iexact HP
    isplitl [HM]; · iexists _; iexact HM
    iexists _; iexact HS
  isplitl [HO]; · iexists _; iexact HO
  isplitl [HB]; · rw [show k.val + 1 - 1 = k.val - 1 + 1 by omega]; iexact HB
  isplitl [Hslk HF HF_dst]
  · iapply Hslk
    isplitl [HF]; · iexact HF
    iexists _; iexact HF_dst
  isplitl [Hhok HF_src]; · iapply Hhok; iexact HF_src
  isplitl [Hta]; · iapply (tail_next c XW k.val (by omega)); iexact Hta
  iapply Hzok
  isplitl [Hz]
  · iapply (Entails.of_eq (pointsTo_congr fun y hy => ?_)); swap
    · iexact Hz
    exact hOZ k fz y hy
  iexact Ho

include hOZ in
theorem trip_tail (k : Fin k0_t2_loop.trips) (h0 : k.val = 16) :
    mainInv c XW XP CF WC HI OZ k.val () ⊢ wp frame (wpE (defs₀ (F := F)) 𝒱₀ (c : Thread nD τ) none) Set.univ (tripG arg11 harg11 arg12 harg12 k) (fun _ => mainInv c XW XP CF WC HI OZ (k.val + 1) ()) := by
  have hk : k.val < 24 := lt24 k
  have h1 : 0 < k.val := by omega
  have hc1 := mt (c1_iff k).mp (by omega)
  have hc3 := (c3_iff k).mpr h1
  have hc2 := (c2_iff k).mpr h0
  unfold mainInv arrs
  iintro ⟨⟨HXP, HCF, ⟨%CL, HCL⟩, ⟨%CH, HCH⟩, HWS, HHI, ⟨%P, HP⟩, ⟨%M, HM⟩, ⟨%S, HS⟩⟩, ⟨%W, HO⟩, HB, Hsl, Hho, Hta, Hzo⟩
  ihave Hsl := (slots_open c XW k.val) $$ Hsl
  rw [slot_here c XW k.val hk, slot_tail c XW k.val h0]
  icases Hsl with ⟨⟨%f, HF⟩, Hslk⟩
  ihave Hhok := (homes_last c XW k.val (by omega) hk) $$ Hho
  ihave Hzo := (zo_open c OZ k.val h1 (by omega)) $$ Hzo
  icases Hzo with ⟨⟨⟨%fz, Hz⟩, Ho⟩, ⟨Hzp, ⟨%fo, Hop⟩⟩, Hzok⟩
  ihave Hta := (tail_here c XW k.val (by omega)) $$ Hta
  icases Hta with ⟨Hc0, Hc1, Hc2, Hc3, Hc4, Hw0, Hw1, Hw2, Hw3, Hw4⟩
  dsimp only [tripG]
  sl_unfold [k0_t2_body]
  sl_exec
  ihave Hd := (slot0_split c (Ring.sl 8 k.val) (Fin.ext (by rw [sl_val, h0]; rfl)) _) $$ HF_dst
  icases Hd with ⟨Hd0, Hd1, Hd2, Hd3, Hd4⟩
  sl_exec
  sl_step
  isplitl [HXP HCF HCL HCH HWS HHI HP HM HS]
  · isplitl [HXP]; · iexact HXP
    isplitl [HCF]; · iexact HCF
    isplitl [HCL]; · iexists _; iexact HCL
    isplitl [HCH]; · iexists _; iexact HCH
    isplitl [HWS]; · iexact HWS
    isplitl [HHI]; · iexact HHI
    isplitl [HP]; · iexists _; iexact HP
    isplitl [HM]; · iexists _; iexact HM
    iexists _; iexact HS
  isplitl [HO]; · iexists _; iexact HO
  isplitl [HB]; · rw [show k.val + 1 - 1 = k.val - 1 + 1 by omega]; iexact HB
  isplitl [Hslk HF Hc0 Hc1 Hc2 Hc3 Hc4]
  · iapply Hslk
    isplitl [HF]; · iexact HF
    unfold tflights
    isplitl [Hc0]; · iexists _; iexact Hc0
    isplitl [Hc1]; · iexists _; iexact Hc1
    isplitl [Hc2]; · iexists _; iexact Hc2
    isplitl [Hc3]; · iexists _; iexact Hc3
    iexists _; iexact Hc4
  isplitl [Hhok HF_src]; · iapply Hhok; iexact HF_src
  isplitl []; · iapply (tail_gone c XW (k.val + 1) (by omega)); iempintro
  iapply Hzok
  isplitl [Hz]
  · iapply (Entails.of_eq (pointsTo_congr fun y hy => ?_)); swap
    · iexact Hz
    exact hOZ k fz y hy
  iexact Ho

include hOZ in
/-- One trip of the main loop. -/
theorem trip (k : Fin k0_t2_loop.trips) :
    mainInv c XW XP CF WC HI OZ k.val () ⊢ wp frame (wpE (defs₀ (F := F)) 𝒱₀ (c : Thread nD τ) none) Set.univ (tripG arg11 harg11 arg12 harg12 k) (fun _ => mainInv c XW XP CF WC HI OZ (k.val + 1) ()) := by
  have hk : k.val < 24 := lt24 k
  rcases Nat.eq_zero_or_pos k.val with h | h
  · exact trip_first c XW XP CF WC HI OZ hOZ arg11 harg11 arg12 harg12 k h
  rcases Nat.lt_trichotomy k.val 16 with h' | h' | h'
  · exact trip_mid c XW XP CF WC HI OZ hOZ arg11 harg11 arg12 harg12 k h (by omega)
  · exact trip_tail c XW XP CF WC HI OZ hOZ arg11 harg11 arg12 harg12 k h'
  · exact trip_late c XW XP CF WC HI OZ hOZ arg11 harg11 arg12 harg12 k h'

end Cert.Proof.KernelIdeal
end
-- ==== Proof.KernelIdeal.Entry.lean ====
/-
  What the scratch arrays hold when the main loop starts, as functions of the arguments: the padded activations, the
  coefficient rows, the weight scales and the packed counts.
-/
module

public import proofs.«01_k».proof.Proof.KernelIdeal.Pieces
public import Idealize.ShloMosaic.Lib.Pipeline.Value
public import Idealize.ShloMosaic.Lib.WritesUnit

@[expose] public section

noncomputable section

namespace Cert.Proof.KernelIdeal

open Cert.KernelIdeal Cert.KernelIdeal.Gen
open Idealize.ShloMosaic
open Idealize.ShloMosaic.TcCoe Idealize.ShloMosaic.Tactic

variable {F : FTy → Type} [FloatOps F] (c : Dev nD)

/-- The index of row `b` of an array of 12. -/
abbrev ix12 (b : ℕ) (h : b < 12) : S12.Idx := fun a => match a with | ⟨0, _⟩ => ⟨b, h⟩

/-- The coefficient rows: scale, repetition, frequency and presence of row `b`, and the neutral ones on the padding rows. -/
def coefV (Vxs Vrp Vfr Vpr : S12.Idx → F .f32) (y : S4x16x128.Idx) : F .f32 :=
  if h : (y 1).val < 12 then
    (match (y 0).val with
      | 0 => Vxs (ix12 _ h)
      | 1 => Vrp (ix12 _ h)
      | 2 => Vfr (ix12 _ h)
      | _ => Vpr (ix12 _ h))
  else if (y 0).val = 1 then Scalar.ofBits .f32 0x3f800000#32 else Scalar.ofBits .f32 0x00000000#32

/-- The activations with their padding rows. -/
def xpV (Vx : S12x4096.Idx → F .fp8e4m3) : S32x4096.Idx → F .fp8e4m3 := k0_pay85 (F := F) Vx

/-- The counts of row `k`. -/
def histP (Vids : Buf (Elt F) (idM.view.loc (c : Thread nD τ))) (Vhl : Buf (Elt F) (shM.view.loc (c : Thread nD τ)))
    (Vpl : Buf (Elt F) (spM.view.loc (c : Thread nD τ))) (k : Fin k0_t1_loop.trips) : FVec F S256x1x128 .f32 :=
  k0_pay94 (F := F) (View.readAt (Elt F) idM.view (Rect.unit (s := S12x2048) (k0_off1 k) S1x2048.size (k0_off1_inb k)).toLoadRect Vids)
    (View.readAt (Elt F) shM.view (Rect.unit (s := S12) (k0_off2 k) S1.size (k0_off2_inb k)).toLoadRect Vhl (Shape.Idx.first (s := S1) (by decide)))
    (View.readAt (Elt F) spM.view (Rect.unit (s := S12) (k0_off2 k) S1.size (k0_off2_inb k)).toLoadRect Vpl (Shape.Idx.first (s := S1) (by decide)))

abbrev hx (y : S256x16x128.Idx) : S256x1x128.Idx := fun a => match a with
  | ⟨0, _⟩ => y 0
  | ⟨1, _⟩ => ⟨0, show 0 < 1 by decide⟩
  | ⟨2, _⟩ => y 2

theorem lt_trips {b : ℕ} (h : b < 12) : b < k0_t1_loop.trips := lt_of_lt_of_eq h (by decide)

/-- The packed counts: of row `b` for `b < 12`, and zero on the padding rows. -/
def histV (Vids : Buf (Elt F) (idM.view.loc (c : Thread nD τ))) (Vhl : Buf (Elt F) (shM.view.loc (c : Thread nD τ)))
    (Vpl : Buf (Elt F) (spM.view.loc (c : Thread nD τ))) (y : S256x16x128.Idx) : F .f32 :=
  if h : (y 1).val < 12 then histP c Vids Vhl Vpl ⟨(y 1).val, lt_trips h⟩ (hx y) else Scalar.ofBits .f32 0x00000000#32

/-- The counts when rows `0 … k - 1` are done and the padding rows are zero. -/
def mixR (HI : S256x16x128.Idx → F .f32) (k : ℕ) (g : S256x16x128.Idx → F .f32) (y : S256x16x128.Idx) : F .f32 :=
  if (y 1).val < k ∨ 12 ≤ (y 1).val then HI y else g y

theorem mix_done (HI g : S256x16x128.Idx → F .f32) (y : S256x16x128.Idx) : mixR HI 12 g y = HI y := if_pos (lt_or_ge _ _)

theorem off3_eq (k : Fin k0_t1_loop.trips) : k0_off3 k = ![0, k.val, 0] := by
  revert k; decide

section Mix

variable {sp : Space} (v : View sig .tc sp S256x16x128 .f32) (HI : S256x16x128.Idx → F .f32) (f : v.ty.Contents (Elt F))

theorem mixR_step (k : ℕ) (hk : k < 12) (off : Fin 3 → ℕ) (e : off = ![0, k, 0]) (h) (p : S256x1x128.Idx → F .f32)
    (hp : ∀ y : S256x16x128.Idx, (y 1).val = k → HI y = p (hx y)) (g : S256x16x128.Idx → F .f32) (hf : v.read (Elt F) f = mixR HI k g) (y : S256x16x128.Idx) :
    v.read (Elt F) (v.writes (Elt F) f [⟨Rect.unit (s := S256x16x128) off S256x1x128.size h, p⟩]) y = mixR HI (k + 1) g y := by
  by_cases hy : (y 1).val = k
  · refine (View.read_writes_cons_unit_of_mem (Val := Elt F) v f h p [] y (hx y) e (fun a => ?_)).trans ?_
    · match a with
      | ⟨0, _⟩ => exact (Nat.zero_add _).symm
      | ⟨1, _⟩ => exact hy
      | ⟨2, _⟩ => exact (Nat.zero_add _).symm
    · unfold mixR
      rw [if_pos (Or.inl (by omega)), hp y hy]
  · refine (View.read_writes_cons_unit_of_not_mem (Val := Elt F) v f h p [] y e 1 ?_).trans ?_
    · show (y 1).val < k ∨ k + 1 ≤ (y 1).val; omega
    · refine (congrFun hf y).trans ?_
      unfold mixR
      exact if_congr (by omega) rfl rfl

abbrev hx4 (y : S256x16x128.Idx) (h : 12 ≤ (y 1).val) : S256x4x128.Idx := fun a => match a with
  | ⟨0, _⟩ => y 0
  | ⟨1, _⟩ => ⟨(y 1).val - 12, by have : (y 1).val < 16 := (y 1).isLt; show (y 1).val - 12 < 4; omega⟩
  | ⟨2, _⟩ => y 2

theorem mixR_zero (h) (p : S256x4x128.Idx → F .f32) (hp : ∀ (y : S256x16x128.Idx) x, 12 ≤ (y 1).val → HI y = p x) (y : S256x16x128.Idx) :
    v.read (Elt F) (v.writes (Elt F) f [⟨Rect.unit (s := S256x16x128) ![0, 12, 0] S256x4x128.size h, p⟩]) y = mixR HI 0 (v.read (Elt F) f) y := by
  have hy : (y 1).val < 16 := (y 1).isLt
  by_cases hq : 12 ≤ (y 1).val
  · refine (View.read_writes_cons_unit_of_mem (Val := Elt F) v f h p [] y (hx4 y hq) rfl (fun a => ?_)).trans ?_
    · match a with
      | ⟨0, _⟩ => exact (Nat.zero_add _).symm
      | ⟨1, _⟩ => show (y 1).val = 12 + ((y 1).val - 12); omega
      | ⟨2, _⟩ => exact (Nat.zero_add _).symm
    · unfold mixR
      rw [if_pos (Or.inr hq), hp y _ hq]
  · refine (View.read_writes_cons_unit_of_not_mem (Val := Elt F) v f h p [] y rfl 1 ?_).trans ?_
    · show (y 1).val < 12 ∨ 12 + 4 ≤ (y 1).val; omega
    · unfold mixR
      rw [if_neg (by omega)]
      rfl

end Mix

theorem histV_row (Vids : Buf (Elt F) (idM.view.loc (c : Thread nD τ))) (Vhl : Buf (Elt F) (shM.view.loc (c : Thread nD τ)))
    (Vpl : Buf (Elt F) (spM.view.loc (c : Thread nD τ))) (k : Fin k0_t1_loop.trips) (y : S256x16x128.Idx) (h : (y 1).val = k.val) :
    histV c Vids Vhl Vpl y = histP c Vids Vhl Vpl k (hx y) := by
  have hk : k.val < 12 := lt_of_lt_of_eq k.isLt (by decide)
  unfold histV
  rw [dif_pos (by omega)]
  congr 1
  exact Fin.ext h
theorem histV_pad (Vids : Buf (Elt F) (idM.view.loc (c : Thread nD τ))) (Vhl : Buf (Elt F) (shM.view.loc (c : Thread nD τ)))
    (Vpl : Buf (Elt F) (spM.view.loc (c : Thread nD τ))) (y : S256x16x128.Idx) (x : S256x4x128.Idx) (h : 12 ≤ (y 1).val) :
    histV c Vids Vhl Vpl y = k0_pay93 (F := F) x := by
  unfold histV
  rw [dif_neg (by omega)]
  rfl

/-- The counts when rows `0 … k - 1` are done. -/
def mix (HI : Buf (Elt F) (hiM.view.loc (c : Thread nD τ))) (k : ℕ) (g : Buf (Elt F) (hiM.view.loc (c : Thread nD τ))) : Buf (Elt F) (hiM.view.loc (c : Thread nD τ)) :=
  mixR (F := F) HI k g

theorem mix_step (Vids : Buf (Elt F) (idM.view.loc (c : Thread nD τ))) (Vhl : Buf (Elt F) (shM.view.loc (c : Thread nD τ)))
    (Vpl : Buf (Elt F) (spM.view.loc (c : Thread nD τ))) (k : Fin k0_t1_loop.trips) (g : Buf (Elt F) (hiM.view.loc (c : Thread nD τ))) (y : S256x16x128.Idx) :
    hiM.view.read (Elt F) (hiM.view.writes (Elt F) (mix c (histV c Vids Vhl Vpl) k.val g)
      [⟨Rect.unit (s := S256x16x128) (k0_off3 k) S256x1x128.size (k0_off3_inb k), histP c Vids Vhl Vpl k⟩]) y
      = mixR (histV c Vids Vhl Vpl) (k.val + 1) g y :=
  mixR_step hiM.view (histV c Vids Vhl Vpl) _ k.val (lt_of_lt_of_eq k.isLt (by decide)) _ (off3_eq k) _ _ (histV_row c Vids Vhl Vpl k) g rfl y

theorem mix_zero (Vids : Buf (Elt F) (idM.view.loc (c : Thread nD τ))) (Vhl : Buf (Elt F) (shM.view.loc (c : Thread nD τ)))
    (Vpl : Buf (Elt F) (spM.view.loc (c : Thread nD τ))) (g : Buf (Elt F) (hiM.view.loc (c : Thread nD τ))) (y : S256x16x128.Idx) :
    hiM.view.read (Elt F) (hiM.view.writes (Elt F) g [⟨Rect.unit (s := S256x16x128) ![0, 12, 0] S256x4x128.size inb_S256x16x128_S256x4x128_0_12_0, k0_pay93⟩]) y
      = mixR (histV c Vids Vhl Vpl) 0 g y :=
  mixR_zero hiM.view (histV c Vids Vhl Vpl) g _ _ (histV_pad c Vids Vhl Vpl) y

/-- A whole copy. -/
theorem copy_whole {sp : Space} {s : Shape} {e : EltTy} (v : View sig .tc sp s e) (f : v.ty.Contents (Elt F)) (x : s.Idx → Elt F e) (y : s.Idx) :
    v.read (Elt F) (v.writes (Elt F) f [⟨Rect.whole s, x⟩]) y = x y := congrFun (View.read_writes_whole v f x) y

/-- A whole copy loaded whole. -/
theorem whole_load {sp : Space} (v : View sig .tc sp S12x4096 .fp8e4m3) (x : S12x4096.Idx → F .fp8e4m3) (h) :
    v.readCov (Val := Elt F) [⟨Rect.whole S12x4096, x⟩] (Rect.unit (s := S12x4096) ![0, 0] S12x4096.size h).toLoadRect = x := by
  funext y
  have e : (Rect.unit (s := S12x4096) ![0, 0] S12x4096.size h).toLoadRect.idx y = y := funext fun a => Fin.ext (match a with
    | ⟨0, _⟩ => (Nat.zero_add _).trans (Nat.one_mul _)
    | ⟨1, _⟩ => (Nat.zero_add _).trans (Nat.one_mul _))
  exact (copy_whole v v.junk x ((Rect.unit (s := S12x4096) ![0, 0] S12x4096.size h).toLoadRect.idx y)).trans (congrArg x e)

theorem xp_entry {sp : Space} (v : View sig .tc sp S32x4096 .fp8e4m3) (f : v.ty.Contents (Elt F)) (p : S32x4096.Idx → F .fp8e4m3) (h) (y : S32x4096.Idx) :
    v.read (Elt F) (v.writes (Elt F) f [⟨Rect.unit (s := S32x4096) ![0, 0] S32x4096.size h, p⟩]) y = p y :=
  View.read_writes_cons_unit_of_mem (Val := Elt F) v f h p [] y y rfl (fun a => match a with
      | ⟨0, _⟩ => (Nat.zero_add _).symm
      | ⟨1, _⟩ => (Nat.zero_add _).symm)

/-- A scalar of a copied array of 12. -/
theorem smem_ld (v : View sig .tc .smem S12 .f32) (x : S12.Idx → F .f32) (b : ℕ) (hb : b < 12) (h : ∀ a, (![b] : Fin 1 → ℕ) a + S1.size a ≤ S12.size a) (j : S1.Idx) :
    v.readCov (Val := Elt F) [⟨Rect.whole S12, x⟩] (Rect.unit (s := S12) ![b] S1.size h).toLoadRect j = x (ix12 b hb) := by
  refine (copy_whole v v.junk x _).trans (congrArg x (funext fun a => Fin.ext ?_))
  match a with
  | ⟨0, _⟩ =>
    have : (j 0).val < 1 := (j 0).isLt
    show b + 1 * (j 0).val = b; omega

/-- Row `n` set to `x`. -/
abbrev selR (n : BitVec 32) (x : F .f32) (p : FVec F S16x128 .f32) : FVec F S16x128 .f32 :=
  select (cmpi .eq (iota .tc S16x128 32 [0] iota_S16x128_d0_w32) (broadcast S16x128 n)) (broadcast S16x128 x) p

/-- The twelve rows of a coefficient, over the fill. -/
abbrev rowsC (s : Fin 12 → F .f32) (fill : F .f32) : FVec F S1x16x128 .f32 :=
  shapeCast S1x16x128 (selR 11#32 (s 11) (selR 10#32 (s 10) (selR 9#32 (s 9) (selR 8#32 (s 8) (selR 7#32 (s 7) (selR 6#32 (s 6) (selR 5#32 (s 5) (selR 4#32 (s 4) (selR 3#32 (s 3) (selR 2#32 (s 2) (selR 1#32 (s 1) (selR 0#32 (s 0) (broadcast S16x128 fill))))))))))))) shapeCasts_S16x128_S1x16x128

abbrev lane16 (b : Fin 16) (l : Fin 128) : S16x128.Idx := fun a => match a with | ⟨0, _⟩ => b | ⟨1, _⟩ => l

theorem rowsC_apply (s : Fin 12 → F .f32) (fill : F .f32) (x : S1x16x128.Idx) :
    rowsC s fill x = if h : (x 1).val < 12 then s ⟨(x 1).val, h⟩ else fill := by
  have h0 : (x 0).val < 1 := (x 0).isLt
  refine (shapeCast_apply _ _ x (lane16 (x 1) (x 2)) ?_).trans ?_
  · rw [Shape.rowMajor_val_three, Shape.rowMajor_val_two]
    show (x 1).val * 128 + (x 2).val = ((x 0).val * 16 + (x 1).val) * 128 + (x 2).val
    omega
  have hb : ∀ m : ℕ, ∀ hm : m < 16, (x 1) = (⟨m, hm⟩ : Fin 16) →
      (selR 11#32 (s 11) (selR 10#32 (s 10) (selR 9#32 (s 9) (selR 8#32 (s 8) (selR 7#32 (s 7) (selR 6#32 (s 6) (selR 5#32 (s 5) (selR 4#32 (s 4) (selR 3#32 (s 3) (selR 2#32 (s 2) (selR 1#32 (s 1) (selR 0#32 (s 0) (broadcast S16x128 fill))))))))))))) (lane16 (x 1) (x 2)) = if h : m < 12 then s ⟨m, h⟩ else fill := by
    intro m hm e
    rw [e]
    interval_cases m <;> rfl
  exact hb _ (x 1).isLt rfl

theorem inbS12 (b : Fin 12) : ∀ a, (![b.val] : Fin 1 → ℕ) a + S1.size a ≤ S12.size a := by
  have := b.isLt
  intro a
  match a with
  | ⟨0, _⟩ => show b.val + 1 ≤ 12; omega

/-- Row `b`'s scalar, read back from a copied array of 12. -/
abbrev scal (v : View sig .tc .smem S12 .f32) (x : S12.Idx → F .f32) (b : Fin 12) : F .f32 :=
  v.readCov (Val := Elt F) [⟨Rect.whole S12, x⟩] (Rect.unit (s := S12) ![b.val] S1.size (inbS12 b)).toLoadRect (Shape.Idx.first (s := S1) (by decide))

theorem rowsC_scal (v : View sig .tc .smem S12 .f32) (x : S12.Idx → F .f32) (fill : F .f32) (y : S4x16x128.Idx) :
    rowsC (scal v x) fill (fun a => match a with | ⟨0, _⟩ => ⟨0, show 0 < 1 by decide⟩ | ⟨1, _⟩ => y 1 | ⟨2, _⟩ => y 2)
      = if h : (y 1).val < 12 then x (ix12 _ h) else fill := by
  refine (rowsC_apply _ _ _).trans ?_
  exact dite_congr rfl (fun h => smem_ld v x _ h _ _) (fun _ => rfl)

abbrev cx (y : S4x16x128.Idx) : S1x16x128.Idx := fun a => match a with
  | ⟨0, _⟩ => ⟨0, show 0 < 1 by decide⟩
  | ⟨1, _⟩ => y 1
  | ⟨2, _⟩ => y 2

/-- The four coefficient stores, from what each stores. -/
theorem cf_entry {sp : Space} (v : View sig .tc sp S4x16x128 .f32) (f : v.ty.Contents (Elt F)) (Vxs Vrp Vfr Vpr : S12.Idx → F .f32) (y : S4x16x128.Idx)
    (p0 p1 p2 p3 : S1x16x128.Idx → F .f32)
    (h0 : (y 0).val = 0 → p0 (cx y) = coefV Vxs Vrp Vfr Vpr y) (h1 : (y 0).val = 1 → p1 (cx y) = coefV Vxs Vrp Vfr Vpr y)
    (h2 : (y 0).val = 2 → p2 (cx y) = coefV Vxs Vrp Vfr Vpr y) (h3 : (y 0).val = 3 → p3 (cx y) = coefV Vxs Vrp Vfr Vpr y) :
    v.read (Elt F) (v.writes (Elt F) f [⟨Rect.unit (s := S4x16x128) ![3, 0, 0] S1x16x128.size inb_S4x16x128_S1x16x128_3_0_0, p3⟩,
      ⟨Rect.unit (s := S4x16x128) ![2, 0, 0] S1x16x128.size inb_S4x16x128_S1x16x128_2_0_0, p2⟩,
      ⟨Rect.unit (s := S4x16x128) ![1, 0, 0] S1x16x128.size inb_S4x16x128_S1x16x128_1_0_0, p1⟩,
      ⟨Rect.unit (s := S4x16x128) ![0, 0, 0] S1x16x128.size inb_S4x16x128_S1x16x128_0_0_0, p0⟩]) y = coefV Vxs Vrp Vfr Vpr y := by
  have hy : (y 0).val < 4 := (y 0).isLt
  have hit (n : ℕ) (hn : ∀ a, (![n, 0, 0] : Fin 3 → ℕ) a + S1x16x128.size a ≤ S4x16x128.size a) (p : S1x16x128.Idx → F .f32) (L) (e : (y 0).val = n) :
      v.read (Elt F) (v.writes (Elt F) f (⟨Rect.unit (s := S4x16x128) ![n, 0, 0] S1x16x128.size hn, p⟩ :: L)) y = p (cx y) :=
    View.read_writes_cons_unit_of_mem (Val := Elt F) v f hn p L y (cx y) rfl (fun a => match a with
      | ⟨0, _⟩ => e
      | ⟨1, _⟩ => (Nat.zero_add _).symm
      | ⟨2, _⟩ => (Nat.zero_add _).symm)
  have miss (n : ℕ) (hn : ∀ a, (![n, 0, 0] : Fin 3 → ℕ) a + S1x16x128.size a ≤ S4x16x128.size a) (p : S1x16x128.Idx → F .f32) (L) (e : (y 0).val < n) :
      v.read (Elt F) (v.writes (Elt F) f (⟨Rect.unit (s := S4x16x128) ![n, 0, 0] S1x16x128.size hn, p⟩ :: L)) y
        = v.read (Elt F) (v.writes (Elt F) f L) y :=
    View.read_writes_cons_unit_of_not_mem (Val := Elt F) v f hn p L y rfl 0 (.inl e)
  by_cases e3 : (y 0).val = 3
  · exact (hit 3 _ _ _ e3).trans (h3 e3)
  refine (miss 3 _ _ _ (by omega)).trans ?_
  by_cases e2 : (y 0).val = 2
  · exact (hit 2 _ _ _ e2).trans (h2 e2)
  refine (miss 2 _ _ _ (by omega)).trans ?_
  by_cases e1 : (y 0).val = 1
  · exact (hit 1 _ _ _ e1).trans (h1 e1)
  refine (miss 1 _ _ _ (by omega)).trans ?_
  exact (hit 0 _ _ _ (by omega)).trans (h0 (by omega))

end Cert.Proof.KernelIdeal
end
-- ==== Proof.KernelIdeal.Body.lean ====
/-
  The whole body: the prologue's copies and issues, the rows loop, the main loop, the tail and the drain.
-/
module

public import proofs.«01_k».proof.Proof.KernelIdeal.Trip
public import proofs.«01_k».proof.Proof.KernelIdeal.Entry
public import Idealize.ShloMosaic.Lib.Batch

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- A whole memory reads as its contents. -/
theorem id_whole (c : Dev nD) (f : Buf (Elt F) (idM.view.loc (c : Thread nD τ))) (y : S12x2048.Idx) : idM.view.read (Elt F) f y = f y := rfl
theorem ids_whole (c : Dev nD) (f : Buf (Elt F) (idsM.view.loc (c : Thread nD τ))) (y : S12x2048.Idx) : ReadAs.same.apply (View.read (Elt F) idsM.view f) y = f y := rfl
/-- The copied ids. -/
theorem id_copy (c : Dev nD) (Vids : Buf (Elt F) (idsM.view.loc (c : Thread nD τ))) (y : S12x2048.Idx) :
    (idM.view.writes (Elt F) idM.view.junk [⟨Rect.whole S12x2048, ReadAs.same.apply (View.read (Elt F) idsM.view Vids)⟩] : Buf (Elt F) (idM.view.loc (c : Thread nD τ))) y = Vids y :=
  (id_whole (F := F) c _ y).symm.trans ((copy_whole (F := F) idM.view idM.view.junk (ReadAs.same.apply (View.read (Elt F) idsM.view Vids)) y).trans (ids_whole (F := F) c Vids y))
theorem xp_whole (c : Dev nD) (f : Buf (Elt F) (xpM.view.loc (c : Thread nD τ))) (y : S32x4096.Idx) : xpM.view.read (Elt F) f y = f y := rfl
theorem x_whole (c : Dev nD) (f : Buf (Elt F) (xM.view.loc (c : Thread nD τ))) : ReadAs.same.apply (View.read (Elt F) xM.view f) = f := rfl
/-- The stored padded activations. -/
theorem xp_copy (c : Dev nD) (p q : S32x4096.Idx → F .fp8e4m3) (e : p = q) (y : S32x4096.Idx) :
    (xpM.view.writes (Elt F) xpM.view.junk [⟨Rect.unit (s := S32x4096) ![0, 0] S32x4096.size inb_S32x4096_S32x4096_0_0, p⟩] : Buf (Elt F) (xpM.view.loc (c : Thread nD τ))) y = q y :=
  (xp_whole (F := F) c _ y).symm.trans ((xp_entry (F := F) xpM.view xpM.view.junk p inb_S32x4096_S32x4096_0_0 y).trans (congrFun e y))
/-- The copied activations, loaded. -/
theorem x_load (c : Dev nD) (Vx : Buf (Elt F) (xM.view.loc (c : Thread nD τ))) (h) :
    xrM.view.readCov (Val := Elt F) [⟨Rect.whole S12x4096, ReadAs.same.apply (View.read (Elt F) xM.view Vx)⟩] (Rect.unit (s := S12x4096) ![0, 0] S12x4096.size h).toLoadRect = Vx :=
  (whole_load (F := F) xrM.view (ReadAs.same.apply (View.read (Elt F) xM.view Vx)) h).trans (x_whole (F := F) c Vx)

/-! ## The main loop's resources at its two ends -/

section Ends

variable (c : Dev nD) (XW : Buf (Elt F) (wM.view.loc (c : Thread nD τ))) (OZ : Buf (Elt F) (zM.view.loc (c : Thread nD τ)))

/-- The members from `j` on. -/
def pre {n : ℕ} (Φ : Fin n → sProp 𝕄) (j : ℕ) (b : Fin n) : sProp 𝕄 := if j ≤ b.val then Φ b else iprop(emp)
theorem peel {n : ℕ} (Φ : Fin n → sProp 𝕄) (j : Fin n) : bigSep Finset.univ (pre Φ j.val) ⊢ iprop(Φ j ∗ bigSep Finset.univ (pre Φ (j.val + 1))) := by
  iintro H
  ihave H := (swap1 (Ψ := pre Φ (j.val + 1)) j (fun b hb => by
    have : b.val ≠ j.val := fun e => hb (Fin.ext e)
    unfold pre; exact if_congr (by omega) rfl rfl)) $$ H
  simp only [pre]
  rw [if_pos (le_refl _), if_neg (by omega)]
  icases H with ⟨H1, H2⟩
  isplitl [H1]; · iexact H1
  iapply H2
  iempintro
theorem peel' {n : ℕ} (Φ : Fin n → sProp 𝕄) (a : ℕ) (j : Fin n) (h : j.val = a) : bigSep Finset.univ (pre Φ a) ⊢ iprop(Φ j ∗ bigSep Finset.univ (pre Φ (a + 1))) := h ▸ peel Φ j
theorem homes_zero : bigSep Finset.univ (homeP c XW) ⊢ iprop(homeP c XW 0 ∗ homeP c XW 1 ∗ homeP c XW 2 ∗ homeP c XW 3 ∗ homeP c XW 4 ∗ homeP c XW 5 ∗ homeP c XW 6 ∗ homeP c XW 7
    ∗ bigSep Finset.univ (homeSt c XW 0)) := by
  iintro H
  ihave H := (Entails.of_eq (show bigSep Finset.univ (homeP c XW) = bigSep Finset.univ (pre (homeP c XW) 0) from bigSep_congr fun b _ => (if_pos (Nat.zero_le _)).symm)) $$ H
  ihave H := (peel' (homeP c XW) 0 0 rfl) $$ H
  icases H with ⟨H0, H⟩
  ihave H := (peel' (homeP c XW) 1 1 rfl) $$ H
  icases H with ⟨H1, H⟩
  ihave H := (peel' (homeP c XW) 2 2 rfl) $$ H
  icases H with ⟨H2, H⟩
  ihave H := (peel' (homeP c XW) 3 3 rfl) $$ H
  icases H with ⟨H3, H⟩
  ihave H := (peel' (homeP c XW) 4 4 rfl) $$ H
  icases H with ⟨H4, H⟩
  ihave H := (peel' (homeP c XW) 5 5 rfl) $$ H
  icases H with ⟨H5, H⟩
  ihave H := (peel' (homeP c XW) 6 6 rfl) $$ H
  icases H with ⟨H6, H⟩
  ihave H := (peel' (homeP c XW) 7 7 rfl) $$ H
  icases H with ⟨H7, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (Entails.of_eq (show bigSep Finset.univ (pre (homeP c XW) 8) = bigSep Finset.univ (homeSt c XW 0) from
    bigSep_congr fun b _ => by unfold pre homeSt; exact if_congr (by omega) rfl rfl))
  iexact H
theorem homes_done : bigSep Finset.univ (homeSt c XW 24) ⊢ bigSep Finset.univ (homeP c XW) :=
  Entails.of_eq (bigSep_congr fun b _ => if_pos (.inl b.isLt))
theorem slots_zero : (iprop((∃ f, flightP c XW 0 0 f) ∗ (∃ f, flightP c XW 1 1 f) ∗ (∃ f, flightP c XW 2 2 f) ∗ (∃ f, flightP c XW 3 3 f) ∗ (∃ f, flightP c XW 4 4 f) ∗ (∃ f, flightP c XW 5 5 f) ∗ (∃ f, flightP c XW 6 6 f) ∗ (∃ f, flightP c XW 7 7 f)) : sProp 𝕄) ⊢ bigSep Finset.univ (slotSt c XW 0) := by
  refine Entails.of_eq ((bigSep_fin8 (slotSt c XW 0)).trans ?_).symm
  rfl
theorem slot_done (s : Fin 8) (hs : s ≠ 0) : slotSt c XW 24 s = iprop(cellP c s ∗ ∃ f, slotP c s f) := by
  unfold slotSt; rw [if_neg (by unfold blk; omega), if_neg hs]
theorem slot0_done : slotSt c XW 24 0 = iprop(cellP c 0 ∗ tflights c XW) := by
  unfold slotSt; rw [if_neg (by unfold blk; omega), if_pos rfl]
theorem slots_done : bigSep Finset.univ (slotSt c XW 24) ⊢ iprop((cellP c 0 ∗ tflights c XW) ∗ (cellP c 1 ∗ ∃ f, slotP c 1 f) ∗ (cellP c 2 ∗ ∃ f, slotP c 2 f) ∗ (cellP c 3 ∗ ∃ f, slotP c 3 f) ∗ (cellP c 4 ∗ ∃ f, slotP c 4 f) ∗ (cellP c 5 ∗ ∃ f, slotP c 5 f) ∗ (cellP c 6 ∗ ∃ f, slotP c 6 f) ∗ (cellP c 7 ∗ ∃ f, slotP c 7 f)) := by
  rw [bigSep_fin8, slot0_done]
  simp only [slot_done c XW _ (by decide : (1 : Fin 8) ≠ 0), slot_done c XW _ (by decide : (2 : Fin 8) ≠ 0), slot_done c XW _ (by decide : (3 : Fin 8) ≠ 0), slot_done c XW _ (by decide : (4 : Fin 8) ≠ 0), slot_done c XW _ (by decide : (5 : Fin 8) ≠ 0), slot_done c XW _ (by decide : (6 : Fin 8) ≠ 0), slot_done c XW _ (by decide : (7 : Fin 8) ≠ 0)]
  exact .rfl
theorem z_some (f : Buf (Elt F) ((c : Thread nD τ).loc cc0_scratch9)) : (bigSep Finset.univ (fun b => zP c b f) : sProp 𝕄) ⊢ bigSep Finset.univ (fun b => iprop(∃ f, zP c b f)) := by
  have h (b : Fin 25) : (zP c b f : sProp 𝕄) ⊢ iprop(∃ f, zP c b f) := by
    iintro H; iexists f; iexact H
  exact bigSep_mono fun b _ => h b
theorem o_some (f : Buf (Elt F) ((c : Thread nD τ).loc main_v1_2)) : (bigSep Finset.univ (fun b => oP c b f) : sProp 𝕄) ⊢ bigSep Finset.univ (fun b => iprop(∃ f, oP c b f)) := by
  have h (b : Fin 25) : (oP c b f : sProp 𝕄) ⊢ iprop(∃ f, oP c b f) := by
    iintro H; iexists f; iexact H
  exact bigSep_mono fun b _ => h b
theorem zo_zero : (iprop(bigSep Finset.univ (fun b => iprop(∃ f, zP c b f)) ∗ bigSep Finset.univ (fun b => iprop(∃ f, oP c b f))) : sProp 𝕄) ⊢ bigSep Finset.univ (zoSt c OZ 0) := by
  refine (Entails.of_eq (BI.bigSep_sep _ _ _).symm).trans (Entails.of_eq (bigSep_congr fun b _ => ?_))
  exact (zo_now c OZ 0 b (Nat.zero_le _)).symm
theorem zo_done : bigSep Finset.univ (zoSt c OZ 24) ⊢ (iprop(((∃ f, zP c 24 f) ∗ (∃ f, oP c 24 f)) ∗ (zO c OZ 23 ∗ (∃ f, oP c 23 f))) : sProp 𝕄) := by
  iintro H
  ihave H := (swap2 (Ψ := zoSt c OZ 24) 24 23 (by decide) (fun b _ _ => rfl)) $$ H
  icases H with ⟨H1, H2, -⟩
  isplitl [H1]
  · iapply (Entails.of_eq (zo_now c OZ 24 24 (by decide))); iexact H1
  · iapply (Entails.of_eq (zo_next c OZ 24 23 (by decide))); iexact H2
theorem oland_read (b : Fin 25) (f : Buf (Elt F) ((oslab b).view.loc (c : Thread nD τ))) (x : S12x1280.Idx) :
    (oslab b).view.read (Elt F) (oland c OZ b f) x = (zslab b).view.read (Elt F) OZ x := by
  exact congrFun (View.read_writes_whole (oslab b).view f (ReadAs.same.apply ((zslab b).view.read (Elt F) OZ))) x
theorem oslab_read (b : Fin 25) (f : Buf (Elt F) ((oslab b).view.loc (c : Thread nD τ))) (x : S12x1280.Idx) :
    (oslab b).view.read (Elt F) f x = (f : S12x32000.Idx → F .f32) ((oslab b).view.emb x) := rfl
theorem zslab_read (b : Fin 25) (x : S12x1280.Idx) :
    (zslab b).view.read (Elt F) OZ x = (OZ : S12x32000.Idx → F .f32) ((oslab b).view.emb x) := rfl
/-- What a landed copy of a slab of the logits holds on the result's slab. -/
theorem oland_eq (b : Fin 25) (f : Buf (Elt F) ((oslab b).view.loc (c : Thread nD τ))) (y : S12x32000.Idx) (hy : y ∈ (oslab b).view.set) :
    oland c OZ b f y = (OZ : S12x32000.Idx → F .f32) y := by
  obtain ⟨x, e⟩ : ∃ x, (oslab b).view.emb x = y := by
    obtain ⟨x, -, e⟩ := Finset.mem_map.mp hy
    exact ⟨x, e⟩
  subst e
  exact (oslab_read c b (oland c OZ b f) x).symm.trans ((oland_read c OZ b f x).trans (zslab_read c OZ b x))
theorem zP_storable (b : Fin 25) (g : Buf (Elt F) ((zslab b).view.loc (c : Thread nD τ))) : Storable (upEmb (U := UU nD τ) : UEmb _ 𝕄) (zP c b g) := by infer_instance
theorem copy_storable (b : Fin 25) : Storable (upEmb (U := UU nD τ) : UEmb _ 𝕄) (copyP c OZ b) := by
  haveI : Storable (upEmb (U := UU nD τ) : UEmb _ 𝕄) (zO c OZ b) := zP_storable c b _
  infer_instance
theorem copy_done (b : Fin 25) : (copyP c OZ b : sProp 𝕄) ⊢ iprop(oP c b (OZ : S12x32000.Idx → F .f32) ∗ (∃ g, zP c b g)) := by
  iintro ⟨⟨%f, H1⟩, H2⟩
  isplitl [H1]
  · iapply (Entails.of_eq (pointsTo_congr fun y hy => ?_)); swap
    · iexact H1
    exact oland_eq c OZ b f y hy
  iexists _; iexact H2
theorem out_done : bigSep Finset.univ (fun b : Fin 25 => copyP c OZ (Ring.bk 25 b.val))
    ⊢ (iprop(bigSep Finset.univ (fun b => oP c b (OZ : S12x32000.Idx → F .f32)) ∗ bigSep Finset.univ (fun b => iprop(∃ f, zP c b f))) : sProp 𝕄) := by
  refine (bigSep_mono fun b _ => copy_done c OZ (Ring.bk 25 b.val)).trans ((Entails.of_eq (bigSep_congr fun b _ => ?_)).trans (Entails.of_eq (BI.bigSep_sep _ _ _)))
  rw [show Ring.bk 25 b.val = b from Fin.ext (Ring.bk_val b.isLt)]; rfl

end Ends

/-! ## The rows loop and the drain loop -/

section Loops

variable (c : Dev nD) (OZ : Buf (Elt F) (zM.view.loc (c : Thread nD τ)))
  (HI : Buf (Elt F) (hiM.view.loc (c : Thread nD τ))) (ID : Buf (Elt F) (idM.view.loc (c : Thread nD τ)))
  (SH : Buf (Elt F) (shM.view.loc (c : Thread nD τ))) (SP : Buf (Elt F) (spM.view.loc (c : Thread nD τ)))

/-- The rows loop: the ids and the two length words it reads, and the histogram it writes. -/
def rowsInv (k : ℕ) (_ : Unit) : sProp 𝕄 :=
  iprop(held c idM ID ∗ held c shM SH ∗ held c spM SP ∗ (∃ g, held c hiM (mix c HI k g)))

/-- Before trip `k` of the drain loop. -/
def drainInv (k : ℕ) (_ : Unit) : sProp 𝕄 :=
  iprop((∃ W, owes (c : Thread nD τ) 0 W)
    ∗ (if k < 25 then batchP c OZ 25 (k * 1920)
       else iprop(semVal ((c : Thread nD τ), SemLoc.dma osm.sem) 0 ∗ bigSep Finset.univ (fun b : Fin 25 => copyP c OZ (Ring.bk 25 b.val)))))

end Loops

section Run

variable (c : Dev nD) (XW : Buf (Elt F) (wM.view.loc (c : Thread nD τ)))
  (arg11 : Memref sig .tc .vmem S1x12 .f32) (harg11 : arg11.IsWhole) (arg12 : Memref sig .tc .vmem S12x20 .f32) (harg12 : arg12.IsWhole)
  (Vx : Buf (Elt F) (xM.view.loc (c : Thread nD τ)))
  (Vws : Buf (Elt F) (wsM.view.loc (c : Thread nD τ)))
  (Vids : Buf (Elt F) (idsM.view.loc (c : Thread nD τ)))
  (Vcand : Buf (Elt F) (candM.view.loc (c : Thread nD τ)))
  (Vxs : Buf (Elt F) (xsM.view.loc (c : Thread nD τ)))
  (Vhl : Buf (Elt F) (hlM.view.loc (c : Thread nD τ)))
  (Vpl : Buf (Elt F) (plM.view.loc (c : Thread nD τ)))
  (Vpr : Buf (Elt F) (prM.view.loc (c : Thread nD τ)))
  (Vfr : Buf (Elt F) (frM.view.loc (c : Thread nD τ)))
  (Vrp : Buf (Elt F) (rpM.view.loc (c : Thread nD τ)))

variable (XP : Buf (Elt F) (xpM.view.loc (c : Thread nD τ))) (CF : Buf (Elt F) (cfM.view.loc (c : Thread nD τ)))
  (WC : Buf (Elt F) (wcM.view.loc (c : Thread nD τ))) (HI : Buf (Elt F) (hiM.view.loc (c : Thread nD τ)))
  (OZ : Buf (Elt F) (zM.view.loc (c : Thread nD τ))) (hOZ : SlabOk c CF WC HI XW XP OZ) (hT : TailOk c CF WC HI XW XP OZ)
  (hXP : XP = xpV (F := F) Vx) (hCF : CF = coefV (F := F) Vxs Vrp Vfr Vpr) (hWC : WC = (Vws : S250x128.Idx → F .f32)) (hHI : HI = histV c Vids Vhl Vpl)

/-- What the body holds before and after: its scratch, its cells at zero, its operands, its results. -/
def bodySt (Out : sProp 𝕄) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch9), ((c : Thread nD τ).loc cc0_scratch9) ↦{fullShare} f)
    ∗ Out
    ∗ (((c : Thread nD τ).loc main_arg2) ↦{fullShare} XW)
    ∗ (∃ f, held c xrM f) ∗ (∃ f, held c xpM f) ∗ (∃ f, held c wcM f) ∗ (∃ f, held c idM f) ∗ (∃ f, held c cdM f) ∗ (∃ f, held c clM f) ∗ (∃ f, held c chM f) ∗ (∃ f, held c hiM f) ∗ (∃ f, held c cfM f) ∗ (∃ f, held c rmM f) ∗ (∃ f, held c rsM f) ∗ (∃ f, held c pkM f) ∗ (∃ f, held c sxM f) ∗ (∃ f, held c shM f) ∗ (∃ f, held c spM f) ∗ (∃ f, held c srM f) ∗ (∃ f, held c sfM f) ∗ (∃ f, held c seM f)
    ∗ cellP c 0 ∗ cellP c 1 ∗ cellP c 2 ∗ cellP c 3 ∗ cellP c 4 ∗ cellP c 5 ∗ cellP c 6 ∗ cellP c 7
    ∗ tcellP c 0 ∗ tcellP c 1 ∗ tcellP c 2 ∗ tcellP c 3 ∗ tcellP c 4
    ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
    ∗ semVal ((c : Thread nD τ), SemLoc.dma osm.sem) 0
    ∗ held c xM Vx ∗ held c wsM Vws ∗ held c idsM Vids ∗ held c candM Vcand ∗ held c xsM Vxs ∗ held c hlM Vhl ∗ held c plM Vpl ∗ held c prM Vpr ∗ held c frM Vfr ∗ held c rpM Vrp
    ∗ (∃ f, held c arg11 f) ∗ (∃ f, held c arg12 f) ∗ (∃ W, owes (c : Thread nD τ) 0 W))

/-- The result at some contents. -/
abbrev outAny : sProp 𝕄 := iprop(∃ f : Buf (Elt F) ((c : Thread nD τ).loc main_v1_2), ((c : Thread nD τ).loc main_v1_2) ↦{fullShare} f)
/-- The result at the contents `OZ`. -/
abbrev outAt : sProp 𝕄 := iprop(((c : Thread nD τ).loc main_v1_2) ↦{fullShare} (OZ : S12x32000.Idx → F .f32))

include hOZ hT hXP hCF hWC hHI in
set_option maxHeartbeats 8000000 in
theorem body_run :
    bodySt c XW arg11 arg12 Vx Vws Vids Vcand Vxs Vhl Vpl Vpr Vfr Vrp (outAny (F := F) c) ⊢ wp frame (wpE (defs₀ (F := F)) 𝒱₀ (c : Thread nD τ) none) Set.univ
      (cc0_head_penalised_logits (F := F) xM (Memref.isWhole_whole _) wM (Memref.isWhole_whole _) wsM (Memref.isWhole_whole _) idsM (Memref.isWhole_whole _) candM (Memref.isWhole_whole _) xsM (Memref.isWhole_whole _) hlM (Memref.isWhole_whole _) plM (Memref.isWhole_whole _) prM (Memref.isWhole_whole _) frM (Memref.isWhole_whole _) rpM (Memref.isWhole_whole _) arg11 harg11 arg12 harg12 outM (Memref.isWhole_whole _) wbM (Memref.isWhole_whole _) xrM (Memref.isWhole_whole _) xpM (Memref.isWhole_whole _) wcM (Memref.isWhole_whole _) idM (Memref.isWhole_whole _) cdM (Memref.isWhole_whole _) clM (Memref.isWhole_whole _) chM (Memref.isWhole_whole _) hiM (Memref.isWhole_whole _) zM (Memref.isWhole_whole _) cfM (Memref.isWhole_whole _) sxM (Memref.isWhole_whole _) shM (Memref.isWhole_whole _) spM (Memref.isWhole_whole _) srM (Memref.isWhole_whole _) sfM (Memref.isWhole_whole _) seM (Memref.isWhole_whole _) rmM (Memref.isWhole_whole _) rsM (Memref.isWhole_whole _) pkM (Memref.isWhole_whole _) cc0_scratch20 cc0_scratch21 cc0_scratch22 cc0_scratch23 cc0_scratch24)
      (fun _ => bodySt c XW arg11 arg12 Vx Vws Vids Vcand Vxs Vhl Vpl Vpr Vfr Vrp (outAt (F := F) c OZ)) := by
  haveI (t : Fin 25) : Storable (upEmb (U := UU nD τ)) (copyP c OZ (Ring.bk 25 t.val)) := copy_storable c OZ _
  subst hXP hCF hHI
  unfold bodySt outAny outAt
  iintro ⟨⟨%fwb, Hwb⟩, ⟨%fz, Hz⟩, ⟨%fo, Ho⟩, Hw, ⟨%fxr, Hxr⟩, ⟨%fxp, Hxp⟩, ⟨%fwc, Hwc⟩, ⟨%fid, Hid⟩, ⟨%fcd, Hcd⟩, ⟨%fcl, Hcl⟩, ⟨%fch, Hch⟩, ⟨%fhi, Hhi⟩, ⟨%fcf, Hcf⟩, ⟨%frm, Hrm⟩, ⟨%frs, Hrs⟩, ⟨%fpk, Hpk⟩, ⟨%fsx, Hsx⟩, ⟨%fsh, Hsh⟩, ⟨%fsp, Hsp⟩, ⟨%fsr, Hsr⟩, ⟨%fsf, Hsf⟩, ⟨%fse, Hse⟩, Hc0, Hc1, Hc2, Hc3, Hc4, Hc5, Hc6, Hc7, Ht0, Ht1, Ht2, Ht3, Ht4, Hq15, Hq16, Hq17, Hq18, Hq19, Hq20, Hq21, Hq22, Hq23, Hq24, Hos, HVx, HVws, HVids, HVcand, HVxs, HVhl, HVpl, HVpr, HVfr, HVrp, ⟨%f11, H11⟩, ⟨%f12, H12⟩, ⟨%W, HO⟩⟩
  ihave Hwb := (Entails.of_eq ((ring_split c fwb).trans (bigSep_fin8 _))) $$ Hwb
  icases Hwb with ⟨Hs0, Hs1, Hs2, Hs3, Hs4, Hs5, Hs6, Hs7⟩
  ihave Hz := (Entails.of_eq (z_split c fz)) $$ Hz
  ihave Ho := (Entails.of_eq (o_split c fo)) $$ Ho
  ihave Hw := (Entails.of_eq (w_split c XW)) $$ Hw
  icases Hw with ⟨Hw, Hu0, Hu1, Hu2, Hu3, Hu4⟩
  ihave Hw := (homes_zero c XW) $$ Hw
  icases Hw with ⟨Hh0, Hh1, Hh2, Hh3, Hh4, Hh5, Hh6, Hh7, Hw⟩
  imod (Transfers.batch_alloc' (Lvl := ℕ) (countersEmb (U := UU nD τ)) (c : Thread nD τ) () 1920 (fun b : Fin 25 => copyP c OZ (Ring.bk 25 b.val)) (sm := .dma osm.sem) (E := Set.univ)) $$ Hos with HB
  rw [cc0_head_penalised_logits_eq_skeleton]
  sl_unfold [cc0_head_penalised_logits_skel]
  sl_exec
  sl_for (rowsInv c (histV c Vids Vhl Vpl) Vids Vhl Vpl) $$ [Hid Hsh Hsp Hhi]
  case region =>
    intro k _
    unfold rowsInv
    iintro ⟨Hid, Hsh, Hsp, ⟨%ghi, Hhi⟩⟩
    sl_unfold [body_run.sl.prog.body_1, k0_t1_body]
    sl_exec
    sl_step
    isplitl [Hid]; · iexact Hid
    isplitl [Hsh]; · iexact Hsh
    isplitl [Hsp]; · iexact Hsp
    iexists ghi
    iapply (Entails.of_eq (pointsTo_congr fun y hy => ?_)); swap
    · iexact Hhi
    exact mix_step c Vids Vhl Vpl k ghi y
  · unfold rowsInv
    isplitl [Hid]
    · iapply (Entails.of_eq (pointsTo_congr fun y hy => ?_)); swap
      · iexact Hid
      unfold body_run.sl.dma0_6
      exact id_copy c Vids y
    isplitl [Hsh]
    · iapply (Entails.of_eq (pointsTo_congr fun y hy => ?_)); swap
      · iexact Hsh
      exact (copy_whole (F := F) shM.view _ _ y).trans (congrFun (Eq.refl Vhl) y)
    isplitl [Hsp]
    · iapply (Entails.of_eq (pointsTo_congr fun y hy => ?_)); swap
      · iexact Hsp
      exact (copy_whole (F := F) spM.view _ _ y).trans (congrFun (Eq.refl Vpl) y)
    iexists fhi
    iapply (Entails.of_eq (pointsTo_congr fun y hy => ?_)); swap
    · iexact Hhi
    exact mix_zero c Vids Vhl Vpl fhi y
  iintro %_ HL
  unfold rowsInv
  icases HL with ⟨Hid, Hsh, Hsp, ⟨%ghi, Hhi⟩⟩
  sl_exec
  sl_for (mainInv c XW (xpV (F := F) Vx) (coefV (F := F) Vxs Vrp Vfr Vpr) WC (histV c Vids Vhl Vpl) OZ) $$ [Hxp Hcf Hcl Hch Hwc Hhi Hpk Hrm Hrs HO HB Hc0 Hc1 Hc2 Hc3 Hc4 Hc5 Hc6 Hc7 Hw Ht0 Ht1 Ht2 Ht3 Ht4 Hu0 Hu1 Hu2 Hu3 Hu4 Hz Ho]
  case region =>
    intro k _
    exact trip c XW (xpV (F := F) Vx) (coefV (F := F) Vxs Vrp Vfr Vpr) WC (histV c Vids Vhl Vpl) OZ hOZ arg11 harg11 arg12 harg12 k
  · unfold mainInv arrs tailSt thomes
    isplitl [Hxp Hcf Hcl Hch Hwc Hhi Hpk Hrm Hrs]
    · isplitl [Hxp]
      · iapply (Entails.of_eq (pointsTo_congr fun y hy => ?_)); swap
        · iexact Hxp
        unfold body_run.sl.Hxp_1
        exact xp_copy c _ _ (congrArg (k0_pay85 (F := F)) (x_load (F := F) c Vx _)) y
      isplitl [Hcf]
      · iapply (Entails.of_eq (pointsTo_congr fun y hy => ?_)); swap
        · iexact Hcf
        refine cf_entry cfM.view _ Vxs Vrp Vfr Vpr y _ _ _ _ (fun e => ?_) (fun e => ?_) (fun e => ?_) (fun e => ?_)
        · exact (rowsC_scal sxM.view Vxs _ y).trans (by unfold coefV; rw [e]; rfl)
        · exact (rowsC_scal seM.view Vrp _ y).trans (by unfold coefV; rw [e]; rfl)
        · exact (rowsC_scal sfM.view Vfr _ y).trans (by unfold coefV; rw [e]; rfl)
        · exact (rowsC_scal srM.view Vpr _ y).trans (by unfold coefV; rw [e]; rfl)
      isplitl [Hcl]; · iexists _; iexact Hcl
      isplitl [Hch]; · iexists _; iexact Hch
      isplitl [Hwc]
      · iapply (Entails.of_eq (pointsTo_congr fun y hy => ?_)); swap
        · iexact Hwc
        exact (copy_whole wcM.view _ _ y).trans (congrFun hWC y).symm
      isplitl [Hhi]
      · iapply (Entails.of_eq (pointsTo_congr fun y hy => ?_)); swap
        · iexact Hhi
        exact mix_done _ _ y
      isplitl [Hpk]; · iexists _; iexact Hpk
      isplitl [Hrm]; · iexists _; iexact Hrm
      iexists _; iexact Hrs
    isplitl [HO]; · iexists _; iexact HO
    isplitl [HB]; · iexact HB
    isplitl [Hc0 Hc1 Hc2 Hc3 Hc4 Hc5 Hc6 Hc7]
    · iapply (slots_zero c XW)
      isplitl [Hc0]; · iexists _; iexact Hc0
      isplitl [Hc1]; · iexists _; iexact Hc1
      isplitl [Hc2]; · iexists _; iexact Hc2
      isplitl [Hc3]; · iexists _; iexact Hc3
      isplitl [Hc4]; · iexists _; iexact Hc4
      isplitl [Hc5]; · iexists _; iexact Hc5
      isplitl [Hc6]; · iexists _; iexact Hc6
      iexists _; iexact Hc7
    isplitl [Hw]; · iexact Hw
    isplitl [Ht0 Ht1 Ht2 Ht3 Ht4 Hu0 Hu1 Hu2 Hu3 Hu4]
    · iapply (Entails.of_eq (if_pos (Nat.zero_le 16)).symm)
      isplitl [Ht0]; · iexact Ht0
      isplitl [Ht1]; · iexact Ht1
      isplitl [Ht2]; · iexact Ht2
      isplitl [Ht3]; · iexact Ht3
      isplitl [Ht4]; · iexact Ht4
      isplitl [Hu0]; · iexact Hu0
      isplitl [Hu1]; · iexact Hu1
      isplitl [Hu2]; · iexact Hu2
      isplitl [Hu3]; · iexact Hu3
      iexact Hu4
    iapply (zo_zero c OZ)
    isplitl [Hz]
    · iapply (z_some c fz); iexact Hz
    · iapply (o_some c fo); iexact Ho
  iintro %_ HL
  ihave HL := (Entails.of_eq (show mainInv c XW (xpV (F := F) Vx) (coefV (F := F) Vxs Vrp Vfr Vpr) WC (histV c Vids Vhl Vpl) OZ k0_t2_loop.trips () = mainInv c XW (xpV (F := F) Vx) (coefV (F := F) Vxs Vrp Vfr Vpr) WC (histV c Vids Vhl Vpl) OZ 24 () from rfl)) $$ HL
  unfold mainInv arrs
  icases HL with ⟨⟨Hxp, Hcf, ⟨%hcl, Hcl⟩, ⟨%hch, Hch⟩, Hwc, Hhi, ⟨%hpk, Hpk⟩, ⟨%hrm, Hrm⟩, ⟨%hrs, Hrs⟩⟩, ⟨%W1, HO⟩, HB, Hsl, Hw, -, Hzo⟩
  ihave Hw := (homes_done c XW) $$ Hw
  ihave Hsl := (slots_done c XW) $$ Hsl
  ihave Hzo := (zo_done c OZ) $$ Hzo
  unfold tflights
  icases Hzo with ⟨⟨⟨%fz24, Hz24⟩, ⟨%fo24, Ho24⟩⟩, Hz23, ⟨%fo23, Ho23⟩⟩
  icases Hsl with ⟨⟨Hc0, ⟨%ft0, Ht0⟩, ⟨%ft1, Ht1⟩, ⟨%ft2, Ht2⟩, ⟨%ft3, Ht3⟩, ⟨%ft4, Ht4⟩⟩, ⟨Hc1, ⟨%fs1, Hs1⟩⟩, ⟨Hc2, ⟨%fs2, Hs2⟩⟩, ⟨Hc3, ⟨%fs3, Hs3⟩⟩, ⟨Hc4, ⟨%fs4, Hs4⟩⟩, ⟨Hc5, ⟨%fs5, Hs5⟩⟩, ⟨Hc6, ⟨%fs6, Hs6⟩⟩, ⟨Hc7, ⟨%fs7, Hs7⟩⟩⟩
  sl_exec
  ihave Hz24' : zO c OZ 24 $$ [Hz24]
  · iapply (Entails.of_eq (pointsTo_congr fun y hy => ?_)); swap
    · iexact Hz24
    exact hT fz24 y hy
  sl_exec
  sl_for (drainInv (F := F) c OZ) $$ [HO HB]
  case region =>
    intro k _
    have hk : k.val < 25 := lt_of_lt_of_eq k.isLt (by decide)
    unfold drainInv
    simp only [if_pos hk]
    rcases Nat.lt_or_ge (k.val + 1) 25 with h1 | h1
    · simp only [if_pos h1]
      iintro ⟨⟨%W, HO⟩, HB⟩
      dsimp only [body_run.sl.prog.body_3]
      sl_exec
      sl_step
      isplitl [HO]; · iexists _; iexact HO
      rw [show (k.val + 1) * 1920 = k.val * 1920 + 1920 by omega]
      iexact HB
    · simp only [if_neg (show ¬ k.val + 1 < 25 by omega)]
      iintro ⟨⟨%W, HO⟩, HB⟩
      dsimp only [body_run.sl.prog.body_3]
      sl_exec
      sl_step
      isplitl [HO]; · iexists _; iexact HO
      isplitl [HB]; · iexact HB
      iexact HB_all
  · unfold drainInv
    rw [if_pos (by decide)]
    isplitl [HO]; · iexists _; iexact HO
    iexact HB
  iintro %_ HL
  ihave HL := (Entails.of_eq (show drainInv (F := F) c OZ k0_t3_loop.trips () = iprop((∃ W, owes (c : Thread nD τ) 0 W)
    ∗ (semVal ((c : Thread nD τ), SemLoc.dma osm.sem) 0 ∗ bigSep Finset.univ (fun b : Fin 25 => copyP c OZ (Ring.bk 25 b.val)))) from rfl)) $$ HL
  icases HL with ⟨⟨%W2, HO⟩, Hos, Hoz⟩
  ihave Hoz := (out_done c OZ) $$ Hoz
  icases Hoz with ⟨Ho, Hz⟩
  sl_exec
  sl_step
  isplitl [Ht0_dst Ht1_dst Ht2_dst Ht3_dst Ht4_dst Hs1 Hs2 Hs3 Hs4 Hs5 Hs6 Hs7]
  · iapply (ring_join c fwb)
    iapply (Entails.of_eq (bigSep_fin8 _).symm)
    isplitl [Ht0_dst Ht1_dst Ht2_dst Ht3_dst Ht4_dst]
    · iapply (slot0_join c fwb)
      isplitl [Ht0_dst]; · iexists _; iexact Ht0_dst
      isplitl [Ht1_dst]; · iexists _; iexact Ht1_dst
      isplitl [Ht2_dst]; · iexists _; iexact Ht2_dst
      isplitl [Ht3_dst]; · iexists _; iexact Ht3_dst
      iexists _; iexact Ht4_dst
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    iexists _; iexact Hs7
  isplitl [Hz]; · iapply (z_join c fz); iexact Hz
  isplitl [Ho]; · iapply (Entails.of_eq (o_split c (OZ : S12x32000.Idx → F .f32)).symm); iexact Ho
  isplitl [Hw Ht0_src Ht1_src Ht2_src Ht3_src Ht4_src]
  · iapply (Entails.of_eq (w_split c XW).symm)
    isplitl [Hw]; · iexact Hw
    isplitl [Ht0_src]; · iexact Ht0_src
    isplitl [Ht1_src]; · iexact Ht1_src
    isplitl [Ht2_src]; · iexact Ht2_src
    isplitl [Ht3_src]; · iexact Ht3_src
    iexact Ht4_src
  isplitl [Hxr]; · iexists _; iexact Hxr
  isplitl [Hxp]; · iexists _; iexact Hxp
  isplitl [Hwc]; · iexists _; iexact Hwc
  isplitl [Hid]; · iexists _; iexact Hid
  isplitl [Hcd]; · iexists _; iexact Hcd
  isplitl [Hcl]; · iexists _; iexact Hcl
  isplitl [Hch]; · iexists _; iexact Hch
  isplitl [Hhi]; · iexists _; iexact Hhi
  isplitl [Hcf]; · iexists _; iexact Hcf
  isplitl [Hrm]; · iexists _; iexact Hrm
  isplitl [Hrs]; · iexists _; iexact Hrs
  isplitl [Hpk]; · iexists _; iexact Hpk
  isplitl [Hsx]; · iexists _; iexact Hsx
  isplitl [Hsh]; · iexists _; iexact Hsh
  isplitl [Hsp]; · iexists _; iexact Hsp
  isplitl [Hsr]; · iexists _; iexact Hsr
  isplitl [Hsf]; · iexists _; iexact Hsf
  isplitl [Hse]; · iexists _; iexact Hse
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Ht0]; · iexact Ht0
  isplitl [Ht1]; · iexact Ht1
  isplitl [Ht2]; · iexact Ht2
  isplitl [Ht3]; · iexact Ht3
  isplitl [Ht4]; · iexact Ht4
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hos]; · iexact Hos
  isplitl [HVx]; · iexact HVx
  isplitl [HVws]; · iexact HVws
  isplitl [HVids]; · iexact HVids
  isplitl [HVcand]; · iexact HVcand
  isplitl [HVxs]; · iexact HVxs
  isplitl [HVhl]; · iexact HVhl
  isplitl [HVpl]; · iexact HVpl
  isplitl [HVpr]; · iexact HVpr
  isplitl [HVfr]; · iexact HVfr
  isplitl [HVrp]; · iexact HVrp
  isplitl [H11]; · iexists _; iexact H11
  isplitl [H12]; · iexists _; iexact H12
  iexists _; iexact HO

end Run

end Cert.Proof.KernelIdeal
end
-- ==== Proof.KernelIdeal.Frame.lean ====
/-
  The launch: the region's proof data, the body's obligation from the body's run, the run of the whole program and the frame.
-/
module

public import proofs.«01_k».proof.Proof.KernelIdeal.Body
public import proofs.«01_k».proof.Proof.Gen.KernelIdeal.Frame
public import Idealize.ShloMosaic.Lib.Pipeline.FrameValue
public import Idealize.ShloMosaic.Lib.Pipeline.FrameBody

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

open Idealize.ShloMosaic.Pipeline (Dat Cfg Window BodyObligationLoose)

section Phi

variable (c : Dev nD)

/-- The kernel's own cells. -/
abbrev osem0 : Fin 24 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25] : Fin 24 → SemLoc sig) j
theorem ownSemFacts0 : Pipeline.OwnSemFacts spec0 osem0 := by decide
theorem ownSems00_eq :
    (Pipeline.ownSems0 (Ix := Unit) (Name := ℕ) (U := UU nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem0 [0, 1, 2, 3, 4, 5, 6, 7, 8, 9, 10, 11, 12, 13, 14, 15, 16, 17, 18, 19, 20, 21, 22, 23] (by decide) (by decide)]; rfl
/-- The buffers outside the windows that the body only reads. -/
def H0 : Finset (Ref sig .tc) := {main_arg0, main_arg1, main_arg2, main_arg4, main_arg5, main_arg6, main_arg7, main_arg8, main_arg9, main_arg10, main_v0}
theorem H0_sub : H0 ⊆ Pipeline.restRefs sig spec0 := by decide
theorem hbmPts0_eq (V : (b : Ref sig .tc) → Buf (Elt F) ((c : Thread nD τ).loc b)) :
    (bigSep H0 (fun b => ((c : Thread nD τ).loc b) ↦{fullShare} V b) : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_arg7) ↦{fullShare} V main_arg7) ∗ (((c : Thread nD τ).loc main_arg8) ↦{fullShare} V main_arg8) ∗ (((c : Thread nD τ).loc main_arg9) ↦{fullShare} V main_arg9) ∗ (((c : Thread nD τ).loc main_arg10) ↦{fullShare} V main_arg10) ∗ (((c : Thread nD τ).loc main_v0) ↦{fullShare} V main_v0)) := by
  rw [BI.bigSep_eq_bigSepL_of_eq [main_arg0, main_arg1, main_arg2, main_arg4, main_arg5, main_arg6, main_arg7, main_arg8, main_arg9, main_arg10, main_v0] (by decide) (by decide)]; rfl
/-- The result the body writes itself. -/
def R0 : Finset (Ref sig .tc) := {main_v1_2}
theorem R0_sub : R0 ⊆ Pipeline.restRefs sig spec0 \ H0 := by decide
theorem routed0_eq (W : (b : Ref sig .tc) → Buf (Elt F) ((c : Thread nD τ).loc b)) :
    (Pipeline.routed R0 c W : sProp 𝕄) = (((c : Thread nD τ).loc main_v1_2) ↦{fullShare} W main_v1_2) := by
  unfold Pipeline.routed; rw [BI.bigSep_eq_bigSepL_of_eq [main_v1_2] (by decide) (by decide)]; rfl
theorem held_scr (b : Ref sig .tc) (f : Buf (Elt F) ((c : Thread nD τ).loc b)) : (held c (Memref.whole b) f : sProp 𝕄) = (((c : Thread nD τ).loc b) ↦{fullShare} f) := by
  show (((c : Thread nD τ).loc b) ↦[(View.whole b).set]{fullShare} f) = _
  rw [View.set_whole]

end Phi

/-! ## What the body computes from its operands -/

section Products

variable (c : Dev nD) (XW : Buf (Elt F) (wM.view.loc (c : Thread nD τ))) (XP : Buf (Elt F) (xpM.view.loc (c : Thread nD τ)))

abbrev at1280 (b : Fin 12) (j : ℕ) (h : j < 1280) : S16x1280.Idx := fun a => match a with
  | ⟨0, _⟩ => ⟨b.val, lt_trans b.isLt (show 12 < 16 by decide)⟩
  | ⟨1, _⟩ => ⟨j, h⟩
abbrev at256 (b : Fin 12) (j : ℕ) (h : j < 256) : S16x256.Idx := fun a => match a with
  | ⟨0, _⟩ => ⟨b.val, lt_trans b.isLt (show 12 < 16 by decide)⟩
  | ⟨1, _⟩ => ⟨j, h⟩

theorem at1280_congr (b : Fin 12) {j j' : ℕ} (e : j = j') (h h') : at1280 b j h = at1280 b j' h' := by subst e; rfl
theorem at256_congr (b : Fin 12) {j j' : ℕ} (e : j = j') (h h') : at256 b j h = at256 b j' h' := by subst e; rfl

/-- The product of row `b` and column `j`, as the trip or the tail window that holds the column computes it. -/
def accV (b j : ℕ) : F .f32 :=
  if hb : b < 12 then
    if h : j / 1280 < k0_t2_loop.trips then k0_pay3 (xpLd c XP) (blkLd c XW ⟨j / 1280, h⟩) (at1280 ⟨b, hb⟩ (j % 1280) (Nat.mod_lt _ (by decide)))
    else if h : (j - 30720) / 256 < 5 then k0_pay96 (xpLd c XP) (tailLd c XW ⟨(j - 30720) / 256, h⟩) (at256 ⟨b, hb⟩ ((j - 30720) % 256) (Nat.mod_lt _ (by decide)))
    else Scalar.ofBits .f32 0x00000000#32
  else Scalar.ofBits .f32 0x00000000#32

theorem accV_block (k : Fin k0_t2_loop.trips) (b : Fin 12) (j : ℕ) (hj : j < 1280) :
    accV c XW XP b.val (k.val * 1280 + j) = k0_pay3 (xpLd c XP) (blkLd c XW k) (at1280 b j hj) := by
  have e : (k.val * 1280 + j) / 1280 = k.val := by omega
  have e' : (k.val * 1280 + j) % 1280 = j := by omega
  unfold accV
  rw [dif_pos b.isLt, dif_pos (by rw [e]; exact k.isLt)]
  have : (⟨(k.val * 1280 + j) / 1280, by rw [e]; exact k.isLt⟩ : Fin k0_t2_loop.trips) = k := Fin.ext e
  simp only [this]
  exact congrArg _ (at1280_congr b e' _ _)

theorem accV_tail (p : Fin 5) (b : Fin 12) (j : ℕ) (hj : j < 256) :
    accV c XW XP b.val (30720 + (p.val * 256 + j)) = k0_pay96 (xpLd c XP) (tailLd c XW p) (at256 b j hj) := by
  have hp := p.isLt
  have e : (30720 + (p.val * 256 + j) - 30720) / 256 = p.val := by omega
  have e' : (30720 + (p.val * 256 + j) - 30720) % 256 = j := by omega
  have ht : k0_t2_loop.trips = 24 := by decide
  unfold accV
  rw [dif_pos b.isLt, dif_neg (by rw [ht]; omega), dif_pos (by rw [e]; exact hp)]
  have : (⟨(30720 + (p.val * 256 + j) - 30720) / 256, by rw [e]; exact hp⟩ : Fin 5) = p := Fin.ext e
  simp only [this]
  exact congrArg _ (at256_congr b e' _ _)

theorem accV_ok : AccOk c (accV c XW XP) XW XP := fun k y hy =>
  (congrArg _ (funext fun a => match a with | ⟨0, _⟩ => rfl | ⟨1, _⟩ => rfl)).trans (accV_block c XW XP k ⟨(y 0).val, hy⟩ (y 1).val (y 1).isLt).symm
theorem accV_tailOk : AccTail c (accV c XW XP) XW XP := fun p y hy =>
  (congrArg _ (funext fun a => match a with | ⟨0, _⟩ => rfl | ⟨1, _⟩ => rfl)).trans (accV_tail c XW XP p ⟨(y 0).val, hy⟩ (y 1).val (y 1).isLt).symm

end Products

section Sound

variable (c : Dev nD) (V : (b : Ref sig .tc) → Buf (Elt F) ((c : Thread nD τ).loc b))
  (arg11 : Memref sig .tc .vmem S1x12 .f32) (harg11 : arg11.IsWhole) (arg12 : Memref sig .tc .vmem S12x20 .f32) (harg12 : arg12.IsWhole)

/-- The logits that the body leaves. -/
def zOf : Buf (Elt F) ((c : Thread nD τ).loc main_v1_2) :=
  zAt (F := F) (accV c (V main_arg2) (xpV (F := F) (V main_arg0))) (coefV (F := F) (V main_arg1) (V main_arg9) (V main_arg8) (V main_arg7)) (V main_v0) (histV c (V main_arg4) (V main_arg5) (V main_arg6))

/-- The region's invariant beside the two results and the waits owed. -/
def regionSt (Out : sProp 𝕄) : sProp 𝕄 :=
  iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch17), ((c : Thread nD τ).loc cc0_scratch17) ↦{fullShare} f) ∗ (∃ f : Buf (Elt F) ((c : Thread nD τ).loc cc0_scratch18), ((c : Thread nD τ).loc cc0_scratch18) ↦{fullShare} f) ∗ (∃ f : Buf (Elt F) ((c : Thread nD τ).loc cc0_scratch19), ((c : Thread nD τ).loc cc0_scratch19) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f) ∗ (∃ f : Buf (Elt F) ((c : Thread nD τ).loc cc0_scratch14), ((c : Thread nD τ).loc cc0_scratch14) ↦{fullShare} f) ∗ (∃ f : Buf (Elt F) ((c : Thread nD τ).loc cc0_scratch15), ((c : Thread nD τ).loc cc0_scratch15) ↦{fullShare} f) ∗ (∃ f : Buf (Elt F) ((c : Thread nD τ).loc cc0_scratch16), ((c : Thread nD τ).loc cc0_scratch16) ↦{fullShare} f))
    ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)
    ∗ ((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_arg7) ↦{fullShare} V main_arg7) ∗ (((c : Thread nD τ).loc main_arg8) ↦{fullShare} V main_arg8) ∗ (((c : Thread nD τ).loc main_arg9) ↦{fullShare} V main_arg9) ∗ (((c : Thread nD τ).loc main_arg10) ↦{fullShare} V main_arg10) ∗ (((c : Thread nD τ).loc main_v0) ↦{fullShare} V main_v0))
    ∗ Out
    ∗ (∃ f, held c arg11 f) ∗ (∃ f, held c arg12 f) ∗ (∃ W, owes (c : Thread nD τ) 0 W))

abbrev bodyV (Out : sProp 𝕄) : sProp 𝕄 := bodySt c (V main_arg2) arg11 arg12 (V main_arg0) (V main_v0) (V main_arg4) (V main_arg10) (V main_arg1) (V main_arg5) (V main_arg6) (V main_arg7) (V main_arg8) (V main_arg9) Out

theorem region_body (Out : sProp 𝕄) : regionSt c V arg11 arg12 Out ⊢ bodyV c V arg11 arg12 Out := by
  unfold regionSt bodyV bodySt
  iintro ⟨⟨Hwb, Hxr, Hxp, Hwc, Hid, Hcd, Hcl, Hch, Hhi, Hz, Hcf, Hrm, Hrs, Hpk, Hsx, Hsh, Hsp, Hsr, Hsf, Hse⟩, ⟨Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Vmain_arg0, Vmain_arg1, Vmain_arg2, Vmain_arg4, Vmain_arg5, Vmain_arg6, Vmain_arg7, Vmain_arg8, Vmain_arg9, Vmain_arg10, Vmain_v0⟩, Ho, H11, H12, HO⟩
  isplitl [Hwb]; · iexact Hwb
  isplitl [Hz]; · iexact Hz
  isplitl [Ho]; · iexact Ho
  isplitl [Vmain_arg2]; · iexact Vmain_arg2
  isplitl [Hxr]; · icases Hxr with ⟨%f, Hxr⟩; iexists f; iapply (Entails.of_eq (held_scr c cc0_scratch1 f).symm); iexact Hxr
  isplitl [Hxp]; · icases Hxp with ⟨%f, Hxp⟩; iexists f; iapply (Entails.of_eq (held_scr c cc0_scratch2 f).symm); iexact Hxp
  isplitl [Hwc]; · icases Hwc with ⟨%f, Hwc⟩; iexists f; iapply (Entails.of_eq (held_scr c cc0_scratch3 f).symm); iexact Hwc
  isplitl [Hid]; · icases Hid with ⟨%f, Hid⟩; iexists f; iapply (Entails.of_eq (held_scr c cc0_scratch4 f).symm); iexact Hid
  isplitl [Hcd]; · icases Hcd with ⟨%f, Hcd⟩; iexists f; iapply (Entails.of_eq (held_scr c cc0_scratch5 f).symm); iexact Hcd
  isplitl [Hcl]; · icases Hcl with ⟨%f, Hcl⟩; iexists f; iapply (Entails.of_eq (held_scr c cc0_scratch6 f).symm); iexact Hcl
  isplitl [Hch]; · icases Hch with ⟨%f, Hch⟩; iexists f; iapply (Entails.of_eq (held_scr c cc0_scratch7 f).symm); iexact Hch
  isplitl [Hhi]; · icases Hhi with ⟨%f, Hhi⟩; iexists f; iapply (Entails.of_eq (held_scr c cc0_scratch8 f).symm); iexact Hhi
  isplitl [Hcf]; · icases Hcf with ⟨%f, Hcf⟩; iexists f; iapply (Entails.of_eq (held_scr c cc0_scratch10 f).symm); iexact Hcf
  isplitl [Hrm]; · icases Hrm with ⟨%f, Hrm⟩; iexists f; iapply (Entails.of_eq (held_scr c cc0_scratch17 f).symm); iexact Hrm
  isplitl [Hrs]; · icases Hrs with ⟨%f, Hrs⟩; iexists f; iapply (Entails.of_eq (held_scr c cc0_scratch18 f).symm); iexact Hrs
  isplitl [Hpk]; · icases Hpk with ⟨%f, Hpk⟩; iexists f; iapply (Entails.of_eq (held_scr c cc0_scratch19 f).symm); iexact Hpk
  isplitl [Hsx]; · icases Hsx with ⟨%f, Hsx⟩; iexists f; iapply (Entails.of_eq (held_scr c cc0_scratch11 f).symm); iexact Hsx
  isplitl [Hsh]; · icases Hsh with ⟨%f, Hsh⟩; iexists f; iapply (Entails.of_eq (held_scr c cc0_scratch12 f).symm); iexact Hsh
  isplitl [Hsp]; · icases Hsp with ⟨%f, Hsp⟩; iexists f; iapply (Entails.of_eq (held_scr c cc0_scratch13 f).symm); iexact Hsp
  isplitl [Hsr]; · icases Hsr with ⟨%f, Hsr⟩; iexists f; iapply (Entails.of_eq (held_scr c cc0_scratch14 f).symm); iexact Hsr
  isplitl [Hsf]; · icases Hsf with ⟨%f, Hsf⟩; iexists f; iapply (Entails.of_eq (held_scr c cc0_scratch15 f).symm); iexact Hsf
  isplitl [Hse]; · icases Hse with ⟨%f, Hse⟩; iexists f; iapply (Entails.of_eq (held_scr c cc0_scratch16 f).symm); iexact Hse
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Vmain_arg0]; · iapply (Entails.of_eq (held_scr c main_arg0 _).symm); iexact Vmain_arg0
  isplitl [Vmain_v0]; · iapply (Entails.of_eq (held_scr c main_v0 _).symm); iexact Vmain_v0
  isplitl [Vmain_arg4]; · iapply (Entails.of_eq (held_scr c main_arg4 _).symm); iexact Vmain_arg4
  isplitl [Vmain_arg10]; · iapply (Entails.of_eq (held_scr c main_arg10 _).symm); iexact Vmain_arg10
  isplitl [Vmain_arg1]; · iapply (Entails.of_eq (held_scr c main_arg1 _).symm); iexact Vmain_arg1
  isplitl [Vmain_arg5]; · iapply (Entails.of_eq (held_scr c main_arg5 _).symm); iexact Vmain_arg5
  isplitl [Vmain_arg6]; · iapply (Entails.of_eq (held_scr c main_arg6 _).symm); iexact Vmain_arg6
  isplitl [Vmain_arg7]; · iapply (Entails.of_eq (held_scr c main_arg7 _).symm); iexact Vmain_arg7
  isplitl [Vmain_arg8]; · iapply (Entails.of_eq (held_scr c main_arg8 _).symm); iexact Vmain_arg8
  isplitl [Vmain_arg9]; · iapply (Entails.of_eq (held_scr c main_arg9 _).symm); iexact Vmain_arg9
  isplitl [H11]; · iexact H11
  isplitl [H12]; · iexact H12
  iexact HO

theorem body_region (Out : sProp 𝕄) : bodyV c V arg11 arg12 Out ⊢ regionSt c V arg11 arg12 Out := by
  unfold regionSt bodyV bodySt
  iintro ⟨Hwb, Hz, Ho, Vmain_arg2, Hxr, Hxp, Hwc, Hid, Hcd, Hcl, Hch, Hhi, Hcf, Hrm, Hrs, Hpk, Hsx, Hsh, Hsp, Hsr, Hsf, Hse, Hq2, Hq3, Hq4, Hq5, Hq6, Hq7, Hq8, Hq9, Hq10, Hq11, Hq12, Hq13, Hq14, Hq15, Hq16, Hq17, Hq18, Hq19, Hq20, Hq21, Hq22, Hq23, Hq24, Hq25, Vmain_arg0, Vmain_v0, Vmain_arg4, Vmain_arg10, Vmain_arg1, Vmain_arg5, Vmain_arg6, Vmain_arg7, Vmain_arg8, Vmain_arg9, H11, H12, HO⟩
  isplitl [Hwb Hxr Hxp Hwc Hid Hcd Hcl Hch Hhi Hz Hcf Hrm Hrs Hpk Hsx Hsh Hsp Hsr Hsf Hse]
  · isplitl [Hwb]; · iexact Hwb
    isplitl [Hxr]; · icases Hxr with ⟨%f, Hxr⟩; iexists f; iapply (Entails.of_eq (held_scr c cc0_scratch1 f)); iexact Hxr
    isplitl [Hxp]; · icases Hxp with ⟨%f, Hxp⟩; iexists f; iapply (Entails.of_eq (held_scr c cc0_scratch2 f)); iexact Hxp
    isplitl [Hwc]; · icases Hwc with ⟨%f, Hwc⟩; iexists f; iapply (Entails.of_eq (held_scr c cc0_scratch3 f)); iexact Hwc
    isplitl [Hid]; · icases Hid with ⟨%f, Hid⟩; iexists f; iapply (Entails.of_eq (held_scr c cc0_scratch4 f)); iexact Hid
    isplitl [Hcd]; · icases Hcd with ⟨%f, Hcd⟩; iexists f; iapply (Entails.of_eq (held_scr c cc0_scratch5 f)); iexact Hcd
    isplitl [Hcl]; · icases Hcl with ⟨%f, Hcl⟩; iexists f; iapply (Entails.of_eq (held_scr c cc0_scratch6 f)); iexact Hcl
    isplitl [Hch]; · icases Hch with ⟨%f, Hch⟩; iexists f; iapply (Entails.of_eq (held_scr c cc0_scratch7 f)); iexact Hch
    isplitl [Hhi]; · icases Hhi with ⟨%f, Hhi⟩; iexists f; iapply (Entails.of_eq (held_scr c cc0_scratch8 f)); iexact Hhi
    isplitl [Hz]; · iexact Hz
    isplitl [Hcf]; · icases Hcf with ⟨%f, Hcf⟩; iexists f; iapply (Entails.of_eq (held_scr c cc0_scratch10 f)); iexact Hcf
    isplitl [Hrm]; · icases Hrm with ⟨%f, Hrm⟩; iexists f; iapply (Entails.of_eq (held_scr c cc0_scratch17 f)); iexact Hrm
    isplitl [Hrs]; · icases Hrs with ⟨%f, Hrs⟩; iexists f; iapply (Entails.of_eq (held_scr c cc0_scratch18 f)); iexact Hrs
    isplitl [Hpk]; · icases Hpk with ⟨%f, Hpk⟩; iexists f; iapply (Entails.of_eq (held_scr c cc0_scratch19 f)); iexact Hpk
    isplitl [Hsx]; · icases Hsx with ⟨%f, Hsx⟩; iexists f; iapply (Entails.of_eq (held_scr c cc0_scratch11 f)); iexact Hsx
    isplitl [Hsh]; · icases Hsh with ⟨%f, Hsh⟩; iexists f; iapply (Entails.of_eq (held_scr c cc0_scratch12 f)); iexact Hsh
    isplitl [Hsp]; · icases Hsp with ⟨%f, Hsp⟩; iexists f; iapply (Entails.of_eq (held_scr c cc0_scratch13 f)); iexact Hsp
    isplitl [Hsr]; · icases Hsr with ⟨%f, Hsr⟩; iexists f; iapply (Entails.of_eq (held_scr c cc0_scratch14 f)); iexact Hsr
    isplitl [Hsf]; · icases Hsf with ⟨%f, Hsf⟩; iexists f; iapply (Entails.of_eq (held_scr c cc0_scratch15 f)); iexact Hsf
    icases Hse with ⟨%f, Hse⟩; iexists f; iapply (Entails.of_eq (held_scr c cc0_scratch16 f)); iexact Hse
  isplitl [Hq2 Hq3 Hq4 Hq5 Hq6 Hq7 Hq8 Hq9 Hq10 Hq11 Hq12 Hq13 Hq14 Hq15 Hq16 Hq17 Hq18 Hq19 Hq20 Hq21 Hq22 Hq23 Hq24 Hq25]
  · isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexact Hq25
  isplitl [Vmain_arg0 Vmain_arg1 Vmain_arg2 Vmain_arg4 Vmain_arg5 Vmain_arg6 Vmain_arg7 Vmain_arg8 Vmain_arg9 Vmain_arg10 Vmain_v0]
  · isplitl [Vmain_arg0]; · iapply (Entails.of_eq (held_scr c main_arg0 _)); iexact Vmain_arg0
    isplitl [Vmain_arg1]; · iapply (Entails.of_eq (held_scr c main_arg1 _)); iexact Vmain_arg1
    isplitl [Vmain_arg2]; · iexact Vmain_arg2
    isplitl [Vmain_arg4]; · iapply (Entails.of_eq (held_scr c main_arg4 _)); iexact Vmain_arg4
    isplitl [Vmain_arg5]; · iapply (Entails.of_eq (held_scr c main_arg5 _)); iexact Vmain_arg5
    isplitl [Vmain_arg6]; · iapply (Entails.of_eq (held_scr c main_arg6 _)); iexact Vmain_arg6
    isplitl [Vmain_arg7]; · iapply (Entails.of_eq (held_scr c main_arg7 _)); iexact Vmain_arg7
    isplitl [Vmain_arg8]; · iapply (Entails.of_eq (held_scr c main_arg8 _)); iexact Vmain_arg8
    isplitl [Vmain_arg9]; · iapply (Entails.of_eq (held_scr c main_arg9 _)); iexact Vmain_arg9
    isplitl [Vmain_arg10]; · iapply (Entails.of_eq (held_scr c main_arg10 _)); iexact Vmain_arg10
    iapply (Entails.of_eq (held_scr c main_v0 _)); iexact Vmain_v0
  isplitl [Ho]; · iexact Ho
  isplitl [H11]; · iexact H11
  isplitl [H12]; · iexact H12
  iexact HO

end Sound

variable (m : (ℓ : Loc nD τ sig) → Buf (Elt F) ℓ) (ρ : Dev nD → PrngReg)

/-- What the buffers hold when the region ends: the result holds the logits. -/
def G (c : Dev nD) : (b : Ref sig .tc) → Buf (Elt F) ((c : Thread nD τ).loc b) := Function.update (V m c) main_v1_2 (zOf c (V m c))
theorem G_out (c : Dev nD) : G m c main_v1_2 = zOf c (V m c) := Function.update_self ..

/-- The region's proof data: what the arrays hold, the region's invariant before and after its one step, nothing owed. -/
def dats (_ : Fin 1) (c : Dev nD) : Dat τ (Elt F) Unit ℕ (Pipeline.UD sig nD τ) ℕ cfg0 c where
  A w := V m c (Pipeline.arrRef spec0 w)
  after w _ := match w with
    | ⟨0, _⟩ => fun _ => Scalar.ofBits .f32 0x00000000#32
    | ⟨1, _⟩ => fun _ => Scalar.ofBits .f32 0x00000000#32
  Φ t := if t.val = 0 then Pipeline.ΦDRG osem0 spec0 H0 R0 (V m) (V m) c else Pipeline.ΦDRG osem0 spec0 H0 R0 (V m) (G m) c
  q _ := fullShare
  owed _ := 0

theorem Φ_start (c : Dev nD) (t : Fin cfg0.N) : (dats m 0 c).Φ t.castSucc = Pipeline.ΦDRG osem0 spec0 H0 R0 (V m) (V m) c :=
  if_pos (by rw [fin_N0 t]; rfl)
theorem Φ_end (c : Dev nD) (t : Fin cfg0.N) : (dats m 0 c).Φ t.succ = Pipeline.ΦDRG osem0 spec0 H0 R0 (V m) (G m) c :=
  if_neg (t := Pipeline.ΦDRG osem0 spec0 H0 R0 (V m) (V m) c) (show ¬ t.succ.val = 0 from Nat.succ_ne_zero _)

theorem defs₀_row (t : Fin cfg0.N) :
    defs₀ (F := F) .tc cfg0.body (cfg0.bodyArgs t (cfg0.slots t)) = bodyAt0 t := by
  unfold defs₀; rw [Defs.onTc_tc]

/-- The step's run between the region's invariants. -/
theorem region_run (c : Dev nD) (t : Fin cfg0.N) :
    (iprop(regionSt c (V m c) (win0_0.stage (cfg0.slots t 0)) (win0_1.stage (cfg0.slots t 1)) (outAny (F := F) c) ∗ ∃ r, prngReg c r) : sProp 𝕄)
      ⊢ wp frame (wpE (defs₀ (F := F)) 𝒱₀ (c : Thread nD τ) none) Set.univ (bodyAt0 t)
        (fun _ => iprop(regionSt c (V m c) (win0_0.stage (cfg0.slots t 0)) (win0_1.stage (cfg0.slots t 1)) (outAt (F := F) c (zOf c (V m c))) ∗ ∃ r, prngReg c r)) := by
  have hrun := body_run c (V m c main_arg2) (win0_0.stage (cfg0.slots t 0)) (hstage0_0 0) (win0_1.stage (cfg0.slots t 1)) (hstage0_1 0)
    (V m c main_arg0) (V m c main_v0) (V m c main_arg4) (V m c main_arg10) (V m c main_arg1) (V m c main_arg5) (V m c main_arg6) (V m c main_arg7) (V m c main_arg8) (V m c main_arg9)
    _ _ _ _ (zOf c (V m c)) (slabOk c _ _ _ _ _ _ (accV_ok c _ _)) (tailOk c _ _ _ _ _ _ (accV_tailOk c _ _)) rfl rfl rfl rfl
  have h1 := (Idealize.SL.BI.sep_mono_l (Q := iprop(∃ r, prngReg c r)) ((region_body c (V m c) (win0_0.stage (cfg0.slots t 0)) (win0_1.stage (cfg0.slots t 1)) (outAny (F := F) c)).trans hrun)).trans (wp_frame_r _ _ _)
  exact triple_restated h1 rfl .rfl fun _ => Idealize.SL.BI.sep_mono_l (body_region c (V m c) (win0_0.stage (cfg0.slots t 0)) (win0_1.stage (cfg0.slots t 1)) _)

theorem sound_body (c : Dev nD) (t : Fin cfg0.N) :
    (iprop((dats m 0 c).Φ t.castSucc ∗ (dats m 0 c).owesAt () t.castSucc
      ∗ (∃ X, owns (c : Thread nD τ) (win0_0.stage (cfg0.slots t 0)) fullShare X) ∗ (∃ X, owns (c : Thread nD τ) (win0_1.stage (cfg0.slots t 1)) fullShare X)) : sProp 𝕄)
    ⊢ wp frame (wpE (defs₀ (F := F)) 𝒱₀ (c : Thread nD τ) none) Set.univ (bodyAt0 t)
      (fun _ => iprop((dats m 0 c).Φ t.succ ∗ (dats m 0 c).owesAt () t.succ
      ∗ (∃ X, owns (c : Thread nD τ) (win0_0.stage (cfg0.slots t 0)) fullShare X) ∗ (∃ X, owns (c : Thread nD τ) (win0_1.stage (cfg0.slots t 1)) fullShare X))) := by
  rw [Φ_start, Φ_end, Pipeline.ΦDRG_eq, Pipeline.ΦDRG_eq, scopedRest0_eq, ownSems00_eq, hbmPts0_eq c (V m c), routed0_eq, routed0_eq, G_out]
  unfold Dat.owesAt Pipeline.owesWithin
  rw [show (dats m 0 c).owed t.castSucc = 0 from rfl, show (dats m 0 c).owed t.succ = 0 from rfl]
  unfold owns
  refine triple_restated (region_run m c t) rfl ?_ fun _ => ?_
  · unfold regionSt outAny
    iintro ⟨⟨HS, Hg, Hq, HV, Ho⟩, ⟨%W, -, HW⟩, ⟨%X0, %f0, -, H11⟩, ⟨%X1, %f1, -, H12⟩⟩
    isplitr [Hg]
    swap; · iexact Hg
    isplitl [HS]; · iexact HS
    isplitl [Hq]; · iexact Hq
    isplitl [HV]; · iexact HV
    isplitl [Ho]; · iexists _; iexact Ho
    isplitl [H11]; · iexists _; iexact H11
    isplitl [H12]; · iexists _; iexact H12
    iexists _; iexact HW
  · unfold regionSt outAt
    iintro ⟨⟨HS, Hq, HV, Ho, ⟨%f0, H11⟩, ⟨%f1, H12⟩, ⟨%W, HW⟩⟩, Hg⟩
    isplitl [HS Hq HV Ho Hg]
    · isplitl [HS]; · iexact HS
      isplitl [Hg]; · iexact Hg
      isplitl [Hq]; · iexact Hq
      isplitl [HV]; · iexact HV
      iexact Ho
    isplitl [HW]
    · iexists W; isplitr; · ipureintro; exact fun _ _ => Or.inl trivial
      iexact HW
    isplitl [H11]
    · iexists _; iexists f0; isplitr; · ipureintro; rfl
      iexact H11
    · iexists _; iexists f1; isplitr; · ipureintro; rfl
      iexact H12

theorem body_obligation (c : Dev nD) : BodyObligationLoose (dats (F := F) m 0 c) (defs₀ (F := F)) 𝒱₀ () Set.univ (fun _ => true) := fun t => by
  rw [bigSep_W0, defs₀_row]
  exact sound_body m c t

set_option maxHeartbeats 800000 in
theorem hmainU : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What the run leaves. -/
abbrev RunPost (r : PUnit × MemSt nD τ sig (Elt F)) : Prop :=
  Pipeline.RDat.FramePostRG cfg0 (fun c => (dats m 0 c).toRForget fun _ => true) R0 (V m) (G m) r ∧ r.2.sem = fun _ => 0

set_option backward.isDefEq.respectTransparency.types false in
theorem run_main : θ_run defs (onTc (τ := τ) (main (F := F))) (s₀ m ρ) (RunPost m) :=
  Pipeline.θ_run_frame_dmaRG_forget cfgs (dats m) (0 : Fin 1) launch0 osem0 defs₀ 𝒱₀ (fun _ => true) ownSemFacts0 H0 R0 H0_sub R0_sub m ρ main
    (hbody := body_obligation m) (hshare := fun c => (dats m 0 c).share_full fun _ => rfl) (howed := fun _ _ => rfl)
    (V := V m) (hmain := hmainU m) (hA := fun _ _ => rfl) (G := G m) (hin := fun _ => .rfl) (hout := fun _ => .rfl) (Q' := RunPost m) (hQ' := fun _ h => h)

/-- The arguments are as they were. -/
theorem kept (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  have key (b : Ref sig .tc) (hb : b ∈ Pipeline.restRefs sig spec0 \ R0) : r.2.mem ((c.tc : Thread nD τ).loc b) = V m c b := (h.1.1 c).2 b hb
  ⟨(key main_arg0 (Finset.mem_sdiff.mpr ⟨Pipeline.mem_restRefs_of main_arg0 (by decide) (by decide), by decide⟩)).trans (V_main_arg0 m c),
    (key main_arg1 (Finset.mem_sdiff.mpr ⟨Pipeline.mem_restRefs_of main_arg1 (by decide) (by decide), by decide⟩)).trans (V_main_arg1 m c),
    (key main_arg2 (Finset.mem_sdiff.mpr ⟨Pipeline.mem_restRefs_of main_arg2 (by decide) (by decide), by decide⟩)).trans (V_main_arg2 m c),
    (key main_arg3 (Finset.mem_sdiff.mpr ⟨Pipeline.mem_restRefs_of main_arg3 (by decide) (by decide), by decide⟩)).trans (V_main_arg3 m c),
    (key main_arg4 (Finset.mem_sdiff.mpr ⟨Pipeline.mem_restRefs_of main_arg4 (by decide) (by decide), by decide⟩)).trans (V_main_arg4 m c),
    (key main_arg5 (Finset.mem_sdiff.mpr ⟨Pipeline.mem_restRefs_of main_arg5 (by decide) (by decide), by decide⟩)).trans (V_main_arg5 m c),
    (key main_arg6 (Finset.mem_sdiff.mpr ⟨Pipeline.mem_restRefs_of main_arg6 (by decide) (by decide), by decide⟩)).trans (V_main_arg6 m c),
    (key main_arg7 (Finset.mem_sdiff.mpr ⟨Pipeline.mem_restRefs_of main_arg7 (by decide) (by decide), by decide⟩)).trans (V_main_arg7 m c),
    (key main_arg8 (Finset.mem_sdiff.mpr ⟨Pipeline.mem_restRefs_of main_arg8 (by decide) (by decide), by decide⟩)).trans (V_main_arg8 m c),
    (key main_arg9 (Finset.mem_sdiff.mpr ⟨Pipeline.mem_restRefs_of main_arg9 (by decide) (by decide), by decide⟩)).trans (V_main_arg9 m c),
    (key main_arg10 (Finset.mem_sdiff.mpr ⟨Pipeline.mem_restRefs_of main_arg10 (by decide) (by decide), by decide⟩)).trans (V_main_arg10 m c)⟩

/-- The program runs, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨kept m r h, h.2⟩) (run_main m ρ)

/-- The program runs and leaves the logits, its arguments as they were. -/
theorem value : θ_run defs (onTc (τ := τ) (main (F := F))) ⟨m, fun _ => 0, ρ⟩ (fun r => ∀ c : Dev nD,
      r.2.mem ((c.tc : Thread nD τ).loc main_v1_2) = zOf c (V m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h.1.2 c main_v1_2 (by decide)).trans (G_out m c), kept m r h c⟩) (run_main m ρ)

end Cert.Proof.KernelIdeal
end
-- ==== Proof.Value.Counts.lean ====
/-
  The packed counts: a sum of ones (generated positions) and of 2⁻¹² (prompt positions) over fewer than 4096 positions has
  the number of generated positions as its floor, and is positive when any position counts.
-/
module

public import Idealize.ShloMosaic.Lib.ValueIdx
public import Idealize.ShloMosaic.Lib.IdealHost
public import Idealize.ShloMosaic.Lib.PackedFields
public import Idealize.ShloMosaic.PureOps.Ideal.Laws

@[expose] public section

noncomputable section

namespace Cert.Proof.Value

open Idealize.ShloMosaic
open scoped BigOperators

theorem ofBits_step : Ideal.ofBits .f32 0x39800000#32 = ((1 / 4096 : ℝ) : EReal) := by
  simp [Ideal.ofBits, Ideal.ieee, -EReal.coe_mul]; norm_num

theorem coe_sum {ι : Type} (s : Finset ι) (f : ι → ℝ) : ((∑ i ∈ s, f i : ℝ) : EReal) = ∑ i ∈ s, (f i : EReal) := by
  classical
  induction s using Finset.induction with
  | empty => simp
  | insert a s h ih => rw [Finset.sum_insert h, Finset.sum_insert h, EReal.coe_add, ih]

theorem coe_count {n : ℕ} (p : Fin n → Prop) [DecidablePred p] :
    (∑ t, if p t then (1 : EReal) else 0) = (((∑ t, if p t then 1 else 0 : ℕ) : ℝ) : EReal) := by
  rw [Nat.cast_sum, coe_sum]
  refine Finset.sum_congr rfl fun t _ => ?_
  by_cases h : p t <;> simp [h]

section Counts

variable {n : ℕ} (H V G : Fin n → Prop) [DecidablePred H] [DecidablePred V] [DecidablePred G]

theorem packed_eq :
    (∑ t, if H t then (if V t then (if G t then (1 : EReal) else ((1 / 4096 : ℝ) : EReal)) else 0) else 0)
      = ((((∑ t, if H t ∧ V t ∧ G t then 1 else 0 : ℕ) : ℝ) + ((∑ t, if H t ∧ V t ∧ ¬ G t then 1 else 0 : ℕ) : ℝ) / 4096 : ℝ) : EReal) := by
  rw [Nat.cast_sum, Nat.cast_sum, Finset.sum_div, ← Finset.sum_add_distrib, coe_sum]
  refine Finset.sum_congr rfl fun t _ => ?_
  by_cases h : H t <;> by_cases v : V t <;> by_cases g : G t <;> simp [h, v, g]

theorem count_le (p : Fin n → Prop) [DecidablePred p] : (∑ t, if p t then 1 else 0 : ℕ) ≤ n := by
  refine (Finset.sum_le_sum (g := fun _ => 1) fun t _ => ?_).trans (by simp)
  by_cases h : p t <;> simp [h]

theorem packed_floor (hn : n < 4096) :
    Ideal.liftRound Int.floor (∑ t, if H t then (if V t then (if G t then (1 : EReal) else ((1 / 4096 : ℝ) : EReal)) else 0) else 0)
      = ∑ t, if H t ∧ V t ∧ G t then (1 : EReal) else 0 := by
  rw [packed_eq, coe_count]
  generalize (∑ t, if H t ∧ V t ∧ G t then 1 else 0 : ℕ) = a
  have hb := count_le (fun t => H t ∧ V t ∧ ¬ G t)
  generalize (∑ t, if H t ∧ V t ∧ ¬ G t then 1 else 0 : ℕ) = b at hb
  have hb' : (b : ℝ) < 4096 := by exact_mod_cast lt_of_le_of_lt hb hn
  have h0 : (0 : ℝ) ≤ b := Nat.cast_nonneg b
  show (((⌊(a : ℝ) + (b : ℝ) / 4096⌋ : ℤ) : ℝ) : EReal) = _
  have : ⌊(a : ℝ) + (b : ℝ) / 4096⌋ = (a : ℤ) := by
    rw [Int.floor_eq_iff]
    constructor
    · push_cast; linarith [div_nonneg h0 (by norm_num : (0 : ℝ) ≤ 4096)]
    · push_cast
      have : (b : ℝ) / 4096 < 1 := by rw [div_lt_one (by norm_num)]; exact hb'
      linarith
  rw [this]; push_cast; rfl

theorem packed_pos :
    (0 < ∑ t, if H t then (if V t then (if G t then (1 : EReal) else ((1 / 4096 : ℝ) : EReal)) else 0) else 0)
      ↔ 0 < ∑ t, if H t ∧ V t then (1 : EReal) else 0 := by
  rw [packed_eq, coe_count, EReal.coe_pos, EReal.coe_pos]
  have e : (∑ t, if H t ∧ V t then 1 else 0 : ℕ) = (∑ t, if H t ∧ V t ∧ G t then 1 else 0 : ℕ) + (∑ t, if H t ∧ V t ∧ ¬ G t then 1 else 0 : ℕ) := by
    rw [← Finset.sum_add_distrib]
    refine Finset.sum_congr rfl fun t _ => ?_
    by_cases h : H t <;> by_cases v : V t <;> by_cases g : G t <;> simp [h, v, g]
  rw [e]
  generalize (∑ t, if H t ∧ V t ∧ G t then 1 else 0 : ℕ) = a
  generalize (∑ t, if H t ∧ V t ∧ ¬ G t then 1 else 0 : ℕ) = b
  have h0 : (0 : ℝ) ≤ b := Nat.cast_nonneg b
  have h1 : (0 : ℝ) ≤ a := Nat.cast_nonneg a
  push_cast
  constructor
  · intro h
    by_contra hc
    have : (a : ℝ) = 0 ∧ (b : ℝ) = 0 := by constructor <;> linarith
    rw [this.1, this.2] at h; norm_num at h
  · intro h
    by_contra hc
    have h2 : (0 : ℝ) ≤ (b : ℝ) / 4096 := div_nonneg h0 (by norm_num)
    have h3 : (b : ℝ) / 4096 = 0 := by linarith
    have : (b : ℝ) = 0 := by linarith [(div_eq_zero_iff.mp h3).resolve_right (by norm_num)]
    linarith

end Counts

/-- A 32-bit word is `v` when its high part is `v / 128` and its low seven bits are `v % 128`. -/
theorem split_iff (tok : BitVec 32) (v : ℕ) (hv : v < 32000) :
    (BitVec.ofNat 32 (v / 128) = IntOp.shrsi .vector tok 7#32 ∧ BitVec.ofNat 32 (v % 128) = IntOp.andi tok 127#32) ↔ tok = BitVec.ofNat 32 v := by
  have e1 : IntOp.shrsi .vector tok 7#32 = tok.sshiftRight 7 := rfl
  have e2 : (IntOp.andi tok 127#32).toNat = tok.toNat % 128 := by
    show (tok &&& 127#32).toNat = _
    rw [BitVec.toNat_and]
    exact Nat.and_two_pow_sub_one_eq_mod tok.toNat 7
  have e3 : (tok.sshiftRight 7).toInt = tok.toInt / 128 := by
    rw [BitVec.toInt_sshiftRight, Int.shiftRight_eq_div_pow]; rfl
  have hlt := tok.isLt
  rw [e1]
  constructor
  · rintro ⟨h1, h2⟩
    have h1' := congrArg BitVec.toInt h1
    have h2' := congrArg BitVec.toNat h2
    rw [e3, BitVec.toInt_eq_toNat_cond, BitVec.toInt_eq_toNat_cond, BitVec.toNat_ofNat] at h1'
    rw [e2, BitVec.toNat_ofNat] at h2'
    apply BitVec.eq_of_toNat_eq
    rw [BitVec.toNat_ofNat]
    split at h1' <;> split at h1' <;> omega
  · rintro rfl
    constructor
    · apply BitVec.eq_of_toInt_eq
      rw [e3, BitVec.toInt_eq_toNat_cond, BitVec.toInt_eq_toNat_cond, BitVec.toNat_ofNat, BitVec.toNat_ofNat]
      split <;> split <;> omega
    · apply BitVec.eq_of_toNat_eq
      rw [e2, BitVec.toNat_ofNat, BitVec.toNat_ofNat]
      omega

end Cert.Proof.Value
end
-- ==== Proof.Value.Spec.lean ====
/-
  The penalised logits as one formula over the extended reals, which both programs are shown to compute.
-/
module

public import proofs.«01_k».proof.Proof.Value.Counts
public import Idealize.ShloMosaic.Lib.Pointwise

@[expose] public section

noncomputable section

namespace Cert.Proof.Value

open Idealize.ShloMosaic
open scoped BigOperators

abbrev T2 (a b : ℕ) : Shape := ⟨2, ![a, b]⟩
abbrev T1 (a : ℕ) : Shape := ⟨1, ![a]⟩

section

variable (ids : (T2 12 2048).Idx → BitVec 32) (hl pl : (T1 12).Idx → BitVec 32)

/-- Position `t` of row `b` holds token `v`. -/
abbrev hitP (b : Fin 12) (v : ℕ) (t : Fin 2048) : Prop := ids (ix2 b t) = BitVec.ofNat 32 v
/-- Position `t` of row `b` lies in the history. -/
abbrev valP (b : Fin 12) (t : Fin 2048) : Prop := (BitVec.ofNat 32 t.val).slt (hl (ix1 b)) = true
/-- Position `t` of row `b` lies after the prompt. -/
abbrev genP (b : Fin 12) (t : Fin 2048) : Prop := (pl (ix1 b)).sle (BitVec.ofNat 32 t.val) = true

/-- How often row `b`'s history holds token `v`. -/
def cAll (b : Fin 12) (v : ℕ) : EReal := ∑ t : Fin 2048, if hitP ids b v t ∧ valP hl b t then (1 : EReal) else 0
/-- How often its generated part does. -/
def cGen (b : Fin 12) (v : ℕ) : EReal := ∑ t : Fin 2048, if hitP ids b v t ∧ valP hl b t ∧ genP pl b t then (1 : EReal) else 0

end

/-- One penalised logit of the scaled product `z`, the counts `a` and `g`, and the three penalties. -/
def pen (z a g r f p : EReal) : EReal :=
  (if 0 < a then (if 0 < z then Ideal.div z r else z * r) else z) - g * f - (if 0 < g then p else 0)

/-- The product of row `b` and column `v`. -/
def dotX (X : (T2 12 4096).Idx → EReal) (W : (T2 4096 32000).Idx → EReal) (b : Fin 12) (v : Fin 32000) : EReal :=
  ∑ k : Fin 4096, X (ix2 b k) * W (ix2 k v)

/-- The logits. -/
def specZ (X : (T2 12 4096).Idx → EReal) (xs : (T1 12).Idx → EReal) (W : (T2 4096 32000).Idx → EReal) (ws : (T1 32000).Idx → EReal)
    (ids : (T2 12 2048).Idx → BitVec 32) (hl pl : (T1 12).Idx → BitVec 32) (pr fr rp : (T1 12).Idx → EReal) (b : Fin 12) (v : Fin 32000) : EReal :=
  pen (dotX X W b v * xs (ix1 b) * ws (ix1 v)) (cAll ids hl b v.val) (cGen ids hl pl b v.val)
    (rp (ix1 b)) (fr (ix1 b)) (pr (ix1 b))

theorem ofBool_eq_one (p : Bool) : (BitVec.ofBool p = 1) ↔ p = true := by cases p <;> decide

theorem sel_ogt {α : Type} (x : EReal) (a b : α) : Scalar.select (Ideal.cmp .ogt x 0) a b = if 0 < x then a else b := by
  unfold Scalar.select Ideal.cmp
  by_cases h : 0 < x
  · rw [if_pos h, if_pos]; simp [h]
  · rw [if_neg h, if_neg]; simp [h]

end Cert.Proof.Value
end
-- ==== Proof.Value.KernelSide.lean ====
/-
  The kernel's logits are the formula `specZ` of its arguments.
-/
module

public import proofs.«01_k».proof.Proof.KernelIdeal.Frame
public import proofs.«01_k».proof.Proof.Value.Spec
public import Idealize.ShloMosaic.Lib.StableHlo.ReadAt
public import Idealize.ShloMosaic.Lib.Pointwise
public import Idealize.ShloMosaic.Lib.MatmulPlain

@[expose] public section

noncomputable section

namespace Cert.Proof.Value

open Cert.KernelIdeal Cert.KernelIdeal.Gen Cert.Proof.KernelIdeal
open Idealize.ShloMosaic Idealize.ShloMosaic.TcCoe
open scoped BigOperators

set_option maxHeartbeats 4000000
set_option maxRecDepth 20000

section Product

variable (c : Dev nD) (XW : Buf (Elt Ideal) (wM.view.loc (c : Thread nD τ))) (X : S12x4096.Idx → Ideal .fp8e4m3)

theorem xp_at (b : Fin 32) (hb : b.val < 12) (k : Fin 4096) :
    (xpLd (F := Ideal) c (xpV (F := Ideal) X) : S32x4096.Idx → EReal) (ix2 b k) = X (ix2 ⟨b.val, hb⟩ k) := by
  refine (congrArg (k0_pay85 (F := Ideal) X) (show _ = (ix2 b k : S32x4096.Idx) from funext fun a => Fin.ext (match a with
    | ⟨0, _⟩ => (Nat.zero_add _).trans (Nat.one_mul _)
    | ⟨1, _⟩ => (Nat.zero_add _).trans (Nat.one_mul _)))).trans ?_
  unfold k0_pay85
  refine (shapeCast_apply _ _ _ (ix2 b k) rfl).trans ?_
  exact concatenate_pair_apply_left (0 : Fin S32x4096.rank) (s₁ := S12x4096) (s₂ := S20x4096) X (fun _ => Ideal.ofBits .f32 0x00000000#32) concatenates_S12x4096_S20x4096_S32x4096_d0 (ix2 b k) rfl (ix2 ⟨b.val, hb⟩ k)
    (fun a => match a with | ⟨0, _⟩ => rfl | ⟨1, _⟩ => rfl)

theorem slot_read (s : Fin 8) (off : Fin 3 → ℕ) (e : off = slotOff s) (inb) (f) :
    shapeCast S4096x1280 (View.readAt (Elt Ideal) wbM.view (Rect.unit (s := S8x4096x1280) off S1x4096x1280.size inb).toLoadRect f) shapeCasts_S1x4096x1280_S4096x1280
      = View.read (Elt Ideal) (wslot s).view f := by
  subst e; rfl

theorem blk_at (k : Fin k0_t2_loop.trips) (r : Fin 4096) (j : Fin 1280) (v : Fin 32000) (hv : v.val = k.val * 1280 + j.val) :
    (shapeCast S4096x1280 (blkLd c XW k) shapeCasts_S1x4096x1280_S4096x1280 : S4096x1280.Idx → EReal) (ix2 r j) = (XW : S4096x32000.Idx → EReal) (ix2 r v) := by
  have hk : k.val < 24 := lt_of_lt_of_eq k.isLt (by decide)
  have e2 := Ring.bk_val (NB := 24) hk
  rw [show shapeCast S4096x1280 (blkLd c XW k) shapeCasts_S1x4096x1280_S4096x1280 = _ from slot_read (Ring.sl 8 k.val) _ (off7_eq k) (k0_off7_inb k) _, View.read_writes_whole]
  refine congrArg (XW : S4096x32000.Idx → EReal) (funext fun a => Fin.ext ?_)
  match a with
  | ⟨0, _⟩ => exact (Nat.zero_add _).trans (Nat.one_mul _)
  | ⟨1, _⟩ => show (Ring.bk 24 k.val).val * 1280 + 1 * j.val = v.val; omega

theorem tail_at (p : Fin 5) (r : Fin 4096) (j : Fin 256) (v : Fin 32000) (hv : v.val = 30720 + (p.val * 256 + j.val)) :
    (shapeCast S4096x256 (tailLd c XW p) shapeCasts_S1x4096x256_S4096x256 : S4096x256.Idx → EReal) (ix2 r j) = (XW : S4096x32000.Idx → EReal) (ix2 r v) := by
  have e : (shapeCast S4096x256 (tailLd c XW p) shapeCasts_S1x4096x256_S4096x256) = View.read (Elt Ideal) (wcol p).view
    ((wcol p).view.writes (Elt Ideal) (wcol p).view.junk [⟨Rect.whole S4096x256, ReadAs.same.apply (View.read (Elt Ideal) (wtl p).view XW)⟩]) := rfl
  rw [e, View.read_writes_whole]
  refine congrArg (XW : S4096x32000.Idx → EReal) (funext fun a => Fin.ext ?_)
  match a with
  | ⟨0, _⟩ => exact (Nat.zero_add _).trans (Nat.one_mul _)
  | ⟨1, _⟩ => show 30720 + p.val * 256 + 1 * j.val = v.val; omega

theorem pay3_at (A : Vec Ideal S32x4096 .fp8e4m3) (W : Vec Ideal S1x4096x1280 .fp8e4m3) (b : Fin 12) (j : ℕ) (hj : j < 1280) :
    (k0_pay3 (F := Ideal) A W : S16x1280.Idx → EReal) (at1280 b j hj)
      = ∑ k : Fin 4096, (A : S32x4096.Idx → EReal) (ix2 ⟨b.val, lt_trans b.isLt (by decide)⟩ k) * (shapeCast S4096x1280 W shapeCasts_S1x4096x1280_S4096x1280 : S4096x1280.Idx → EReal) (ix2 k ⟨j, hj⟩) := by
  unfold k0_pay3
  refine (extractStridedSlice_apply _ _ _ _ (ix2 (⟨b.val, lt_trans b.isLt (by decide)⟩ : Fin 32) ⟨j, hj⟩) (fun a => match a with
    | ⟨0, _⟩ => (Nat.zero_add _).symm | ⟨1, _⟩ => (Nat.zero_add _).symm)).trans ?_
  refine (Ideal.matmul_plain_apply (M := 32) (K := 4096) (N := 1280) none A _ _ _ _).trans ?_
  refine (congrArg (· + _) (show _ = (0 : EReal) from Ideal.ofBits_zero_f32)).trans (zero_add _)

theorem pay96_at (A : Vec Ideal S32x4096 .fp8e4m3) (W : Vec Ideal S1x4096x256 .fp8e4m3) (b : Fin 12) (j : ℕ) (hj : j < 256) :
    (k0_pay96 (F := Ideal) A W : S16x256.Idx → EReal) (at256 b j hj)
      = ∑ k : Fin 4096, (A : S32x4096.Idx → EReal) (ix2 ⟨b.val, lt_trans b.isLt (by decide)⟩ k) * (shapeCast S4096x256 W shapeCasts_S1x4096x256_S4096x256 : S4096x256.Idx → EReal) (ix2 k ⟨j, hj⟩) := by
  unfold k0_pay96
  refine (extractStridedSlice_apply _ _ _ _ (ix2 (⟨b.val, lt_trans b.isLt (by decide)⟩ : Fin 32) ⟨j, hj⟩) (fun a => match a with
    | ⟨0, _⟩ => (Nat.zero_add _).symm | ⟨1, _⟩ => (Nat.zero_add _).symm)).trans ?_
  refine (Ideal.matmul_plain_apply (M := 32) (K := 4096) (N := 256) none A _ _ _ _).trans ?_
  refine (congrArg (· + _) (show _ = (0 : EReal) from Ideal.ofBits_zero_f32)).trans (zero_add _)

theorem acc_eq (b : Fin 12) (v : Fin 32000) :
    (accV (F := Ideal) c XW (xpV X) b.val v.val : EReal) = dotX X XW b v := by
  have ht : k0_t2_loop.trips = 24 := by decide
  have hv := v.isLt
  unfold dotX
  by_cases h : v.val < 30720
  · have hk : v.val / 1280 < k0_t2_loop.trips := by rw [ht]; omega
    have hj : v.val % 1280 < 1280 := Nat.mod_lt _ (by decide)
    have e : v.val = (⟨v.val / 1280, hk⟩ : Fin k0_t2_loop.trips).val * 1280 + v.val % 1280 := by show v.val = v.val / 1280 * 1280 + v.val % 1280; omega
    refine (congrArg (accV (F := Ideal) c XW (xpV X) b.val) e).trans ?_
    refine (accV_block c XW (xpV X) _ b _ hj).trans ((pay3_at _ _ b _ hj).trans (Finset.sum_congr rfl fun k _ => ?_))
    rw [xp_at c X _ b.isLt, blk_at c XW _ k ⟨_, hj⟩ v e]
  · have hp : (v.val - 30720) / 256 < 5 := by omega
    have hj : (v.val - 30720) % 256 < 256 := Nat.mod_lt _ (by decide)
    have e : v.val = 30720 + ((⟨(v.val - 30720) / 256, hp⟩ : Fin 5).val * 256 + (v.val - 30720) % 256) := by
      show v.val = 30720 + ((v.val - 30720) / 256 * 256 + (v.val - 30720) % 256); omega
    refine (congrArg (accV (F := Ideal) c XW (xpV X) b.val) e).trans ?_
    refine (accV_tail c XW (xpV X) _ b _ hj).trans ((pay96_at _ _ b _ hj).trans (Finset.sum_congr rfl fun k _ => ?_))
    rw [xp_at c X _ b.isLt, tail_at c XW _ k ⟨_, hj⟩ v e]

end Product

section Counts

theorem sel_bool {α : Type} (p : Bool) (x y : α) : Scalar.select (BitVec.ofBool p) x y = if p = true then x else y := by cases p <;> rfl

theorem nest (a b : Prop) [Decidable a] [Decidable b] (p q : Bool) (x : EReal) :
    (if b then (if p = true then (if a then (if q = true then (1 : EReal) else x) else 0) else 0) else 0)
      = if a ∧ b then (if p = true then (if q = true then (1 : EReal) else x) else 0) else 0 := by
  by_cases ha : a <;> by_cases hb : b <;> cases p <;> simp [ha, hb]

theorem pay94_at (ids : Vec Ideal S1x2048 .i32) (hl pl : BitVec 32) (q : Fin 256) (l : Fin 128) (i : S256x1x128.Idx) (h0 : (i 0).val = q.val) (h2 : (i 2).val = l.val) :
    (k0_pay94 (F := Ideal) ids hl pl : S256x1x128.Idx → EReal) i
      = ∑ t : Fin 2048, if BitVec.ofNat 32 q.val = IntOp.shrsi .vector ((ids : S1x2048.Idx → BitVec 32) (ix2 (0 : Fin 1) t)) 7#32 ∧ BitVec.ofNat 32 l.val = IntOp.andi ((ids : S1x2048.Idx → BitVec 32) (ix2 (0 : Fin 1) t)) 127#32
          then (if (BitVec.ofNat 32 t.val).slt hl = true then (if pl.sle (BitVec.ofNat 32 t.val) = true then (1 : EReal) else ((1 / 4096 : ℝ) : EReal)) else 0) else 0 := by
  unfold k0_pay94
  refine (shapeCast_apply _ _ i i rfl).trans ?_
  refine (shapeCast_apply _ _ i (ix2 q l) ?_).trans ?_
  · rw [Shape.rowMajor_val_three, Shape.rowMajor_val_two]
    have h1 : (i 1).val < 1 := (i 1).isLt
    show q.val * 128 + l.val = ((i 0).val * 1 + (i 1).val) * 128 + (i 2).val
    omega
  refine (Ideal.matmul_transposedRhs_apply (M := 256) (K := 2048) (N := 128) none _ _ _ _ _).trans ?_
  refine (congrArg (· + _) (show _ = (0 : EReal) from Ideal.ofBits_zero_f32)).trans ((zero_add _).trans (Finset.sum_congr rfl fun t _ => ?_))
  pointwise
  show Scalar.select (BitVec.ofBool (BitVec.ofNat 32 l.val == IntOp.andi ((ids : S1x2048.Idx → BitVec 32) (ix2 (0 : Fin 1) t)) 127#32))
    (Scalar.select (BitVec.ofBool ((BitVec.ofNat 32 t.val).slt hl))
      (Scalar.select (BitVec.ofBool (BitVec.ofNat 32 q.val == IntOp.shrsi .vector ((ids : S1x2048.Idx → BitVec 32) (ix2 (0 : Fin 1) t)) 7#32))
        (Scalar.select (BitVec.ofBool (pl.sle (BitVec.ofNat 32 t.val))) (1 : EReal) (Ideal.ofBits .f32 0x39800000#32)) 0) 0) 0 = _
  rw [ofBits_step, sel_bool, sel_bool, sel_bool, sel_bool]
  simp only [beq_iff_eq]
  exact nest _ _ _ _ _

variable (c : Dev nD) (Vids : Buf (Elt Ideal) (idM.view.loc (c : Thread nD τ))) (Vhl : Buf (Elt Ideal) (shM.view.loc (c : Thread nD τ)))
    (Vpl : Buf (Elt Ideal) (spM.view.loc (c : Thread nD τ)))

/-- Row `b`'s packed count of token `v`. -/
def packC (ids : (T2 12 2048).Idx → BitVec 32) (hl pl : (T1 12).Idx → BitVec 32) (b : Fin 12) (v : ℕ) : EReal :=
  ∑ t : Fin 2048, if hitP ids b v t then (if valP hl b t then (if genP pl b t then (1 : EReal) else ((1 / 4096 : ℝ) : EReal)) else 0) else 0

theorem off1_eq (k : Fin k0_t1_loop.trips) : k0_off1 k = ![k.val, 0] := by revert k; decide
theorem off2_eq (k : Fin k0_t1_loop.trips) : k0_off2 k = ![k.val] := by revert k; decide

theorem row_read (b : Fin 12) (off : Fin 2 → ℕ) (e : off = ![b.val, 0]) (inb) (t : Fin 2048) :
    (View.readAt (Elt Ideal) idM.view (Rect.unit (s := S12x2048) off S1x2048.size inb).toLoadRect Vids : S1x2048.Idx → BitVec 32) (ix2 (0 : Fin 1) t)
      = (Vids : S12x2048.Idx → BitVec 32) (ix2 b t) := by
  subst e
  refine congrArg (Vids : S12x2048.Idx → BitVec 32) (funext fun a => Fin.ext ?_)
  match a with
  | ⟨0, _⟩ => exact Nat.add_zero _
  | ⟨1, _⟩ => exact (Nat.zero_add _).trans (Nat.one_mul _)

theorem hl_read (b : Fin 12) (off : Fin 1 → ℕ) (e : off = ![b.val]) (inb) (i : S1.Idx) :
    (View.readAt (Elt Ideal) shM.view (Rect.unit (s := S12) off S1.size inb).toLoadRect Vhl : S1.Idx → BitVec 32) i = (Vhl : S12.Idx → BitVec 32) (ix1 b) := by
  subst e
  refine congrArg (Vhl : S12.Idx → BitVec 32) (funext fun a => Fin.ext ?_)
  match a with
  | ⟨0, _⟩ => have : (i 0).val < 1 := (i 0).isLt; show b.val + 1 * (i 0).val = b.val; omega

theorem pl_read (b : Fin 12) (off : Fin 1 → ℕ) (e : off = ![b.val]) (inb) (i : S1.Idx) :
    (View.readAt (Elt Ideal) spM.view (Rect.unit (s := S12) off S1.size inb).toLoadRect Vpl : S1.Idx → BitVec 32) i = (Vpl : S12.Idx → BitVec 32) (ix1 b) := by
  subst e
  refine congrArg (Vpl : S12.Idx → BitVec 32) (funext fun a => Fin.ext ?_)
  match a with
  | ⟨0, _⟩ => have : (i 0).val < 1 := (i 0).isLt; show b.val + 1 * (i 0).val = b.val; omega

theorem hist_at (b : Fin 12) (v : Fin 32000) : (histV (F := Ideal) c Vids Vhl Vpl (hiI (ix2 b v)) : EReal) = packC Vids Vhl Vpl b v.val := by
  have hv := v.isLt
  rw [histV_row c Vids Vhl Vpl ⟨b.val, lt_trips b.isLt⟩ _ rfl]
  unfold histP packC
  refine (pay94_at _ _ _ (⟨v.val / 128, by omega⟩ : Fin 256) (⟨v.val % 128, Nat.mod_lt _ (by decide)⟩ : Fin 128) _ rfl rfl).trans (Finset.sum_congr rfl fun t _ => ?_)
  rw [row_read c Vids b _ (off1_eq ⟨b.val, lt_trips b.isLt⟩), hl_read c Vhl b _ (off2_eq ⟨b.val, lt_trips b.isLt⟩), pl_read c Vpl b _ (off2_eq ⟨b.val, lt_trips b.isLt⟩)]
  exact if_congr (split_iff _ v.val v.isLt) rfl rfl

end Counts

theorem postE_pen (a xs rep frq prs w h A C : EReal) (hA : 0 < h ↔ 0 < A) (hC : Ideal.liftRound Int.floor h = C) :
    (postE (F := Ideal) a xs rep frq prs w h : EReal) = pen (a * xs * w) A C rep frq prs := by
  unfold postE pen
  show (Scalar.select (Ideal.cmp .ogt h (Ideal.ofBits .f32 0x00000000#32)) (Scalar.select (Ideal.cmp .ogt (a * xs * w) (Ideal.ofBits .f32 0x00000000#32))
      (Ideal.div (a * xs * w) rep) (a * xs * w * rep)) (a * xs * w)) - Ideal.liftRound Int.floor h * frq
    - Scalar.select (Ideal.cmp .ogt (Ideal.liftRound Int.floor h) (Ideal.ofBits .f32 0x00000000#32)) prs (Ideal.ofBits .f32 0x00000000#32) = _
  rw [Ideal.ofBits_zero_f32, sel_ogt, sel_ogt, sel_ogt, hC, if_congr hA rfl rfl]

theorem ix12_eq (b : Fin 12) (h) : ix12 b.val h = (ix1 b : S12.Idx) := funext fun a => match a with | ⟨0, _⟩ => rfl

theorem coef_at (Vxs Vrp Vfr Vpr : S12.Idx → EReal) (b : Fin 12) (v : Fin 32000) :
    (coefV (F := Ideal) Vxs Vrp Vfr Vpr (cfI 0 (ix2 b v)) : EReal) = Vxs (ix1 b) ∧ (coefV (F := Ideal) Vxs Vrp Vfr Vpr (cfI 1 (ix2 b v)) : EReal) = Vrp (ix1 b)
      ∧ (coefV (F := Ideal) Vxs Vrp Vfr Vpr (cfI 2 (ix2 b v)) : EReal) = Vfr (ix1 b) ∧ (coefV (F := Ideal) Vxs Vrp Vfr Vpr (cfI 3 (ix2 b v)) : EReal) = Vpr (ix1 b) := by
  have hb : b.val < 12 := b.isLt
  refine ⟨?_, ?_, ?_, ?_⟩ <;> exact (dif_pos hb).trans (congrArg _ (ix12_eq b hb))

variable (m : (ℓ : Loc nD τ sig) → Buf (Elt Ideal) ℓ) (c : Dev nD)

theorem wc_at (b : Fin 12) (v : Fin 32000) : (V m c main_v0 : S250x128.Idx → EReal) (wcI (ix2 b v)) = (m ((c : Thread nD τ).loc main_arg3) : S32000.Idx → EReal) (ix1 v) := by
  have hv := v.isLt
  unfold V
  after_reads_at
  refine congrArg (m ((c : Thread nD τ).loc main_arg3) : S32000.Idx → EReal) (congrArg ix1 (Fin.ext ?_))
  show v.val / 128 * 128 + v.val % 128 = v.val
  omega

theorem z_eq (b : Fin 12) (v : Fin 32000) : (zOf (F := Ideal) c (V m c) : S12x32000.Idx → EReal) (ix2 b v)
    = specZ (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) b v := by
  unfold zOf zAt
  rw [V_main_arg0, V_main_arg1, V_main_arg2, V_main_arg4, V_main_arg5, V_main_arg6, V_main_arg7, V_main_arg8, V_main_arg9]
  obtain ⟨e0, e1, e2, e3⟩ := coef_at (m ((c : Thread nD τ).loc main_arg1)) (m ((c : Thread nD τ).loc main_arg9)) (m ((c : Thread nD τ).loc main_arg8)) (m ((c : Thread nD τ).loc main_arg7)) b v
  refine (postE_pen _ _ _ _ _ _ _ (cAll (m ((c : Thread nD τ).loc main_arg4)) (m ((c : Thread nD τ).loc main_arg5)) b v.val)
    (cGen (m ((c : Thread nD τ).loc main_arg4)) (m ((c : Thread nD τ).loc main_arg5)) (m ((c : Thread nD τ).loc main_arg6)) b v.val) ?_ ?_).trans ?_
  · rw [hist_at]; exact packed_pos ..
  · rw [hist_at]; exact packed_floor _ _ _ (by decide)
  · unfold specZ
    rw [e0, e1, e2, e3, wc_at]
    exact congrArg (fun a => pen (a * _ * _) _ _ _ _ _) (acc_eq c _ _ b v)

end Cert.Proof.Value
end
-- ==== Proof.Value.RefSide.lean ====
/-
  The reference's logits are the formula `specZ` of its arguments.
-/
module

public import proofs.«01_k».proof.Proof.Gen.ReferenceIdeal.Value
public import proofs.«01_k».proof.Proof.Value.Spec
public import Idealize.ShloMosaic.Lib.StableHlo.ReadAt
public import Idealize.ShloMosaic.Lib.Pointwise
public import Idealize.ShloMosaic.Lib.Pipeline.ValueKit
@[expose] public section
noncomputable section
namespace Cert.Proof.Value
open Cert.ReferenceIdeal Cert.ReferenceIdeal.Gen
open Idealize.ShloMosaic Idealize.ShloMosaic.TcCoe
set_option maxHeartbeats 4000000
set_option maxRecDepth 20000
variable (m : (ℓ : Loc nD τ sig) → Buf (Elt Ideal) ℓ) (c : Dev nD) (b : Fin 12) (v : Fin 32000)

theorem sel_and (p q : Bool) (a b : EReal) : Scalar.select (IntOp.andi (BitVec.ofBool p) (BitVec.ofBool q)) a b = if p = true ∧ q = true then a else b := by
  cases p <;> cases q <;> rfl

theorem andi_ofBool (p q : Bool) : IntOp.andi (BitVec.ofBool p) (BitVec.ofBool q) = BitVec.ofBool (p && q) := by cases p <;> cases q <;> rfl

theorem r23 :
   (V m c main_v23 : S12x32000.Idx → EReal) (ix2 b v) = cAll (m ((c : Thread nD τ).loc main_arg4)) (m ((c : Thread nD τ).loc main_arg5)) b v.val := by
  unfold V cAll
  simp only [List.flatten_cons, List.flatten_nil, List.cons_append, List.nil_append, List.append_nil]
  after_reads_at
  refine Finset.sum_congr rfl fun t _ => ?_
  simp only [id]
  pointwise
  refine (sel_and _ _ 1 0).trans (if_congr ?_ rfl rfl)
  exact and_congr beq_iff_eq Iff.rfl
theorem r29 :
   (V m c main_v29 : S12x32000.Idx → EReal) (ix2 b v) = cGen (m ((c : Thread nD τ).loc main_arg4)) (m ((c : Thread nD τ).loc main_arg5)) (m ((c : Thread nD τ).loc main_arg6)) b v.val := by
  unfold V cGen
  simp only [List.flatten_cons, List.flatten_nil, List.cons_append, List.nil_append, List.append_nil]
  after_reads_at
  refine Finset.sum_congr rfl fun t _ => ?_
  simp only [id]
  pointwise
  refine (congrArg (fun q => Scalar.select (IntOp.andi _ q) (1 : EReal) 0) (andi_ofBool _ _)).trans ((sel_and _ _ 1 0).trans (if_congr ?_ rfl rfl))
  rw [Bool.and_eq_true]
  exact and_congr beq_iff_eq Iff.rfl
theorem r33 :
   (V m c main_v33 : S12x32000.Idx → EReal) (ix2 b v) = if 0 < cGen (m ((c : Thread nD τ).loc main_arg4)) (m ((c : Thread nD τ).loc main_arg5)) (m ((c : Thread nD τ).loc main_arg6)) b v.val then (1 : EReal) else 0 := by
  rw [← r29]
  unfold V
  simp only [List.flatten_cons, List.flatten_nil, List.cons_append, List.nil_append, List.append_nil]
  after_reads_simp
  simp only [StableHlo.TRef.toBuf, StableHlo.TRef.ofBuf, cast_cast, cast_eq, id]
  clean_types
  pointwise
theorem r34 : (V m c main_v34 : S12x1.Idx → EReal) (ix2 b 0) = (m ((c : Thread nD τ).loc main_arg1) : S12.Idx → EReal) (ix1 b) := by
  unfold V
  simp only [List.flatten_cons, List.flatten_nil, List.cons_append, List.nil_append, List.append_nil]
  after_reads_at
theorem r36 : (V m c main_v36 : S12x1.Idx → EReal) (ix2 b 0) = (m ((c : Thread nD τ).loc main_arg7) : S12.Idx → EReal) (ix1 b) := by
  unfold V
  simp only [List.flatten_cons, List.flatten_nil, List.cons_append, List.nil_append, List.append_nil]
  after_reads_at
theorem r37 : (V m c main_v37 : S12x1.Idx → EReal) (ix2 b 0) = (m ((c : Thread nD τ).loc main_arg8) : S12.Idx → EReal) (ix1 b) := by
  unfold V
  simp only [List.flatten_cons, List.flatten_nil, List.cons_append, List.nil_append, List.append_nil]
  after_reads_at
theorem r38 : (V m c main_v38 : S12x1.Idx → EReal) (ix2 b 0) = (m ((c : Thread nD τ).loc main_arg9) : S12.Idx → EReal) (ix1 b) := by
  unfold V
  simp only [List.flatten_cons, List.flatten_nil, List.cons_append, List.nil_append, List.append_nil]
  after_reads_at
theorem r35 : (V m c main_v35 : S1x32000.Idx → EReal) (ix2 0 v) = (m ((c : Thread nD τ).loc main_arg3) : S32000.Idx → EReal) (ix1 v) := by
  unfold V
  simp only [List.flatten_cons, List.flatten_nil, List.cons_append, List.nil_append, List.append_nil]
  after_reads_at
theorem E10_eq (P0 : Vec Ideal S12x4096 .fp8e4m3) (P1 : Vec Ideal S4096x32000 .fp8e4m3) (P2 : Vec Ideal S12x1 .f32) (P3 : Vec Ideal S1x32000 .f32) (P4 : Vec Ideal S12x1 .f32) (P5 : Vec Ideal S12x32000 .f32) (P6 : Vec Ideal S12x32000 .f32) (P7 : Vec Ideal S12x1 .f32) (P8 : Vec Ideal S12x32000 .f32) (P9 : Vec Ideal S12x1 .f32)
    (g : EReal) (hg : P6 (ix2 b v) = g) (h8 : P8 (ix2 b v) = if 0 < g then (1 : EReal) else 0) :
   Cert.ReferenceIdeal.Value.E10 (F := Ideal) P0 P1 P2 P3 P4 P5 P6 P7 P8 P9 (ix2 b v)
     = pen (dotX P0 P1 b v * P2 (ix2 b 0) * P3 (ix2 0 v)) (P5 (ix2 b v)) g (P4 (ix2 b 0)) (P7 (ix2 b 0)) (P9 (ix2 b 0)) := by
  have e0 : Value.ix10_0 (ix2 b v) = ix2 b v := funext fun a => match a with | ⟨0, _⟩ => rfl | ⟨1, _⟩ => rfl
  have e1 : Value.ix10_1 (ix2 b v) = ix2 b v := funext fun a => match a with | ⟨0, _⟩ => rfl | ⟨1, _⟩ => rfl
  have e2 : Value.ix10_2 (ix2 b v) = ix2 b 0 := funext fun a => match a with | ⟨0, _⟩ => rfl | ⟨1, _⟩ => rfl
  unfold Value.E10 k0_pay2
  rw [e0, e1, e2]
  pointwise
  have e : (P8 (ix2 b v) : EReal) * (P9 (ix2 b 0) : EReal) = if 0 < g then P9 (ix2 b 0) else 0 := by
    rw [h8]; by_cases h : 0 < g
    · rw [if_pos h, if_pos h]; exact one_mul _
    · rw [if_neg h, if_neg h]; exact zero_mul _
  rw [e, hg]
  rfl

theorem refIdx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)
theorem ib0 : View.ld (iblk m c 0 t0_0) r0_0 = V m c main_arg0 := by
  unfold iblk
  show View.ld (((cfg0.win 0).blk t0_0).view.read (Elt Idealize.ShloMosaic.Ideal) (V m c main_arg0)) r0_0 = V m c main_arg0
  generalize V m c main_arg0 = f
  blk_ext! [View.ld, refIdx t0_0]
  all_goals exact (Nat.zero_add _).trans (Nat.one_mul _)
theorem ib1 : View.ld (iblk m c 1 t0_0) r0_1 = V m c main_arg2 := by
  unfold iblk
  show View.ld (((cfg0.win 1).blk t0_0).view.read (Elt Idealize.ShloMosaic.Ideal) (V m c main_arg2)) r0_1 = V m c main_arg2
  generalize V m c main_arg2 = f
  blk_ext! [View.ld, refIdx t0_0]
  all_goals exact (Nat.zero_add _).trans (Nat.one_mul _)
theorem ib2 : View.ld (iblk m c 2 t0_0) r0_2 = V m c main_v34 := by
  unfold iblk
  show View.ld (((cfg0.win 2).blk t0_0).view.read (Elt Idealize.ShloMosaic.Ideal) (V m c main_v34)) r0_2 = V m c main_v34
  generalize V m c main_v34 = f
  blk_ext! [View.ld, refIdx t0_0]
  all_goals exact (Nat.zero_add _).trans (Nat.one_mul _)
theorem ib3 : View.ld (iblk m c 3 t0_0) r0_3 = V m c main_v35 := by
  unfold iblk
  show View.ld (((cfg0.win 3).blk t0_0).view.read (Elt Idealize.ShloMosaic.Ideal) (V m c main_v35)) r0_3 = V m c main_v35
  generalize V m c main_v35 = f
  blk_ext! [View.ld, refIdx t0_0]
  all_goals exact (Nat.zero_add _).trans (Nat.one_mul _)
theorem ib4 : View.ld (iblk m c 4 t0_0) r0_4 = V m c main_v23 := by
  unfold iblk
  show View.ld (((cfg0.win 4).blk t0_0).view.read (Elt Idealize.ShloMosaic.Ideal) (V m c main_v23)) r0_4 = V m c main_v23
  generalize V m c main_v23 = f
  blk_ext! [View.ld, refIdx t0_0]
  all_goals exact (Nat.zero_add _).trans (Nat.one_mul _)
theorem ib5 : View.ld (iblk m c 5 t0_0) r0_4 = V m c main_v29 := by
  unfold iblk
  show View.ld (((cfg0.win 5).blk t0_0).view.read (Elt Idealize.ShloMosaic.Ideal) (V m c main_v29)) r0_4 = V m c main_v29
  generalize V m c main_v29 = f
  blk_ext! [View.ld, refIdx t0_0]
  all_goals exact (Nat.zero_add _).trans (Nat.one_mul _)
theorem ib6 : View.ld (iblk m c 6 t0_0) r0_4 = V m c main_v33 := by
  unfold iblk
  show View.ld (((cfg0.win 6).blk t0_0).view.read (Elt Idealize.ShloMosaic.Ideal) (V m c main_v33)) r0_4 = V m c main_v33
  generalize V m c main_v33 = f
  blk_ext! [View.ld, refIdx t0_0]
  all_goals exact (Nat.zero_add _).trans (Nat.one_mul _)
theorem ib7 : View.ld (iblk m c 7 t0_0) r0_2 = V m c main_v36 := by
  unfold iblk
  show View.ld (((cfg0.win 7).blk t0_0).view.read (Elt Idealize.ShloMosaic.Ideal) (V m c main_v36)) r0_2 = V m c main_v36
  generalize V m c main_v36 = f
  blk_ext! [View.ld, refIdx t0_0]
  all_goals exact (Nat.zero_add _).trans (Nat.one_mul _)
theorem ib8 : View.ld (iblk m c 8 t0_0) r0_2 = V m c main_v37 := by
  unfold iblk
  show View.ld (((cfg0.win 8).blk t0_0).view.read (Elt Idealize.ShloMosaic.Ideal) (V m c main_v37)) r0_2 = V m c main_v37
  generalize V m c main_v37 = f
  blk_ext! [View.ld, refIdx t0_0]
  all_goals exact (Nat.zero_add _).trans (Nat.one_mul _)
theorem ib9 : View.ld (iblk m c 9 t0_0) r0_2 = V m c main_v38 := by
  unfold iblk
  show View.ld (((cfg0.win 9).blk t0_0).view.read (Elt Idealize.ShloMosaic.Ideal) (V m c main_v38)) r0_2 = V m c main_v38
  generalize V m c main_v38 = f
  blk_ext! [View.ld, refIdx t0_0]
  all_goals exact (Nat.zero_add _).trans (Nat.one_mul _)
theorem refArr (y : S12x32000.Idx) : ((dats m 0 c).arrAt 10 cfg0.N : S12x32000.Idx → EReal) y
    = Cert.ReferenceIdeal.Value.E10 (F := Ideal) (V m c main_arg0) (V m c main_arg2) (V m c main_v34) (V m c main_v35) (V m c main_v38) (V m c main_v23) (V m c main_v29) (V m c main_v37) (V m c main_v33) (V m c main_v36) y := by
  refine congrFun ((dats m 0 c).arrAt_eq_of_after_last 10 t0_0 (by decide +kernel) _ fun j => ?_) y
  blk_simp
  rw [after0_10]
  unfold out0_10
  rw [ib0, ib1, ib2, ib3, ib4, ib5, ib6, ib7, ib8, ib9]
  exact Cert.ReferenceIdeal.Value.canon10_eq _ _ _ _ _ _ _ _ _ _ j

theorem ref_eq : ((dats m 0 c).arrAt 10 cfg0.N : S12x32000.Idx → EReal) (ix2 b v)
    = specZ (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) b v := by
  rw [refArr, E10_eq b v _ _ _ _ _ _ _ _ _ _ _ (r29 m c b v) (r33 m c b v), r34, r35, r23, r36, r37, r38, V_main_arg0, V_main_arg2]
  rfl

end Cert.Proof.Value
end
-- ==== Proof.Value.Claim.lean ====
/-
  The kernel and the reference leave the same logits.
-/
module

public import proofs.«01_k».proof.Proof.Value.KernelSide
public import proofs.«01_k».proof.Proof.Value.RefSide

@[expose] public section

noncomputable section

namespace Cert.Proof.Value

open Idealize.ShloMosaic Idealize.ShloMosaic.TcCoe Idealize.SL.Sem

theorem algebraic : Cert.algebraic_KernelIdeal_ReferenceIdeal := by
  intro m g m' g' _ hm
  refine ⟨fun c => Cert.Proof.KernelIdeal.zOf (F := Ideal) c (Cert.KernelIdeal.Gen.V m c), Cert.Proof.KernelIdeal.value m g, ?_⟩
  refine (θ_run _ _ _).mono (fun r h c => ⟨(h c).1.trans ?_, (h c).2⟩) (Cert.ReferenceIdeal.Value.run_blocks m' g')
  obtain ⟨h0, h1, h2, h3, h4, h5, h6, h7, h8, h9, h10⟩ := hm c
  funext y
  have ey : y = ix2 (⟨(y 0).val, (y 0).isLt⟩ : Fin 12) (⟨(y 1).val, (y 1).isLt⟩ : Fin 32000) :=
    funext fun a => match a with | ⟨0, _⟩ => rfl | ⟨1, _⟩ => rfl
  rw [ey]
  refine (ref_eq m' c _ _).trans (Eq.trans ?_ (z_eq m c _ _).symm)
  rw [h0, h1, h2, h3, h4, h5, h6, h7, h8, h9]

end Cert.Proof.Value
end
-- ==== Proof.lean ====
/-
  The certificate: the kernel read at bits, the kernel read at the reals and the reference each run, keep their arguments
  and leave every semaphore at zero; the second is the first's own text, and it leaves the reference's logits.
-/
module

public import proofs.«01_k».proof.Defs
public import proofs.«01_k».proof.Proof.Kernel.Frame
public import proofs.«01_k».proof.Proof.KernelIdeal.Frame
public import proofs.«01_k».proof.Proof.Value.Claim

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Proof.Kernel.frame m g, fun m g _ => Cert.Proof.KernelIdeal.frame m g, fun m g _ => Cert.ReferenceIdeal.Gen.frame m g,
  trivial, Cert.Proof.Value.algebraic⟩

end Cert.Proof

end
